-- ==== Defs.lean ====
def Pre_SharedUp (m : (ℓ : Loc Cert.SharedUp.nD Cert.SharedUp.τ Cert.SharedUp.sig) → Buf (Elt Bits) ℓ) : Prop :=
  True

def Pre_SharedUpIdeal (m : (ℓ : Loc Cert.SharedUpIdeal.nD Cert.SharedUpIdeal.τ Cert.SharedUpIdeal.sig) → Buf (Elt Ideal) ℓ) : Prop :=
  True

def Pre_SharedUpReferenceIdeal (m : (ℓ : Loc Cert.SharedUpReferenceIdeal.nD Cert.SharedUpReferenceIdeal.τ Cert.SharedUpReferenceIdeal.sig) → Buf (Elt Ideal) ℓ) : Prop :=
  True

def Pre_Experts [hPre_slots_in_range : Cert.Pre_slots_in_range.Facts] (m : (ℓ : Loc Cert.Experts.nD Cert.Experts.τ Cert.Experts.sig) → Buf (Elt Bits) ℓ) : Prop :=
  ∀ c : Dev Cert.Experts.nD,
    (Cert.Pre_slots_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_slots_in_range : Cert.Pre_slots_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_slots_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_slots_in_range [hPre_slots_in_range : Cert.Pre_slots_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_slots_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))) = (fun _ => 1#1)

def quiescent_SharedUp [hSharedUp : Cert.SharedUp.Facts] : Prop :=
  ∀ (m : (ℓ : Loc Cert.SharedUp.nD Cert.SharedUp.τ Cert.SharedUp.sig) → Buf (Elt Bits) ℓ) (g : Dev Cert.SharedUp.nD → PrngReg), Pre_SharedUp m →
    θ_run (Cert.SharedUp.defs (F := Bits)) (onTc (τ := Cert.SharedUp.τ) (Cert.SharedUp.main (F := Bits))) ⟨m, fun _ => 0, g⟩ (fun r => (∀ c : Dev Cert.SharedUp.nD,
      r.2.mem ((c.tc : Thread Cert.SharedUp.nD Cert.SharedUp.τ).loc Cert.SharedUp.main_arg0) = m ((c.tc : Thread Cert.SharedUp.nD Cert.SharedUp.τ).loc Cert.SharedUp.main_arg0)
      ∧ r.2.mem ((c.tc : Thread Cert.SharedUp.nD Cert.SharedUp.τ).loc Cert.SharedUp.main_arg1) = m ((c.tc : Thread Cert.SharedUp.nD Cert.SharedUp.τ).loc Cert.SharedUp.main_arg1)
      ∧ r.2.mem ((c.tc : Thread Cert.SharedUp.nD Cert.SharedUp.τ).loc Cert.SharedUp.main_arg2) = m ((c.tc : Thread Cert.SharedUp.nD Cert.SharedUp.τ).loc Cert.SharedUp.main_arg2)
      ∧ r.2.mem ((c.tc : Thread Cert.SharedUp.nD Cert.SharedUp.τ).loc Cert.SharedUp.main_arg3) = m ((c.tc : Thread Cert.SharedUp.nD Cert.SharedUp.τ).loc Cert.SharedUp.main_arg3)
      ∧ r.2.mem ((c.tc : Thread Cert.SharedUp.nD Cert.SharedUp.τ).loc Cert.SharedUp.main_arg4) = m ((c.tc : Thread Cert.SharedUp.nD Cert.SharedUp.τ).loc Cert.SharedUp.main_arg4)
      ∧ r.2.mem ((c.tc : Thread Cert.SharedUp.nD Cert.SharedUp.τ).loc Cert.SharedUp.main_arg5) = m ((c.tc : Thread Cert.SharedUp.nD Cert.SharedUp.τ).loc Cert.SharedUp.main_arg5))
      ∧ r.2.sem = fun _ => 0)

def quiescent_SharedUpIdeal [hSharedUpIdeal : Cert.SharedUpIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
      ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2)
      ∧ r.2.mem ((c.tc : Thread Cert.SharedUpIdeal.nD Cert.SharedUpIdeal.τ).loc Cert.SharedUpIdeal.main_arg3) = m ((c.tc : Thread Cert.SharedUpIdeal.nD Cert.SharedUpIdeal.τ).loc Cert.SharedUpIdeal.main_arg3)
      ∧ r.2.mem ((c.tc : Thread Cert.SharedUpIdeal.nD Cert.SharedUpIdeal.τ).loc Cert.SharedUpIdeal.main_arg4) = m ((c.tc : Thread Cert.SharedUpIdeal.nD Cert.SharedUpIdeal.τ).loc Cert.SharedUpIdeal.main_arg4)
      ∧ r.2.mem ((c.tc : Thread Cert.SharedUpIdeal.nD Cert.SharedUpIdeal.τ).loc Cert.SharedUpIdeal.main_arg5) = m ((c.tc : Thread Cert.SharedUpIdeal.nD Cert.SharedUpIdeal.τ).loc Cert.SharedUpIdeal.main_arg5))
      ∧ r.2.sem = fun _ => 0)

def quiescent_SharedUpReferenceIdeal [hSharedUpReferenceIdeal : Cert.SharedUpReferenceIdeal.Facts] : Prop :=
  ∀ (m : (ℓ : Loc Cert.SharedUpReferenceIdeal.nD Cert.SharedUpReferenceIdeal.τ Cert.SharedUpReferenceIdeal.sig) → Buf (Elt Ideal) ℓ) (g : Dev Cert.SharedUpReferenceIdeal.nD → PrngReg), Pre_SharedUpReferenceIdeal m →
    θ_run (Cert.SharedUpReferenceIdeal.defs (F := Ideal)) (onTc (τ := Cert.SharedUpReferenceIdeal.τ) (Cert.SharedUpReferenceIdeal.main (F := Ideal))) ⟨m, fun _ => 0, g⟩ (fun r => (∀ c : Dev Cert.SharedUpReferenceIdeal.nD,
      r.2.mem ((c.tc : Thread Cert.SharedUpReferenceIdeal.nD Cert.SharedUpReferenceIdeal.τ).loc Cert.SharedUpReferenceIdeal.main_arg0) = m ((c.tc : Thread Cert.SharedUpReferenceIdeal.nD Cert.SharedUpReferenceIdeal.τ).loc Cert.SharedUpReferenceIdeal.main_arg0)
      ∧ r.2.mem ((c.tc : Thread Cert.SharedUpReferenceIdeal.nD Cert.SharedUpReferenceIdeal.τ).loc Cert.SharedUpReferenceIdeal.main_arg1) = m ((c.tc : Thread Cert.SharedUpReferenceIdeal.nD Cert.SharedUpReferenceIdeal.τ).loc Cert.SharedUpReferenceIdeal.main_arg1)
      ∧ r.2.mem ((c.tc : Thread Cert.SharedUpReferenceIdeal.nD Cert.SharedUpReferenceIdeal.τ).loc Cert.SharedUpReferenceIdeal.main_arg2) = m ((c.tc : Thread Cert.SharedUpReferenceIdeal.nD Cert.SharedUpReferenceIdeal.τ).loc Cert.SharedUpReferenceIdeal.main_arg2)
      ∧ r.2.mem ((c.tc : Thread Cert.SharedUpReferenceIdeal.nD Cert.SharedUpReferenceIdeal.τ).loc Cert.SharedUpReferenceIdeal.main_arg3) = m ((c.tc : Thread Cert.SharedUpReferenceIdeal.nD Cert.SharedUpReferenceIdeal.τ).loc Cert.SharedUpReferenceIdeal.main_arg3)
      ∧ r.2.mem ((c.tc : Thread Cert.SharedUpReferenceIdeal.nD Cert.SharedUpReferenceIdeal.τ).loc Cert.SharedUpReferenceIdeal.main_arg4) = m ((c.tc : Thread Cert.SharedUpReferenceIdeal.nD Cert.SharedUpReferenceIdeal.τ).loc Cert.SharedUpReferenceIdeal.main_arg4)
      ∧ r.2.mem ((c.tc : Thread Cert.SharedUpReferenceIdeal.nD Cert.SharedUpReferenceIdeal.τ).loc Cert.SharedUpReferenceIdeal.main_arg5) = m ((c.tc : Thread Cert.SharedUpReferenceIdeal.nD Cert.SharedUpReferenceIdeal.τ).loc Cert.SharedUpReferenceIdeal.main_arg5))
      ∧ r.2.sem = fun _ => 0)

def quiescent_Experts [hExperts : Cert.Experts.Facts] [hPre_slots_in_range : Cert.Pre_slots_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_slots_in_range : Cert.Pre_slots_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_ExpertsReferenceIdeal_pre_slots_in_range [hExpertsReferenceIdeal : Cert.ExpertsReferenceIdeal.Facts] [hPre_slots_in_range : Cert.Pre_slots_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_slots_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def preserves_SharedUp_SharedUpIdeal : Prop :=
  True

def algebraic_SharedUpIdeal_SharedUpReferenceIdeal [hSharedUpIdeal : Cert.SharedUpIdeal.Facts] [hSharedUpReferenceIdeal : Cert.SharedUpReferenceIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg)
    (m' : (ℓ : Loc Cert.SharedUpReferenceIdeal.nD Cert.SharedUpReferenceIdeal.τ Cert.SharedUpReferenceIdeal.sig) → Buf (Elt Ideal) ℓ) (g' : Dev Cert.SharedUpReferenceIdeal.nD → PrngReg), Pre_SharedUpIdeal m →
    (∀ c : Dev Cert.SharedUpIdeal.nD,
      m' ((c.tc : Thread Cert.SharedUpReferenceIdeal.nD Cert.SharedUpReferenceIdeal.τ).loc Cert.SharedUpReferenceIdeal.main_arg0) = m ((c.tc : Thread Cert.SharedUpIdeal.nD Cert.SharedUpIdeal.τ).loc Cert.SharedUpIdeal.main_arg0)
      ∧ m' ((c.tc : Thread Cert.SharedUpReferenceIdeal.nD Cert.SharedUpReferenceIdeal.τ).loc Cert.SharedUpReferenceIdeal.main_arg1) = m ((c.tc : Thread Cert.SharedUpIdeal.nD Cert.SharedUpIdeal.τ).loc Cert.SharedUpIdeal.main_arg1)
      ∧ m' ((c.tc : Thread Cert.SharedUpReferenceIdeal.nD Cert.SharedUpReferenceIdeal.τ).loc Cert.SharedUpReferenceIdeal.main_arg2) = m ((c.tc : Thread Cert.SharedUpIdeal.nD Cert.SharedUpIdeal.τ).loc Cert.SharedUpIdeal.main_arg2)
      ∧ m' ((c.tc : Thread Cert.SharedUpReferenceIdeal.nD Cert.SharedUpReferenceIdeal.τ).loc Cert.SharedUpReferenceIdeal.main_arg3) = m ((c.tc : Thread Cert.SharedUpIdeal.nD Cert.SharedUpIdeal.τ).loc Cert.SharedUpIdeal.main_arg3)
      ∧ m' ((c.tc : Thread Cert.SharedUpReferenceIdeal.nD Cert.SharedUpReferenceIdeal.τ).loc Cert.SharedUpReferenceIdeal.main_arg4) = m ((c.tc : Thread Cert.SharedUpIdeal.nD Cert.SharedUpIdeal.τ).loc Cert.SharedUpIdeal.main_arg4)
      ∧ m' ((c.tc : Thread Cert.SharedUpReferenceIdeal.nD Cert.SharedUpReferenceIdeal.τ).loc Cert.SharedUpReferenceIdeal.main_arg5) = m ((c.tc : Thread Cert.SharedUpIdeal.nD Cert.SharedUpIdeal.τ).loc Cert.SharedUpIdeal.main_arg5)) →
    ∃ (v0 : (c : Dev Cert.SharedUpIdeal.nD) → Buf (Elt Ideal) ((c.tc : Thread Cert.SharedUpIdeal.nD Cert.SharedUpIdeal.τ).loc Cert.SharedUpIdeal.main_v0_0)) (v1 : (c : Dev Cert.SharedUpIdeal.nD) → Buf (Elt Ideal) ((c.tc : Thread Cert.SharedUpIdeal.nD Cert.SharedUpIdeal.τ).loc Cert.SharedUpIdeal.main_v0_1)),
      θ_run (Cert.SharedUpIdeal.defs (F := Ideal)) (onTc (τ := Cert.SharedUpIdeal.τ) (Cert.SharedUpIdeal.main (F := Ideal))) ⟨m, fun _ => 0, g⟩ (fun r => ∀ c : Dev Cert.SharedUpIdeal.nD,
          r.2.mem ((c.tc : Thread Cert.SharedUpIdeal.nD Cert.SharedUpIdeal.τ).loc Cert.SharedUpIdeal.main_v0_0) = v0 c
          ∧ r.2.mem ((c.tc : Thread Cert.SharedUpIdeal.nD Cert.SharedUpIdeal.τ).loc Cert.SharedUpIdeal.main_v0_1) = v1 c
          ∧ r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
          ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
          ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2)
          ∧ r.2.mem ((c.tc : Thread Cert.SharedUpIdeal.nD Cert.SharedUpIdeal.τ).loc Cert.SharedUpIdeal.main_arg3) = m ((c.tc : Thread Cert.SharedUpIdeal.nD Cert.SharedUpIdeal.τ).loc Cert.SharedUpIdeal.main_arg3)
          ∧ r.2.mem ((c.tc : Thread Cert.SharedUpIdeal.nD Cert.SharedUpIdeal.τ).loc Cert.SharedUpIdeal.main_arg4) = m ((c.tc : Thread Cert.SharedUpIdeal.nD Cert.SharedUpIdeal.τ).loc Cert.SharedUpIdeal.main_arg4)
          ∧ r.2.mem ((c.tc : Thread Cert.SharedUpIdeal.nD Cert.SharedUpIdeal.τ).loc Cert.SharedUpIdeal.main_arg5) = m ((c.tc : Thread Cert.SharedUpIdeal.nD Cert.SharedUpIdeal.τ).loc Cert.SharedUpIdeal.main_arg5))
      ∧ θ_run (Cert.SharedUpReferenceIdeal.defs (F := Ideal)) (onTc (τ := Cert.SharedUpReferenceIdeal.τ) (Cert.SharedUpReferenceIdeal.main (F := Ideal))) ⟨m', fun _ => 0, g'⟩ (fun r => ∀ c : Dev Cert.SharedUpReferenceIdeal.nD,
          r.2.mem ((c.tc : Thread Cert.SharedUpReferenceIdeal.nD Cert.SharedUpReferenceIdeal.τ).loc Cert.SharedUpReferenceIdeal.main_v0_0) = v0 c
          ∧ r.2.mem ((c.tc : Thread Cert.SharedUpReferenceIdeal.nD Cert.SharedUpReferenceIdeal.τ).loc Cert.SharedUpReferenceIdeal.main_v0_1) = v1 c
          ∧ r.2.mem ((c.tc : Thread Cert.SharedUpReferenceIdeal.nD Cert.SharedUpReferenceIdeal.τ).loc Cert.SharedUpReferenceIdeal.main_arg0) = m' ((c.tc : Thread Cert.SharedUpReferenceIdeal.nD Cert.SharedUpReferenceIdeal.τ).loc Cert.SharedUpReferenceIdeal.main_arg0)
          ∧ r.2.mem ((c.tc : Thread Cert.SharedUpReferenceIdeal.nD Cert.SharedUpReferenceIdeal.τ).loc Cert.SharedUpReferenceIdeal.main_arg1) = m' ((c.tc : Thread Cert.SharedUpReferenceIdeal.nD Cert.SharedUpReferenceIdeal.τ).loc Cert.SharedUpReferenceIdeal.main_arg1)
          ∧ r.2.mem ((c.tc : Thread Cert.SharedUpReferenceIdeal.nD Cert.SharedUpReferenceIdeal.τ).loc Cert.SharedUpReferenceIdeal.main_arg2) = m' ((c.tc : Thread Cert.SharedUpReferenceIdeal.nD Cert.SharedUpReferenceIdeal.τ).loc Cert.SharedUpReferenceIdeal.main_arg2)
          ∧ r.2.mem ((c.tc : Thread Cert.SharedUpReferenceIdeal.nD Cert.SharedUpReferenceIdeal.τ).loc Cert.SharedUpReferenceIdeal.main_arg3) = m' ((c.tc : Thread Cert.SharedUpReferenceIdeal.nD Cert.SharedUpReferenceIdeal.τ).loc Cert.SharedUpReferenceIdeal.main_arg3)
          ∧ r.2.mem ((c.tc : Thread Cert.SharedUpReferenceIdeal.nD Cert.SharedUpReferenceIdeal.τ).loc Cert.SharedUpReferenceIdeal.main_arg4) = m' ((c.tc : Thread Cert.SharedUpReferenceIdeal.nD Cert.SharedUpReferenceIdeal.τ).loc Cert.SharedUpReferenceIdeal.main_arg4)
          ∧ r.2.mem ((c.tc : Thread Cert.SharedUpReferenceIdeal.nD Cert.SharedUpReferenceIdeal.τ).loc Cert.SharedUpReferenceIdeal.main_arg5) = m' ((c.tc : Thread Cert.SharedUpReferenceIdeal.nD Cert.SharedUpReferenceIdeal.τ).loc Cert.SharedUpReferenceIdeal.main_arg5))

def preserves_Experts_ExpertsIdeal : Prop :=
  True

def algebraic_ExpertsIdeal_ExpertsReferenceIdeal_on_tiles_in_use [hExpertsIdeal : Cert.ExpertsIdeal.Facts] [hExpertsReferenceIdeal : Cert.ExpertsReferenceIdeal.Facts] [hPre_slots_in_range : Cert.Pre_slots_in_range.Facts] [hOn_tiles_in_use : Cert.On_tiles_in_use.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨3, ![294912, 16, 128]⟩ : Shape).Idx, (Cert.On_tiles_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨3, ![294912, 16, 128]⟩ : Shape).Idx, (Cert.On_tiles_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsReferenceIdeal.nD Cert.ExpertsReferenceIdeal.τ).loc Cert.ExpertsReferenceIdeal.main_v11) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def Claim : Prop :=
  ∃ (hSharedUp : Cert.SharedUp.Facts) (hSharedUpIdeal : Cert.SharedUpIdeal.Facts) (hSharedUpReferenceIdeal : Cert.SharedUpReferenceIdeal.Facts) (hExperts : Cert.Experts.Facts) (hExpertsIdeal : Cert.ExpertsIdeal.Facts) (hExpertsReferenceIdeal : Cert.ExpertsReferenceIdeal.Facts) (hPre_slots_in_range : Cert.Pre_slots_in_range.Facts) (hOn_tiles_in_use : Cert.On_tiles_in_use.Facts),
    quiescent_SharedUp (hSharedUp := hSharedUp)
    ∧ quiescent_SharedUpIdeal (hSharedUpIdeal := hSharedUpIdeal)
    ∧ quiescent_SharedUpReferenceIdeal (hSharedUpReferenceIdeal := hSharedUpReferenceIdeal)
    ∧ quiescent_Experts (hExperts := hExperts) (hPre_slots_in_range := hPre_slots_in_range)
    ∧ quiescent_ExpertsIdeal (hExpertsIdeal := hExpertsIdeal) (hPre_slots_in_range := hPre_slots_in_range)
    ∧ quiescent_ExpertsReferenceIdeal (hExpertsReferenceIdeal := hExpertsReferenceIdeal)
    ∧ quiescent_ExpertsReferenceIdeal_pre_slots_in_range (hExpertsReferenceIdeal := hExpertsReferenceIdeal) (hPre_slots_in_range := hPre_slots_in_range)
    ∧ preserves_SharedUp_SharedUpIdeal
    ∧ algebraic_SharedUpIdeal_SharedUpReferenceIdeal (hSharedUpIdeal := hSharedUpIdeal) (hSharedUpReferenceIdeal := hSharedUpReferenceIdeal)
    ∧ preserves_Experts_ExpertsIdeal
    ∧ algebraic_ExpertsIdeal_ExpertsReferenceIdeal_on_tiles_in_use (hExpertsIdeal := hExpertsIdeal) (hExpertsReferenceIdeal := hExpertsReferenceIdeal) (hPre_slots_in_range := hPre_slots_in_range) (hOn_tiles_in_use := hOn_tiles_in_use)
-- ==== On_tiles_in_use.lean ====
abbrev S2x576 : Shape := ⟨2, ![2, 576]⟩
abbrev S294912x8x128 : Shape := ⟨3, ![294912, 8, 128]⟩
abbrev S64x2048x768 : Shape := ⟨3, ![64, 2048, 768]⟩
abbrev S64x16x6 : Shape := ⟨3, ![64, 16, 6]⟩
abbrev S64x768x2048 : Shape := ⟨3, ![64, 768, 2048]⟩
abbrev S64x6x16 : Shape := ⟨3, ![64, 6, 16]⟩
abbrev S294912x16x128 : Shape := ⟨3, ![294912, 16, 128]⟩
abbrev S1x1 : Shape := ⟨2, ![1, 1]⟩
abbrev S_ : Shape := ⟨0, ![]⟩

class Facts : Prop where
  slices_S2x576_S1x1_1_0 : S2x576.Slices ![1, 0] S1x1
  shapeCasts_S1x1_S_ : S1x1.ShapeCasts S_
  bcast_S_S294912x16x128 : S_.BroadcastsInDim S294912x16x128 (![] : Fin 0 → Fin S294912x16x128.rank)

variable [Facts]

def fn {F : FTy → Type} [FloatOps F] (main_arg0 : IVec S2x576 32) (main_arg1 : IVec S294912x8x128 32) (main_arg2 : FVec F S64x2048x768 .fp8e4m3) (main_arg3 : FVec F S64x16x6 .f32) (main_arg4 : FVec F S64x2048x768 .fp8e4m3) (main_arg5 : FVec F S64x16x6 .f32) (main_arg6 : FVec F S64x768x2048 .fp8e4m3) (main_arg7 : FVec F S64x6x16 .f32) : IVec S294912x16x128 1 :=
  let main_v0 : IVec S294912x16x128 32 := iotaInDim S294912x16x128 32 0
  let main_v1 : IVec S1x1 32 := (extractStridedSlice S1x1 ![1, 0] · slices_S2x576_S1x1_1_0) main_arg0
  let main_v2 : IVec S_ 32 := shapeCast S_ main_v1 shapeCasts_S1x1_S_
  let main_c : IVec S_ 32 := constantI S_ 32 512#32
  let main_v3 : IVec S_ 32 := muli main_c main_v2
  let main_v4 : IVec S294912x16x128 32 := broadcastInDim S294912x16x128 ![] bcast_S_S294912x16x128 main_v3
  let main_v5 : IVec S294912x16x128 1 := cmpi .slt main_v0 main_v4
  main_v5
-- ==== Pre_slots_in_range.lean ====
abbrev S2x576 : Shape := ⟨2, ![2, 576]⟩
abbrev S294912x8x128 : Shape := ⟨3, ![294912, 8, 128]⟩
abbrev S64x2048x768 : Shape := ⟨3, ![64, 2048, 768]⟩
abbrev S64x16x6 : Shape := ⟨3, ![64, 16, 6]⟩
abbrev S64x768x2048 : Shape := ⟨3, ![64, 768, 2048]⟩
abbrev S64x6x16 : Shape := ⟨3, ![64, 6, 16]⟩
abbrev S1x576 : Shape := ⟨2, ![1, 576]⟩
abbrev S576 : Shape := ⟨1, ![576]⟩
abbrev S_ : Shape := ⟨0, ![]⟩
abbrev S1x1 : Shape := ⟨2, ![1, 1]⟩

class Facts : Prop where
  slices_S2x576_S1x576_0_0 : S2x576.Slices ![0, 0] S1x576
  shapeCasts_S1x576_S576 : S1x576.ShapeCasts S576
  bcast_S_S576 : S_.BroadcastsInDim S576 (![] : Fin 0 → Fin S576.rank)
  reducesTo_S576_S_d0 : S576.ReducesTo [0] S_
  h_S_ : 0 < S_.numel
  slices_S2x576_S1x1_1_0 : S2x576.Slices ![1, 0] S1x1
  shapeCasts_S1x1_S_ : S1x1.ShapeCasts S_

variable [Facts]

def fn {F : FTy → Type} [FloatOps F] (main_arg0 : IVec S2x576 32) (main_arg1 : IVec S294912x8x128 32) (main_arg2 : FVec F S64x2048x768 .fp8e4m3) (main_arg3 : FVec F S64x16x6 .f32) (main_arg4 : FVec F S64x2048x768 .fp8e4m3) (main_arg5 : FVec F S64x16x6 .f32) (main_arg6 : FVec F S64x768x2048 .fp8e4m3) (main_arg7 : FVec F S64x6x16 .f32) : IVec S_ 1 :=
  let main_v0 : IVec S1x576 32 := (extractStridedSlice S1x576 ![0, 0] · slices_S2x576_S1x576_0_0) main_arg0
  let main_v1 : IVec S576 32 := shapeCast S576 main_v0 shapeCasts_S1x576_S576
  let main_c : IVec S_ 32 := constantI S_ 32 0#32
  let main_v2 : IVec S576 32 := broadcastInDim S576 ![] bcast_S_S576 main_c
  let main_v3 : IVec S576 1 := cmpi .sge main_v1 main_v2
  let main_v4 : IVec S1x576 32 := (extractStridedSlice S1x576 ![0, 0] · slices_S2x576_S1x576_0_0) main_arg0
  let main_v5 : IVec S576 32 := shapeCast S576 main_v4 shapeCasts_S1x576_S576
  let main_c_0 : IVec S_ 32 := constantI S_ 32 64#32
  let main_v6 : IVec S576 32 := broadcastInDim S576 ![] bcast_S_S576 main_c_0
  let main_v7 : IVec S576 1 := cmpi .slt main_v5 main_v6
  let main_v8 : IVec S576 1 := andi main_v3 main_v7
  let main_c_1 : IVec S_ 1 := constantI S_ 1 1#1
  let main_v9 : IVec S_ 1 := (fun x v => Host.reduce IntOp.andi x v reducesTo_S576_S_d0 h_S_) main_v8 main_c_1
  let main_v10 : IVec S1x1 32 := (extractStridedSlice S1x1 ![1, 0] · slices_S2x576_S1x1_1_0) main_arg0
  let main_v11 : IVec S_ 32 := shapeCast S_ main_v10 shapeCasts_S1x1_S_
  let main_c_2 : IVec S_ 32 := constantI S_ 32 1#32
  let main_v12 : IVec S_ 1 := cmpi .sge main_v11 main_c_2
  let main_v13 : IVec S_ 1 := andi main_v9 main_v12
  let main_v14 : IVec S1x1 32 := (extractStridedSlice S1x1 ![1, 0] · slices_S2x576_S1x1_1_0) main_arg0
  let main_v15 : IVec S_ 32 := shapeCast S_ main_v14 shapeCasts_S1x1_S_
  let main_c_3 : IVec S_ 32 := constantI S_ 32 576#32
  let main_v16 : IVec S_ 1 := cmpi .sle main_v15 main_c_3
  let main_v17 : IVec S_ 1 := andi main_v13 main_v16
  main_v17
-- ==== SharedUp.lean ====
abbrev S32768x2048 : Shape := ⟨2, ![32768, 2048]⟩
abbrev S32768x16 : Shape := ⟨2, ![32768, 16]⟩
abbrev S2048x768 : Shape := ⟨2, ![2048, 768]⟩
abbrev S16x6 : Shape := ⟨2, ![16, 6]⟩
abbrev S32768x768 : Shape := ⟨2, ![32768, 768]⟩
abbrev S32768x6 : Shape := ⟨2, ![32768, 6]⟩
abbrev S512x2048 : Shape := ⟨2, ![512, 2048]⟩
abbrev S512x16 : Shape := ⟨2, ![512, 16]⟩
abbrev S512x768 : Shape := ⟨2, ![512, 768]⟩
abbrev S512x6 : Shape := ⟨2, ![512, 6]⟩
abbrev S2048x1536 : Shape := ⟨2, ![2048, 1536]⟩
abbrev S1x1 : Shape := ⟨2, ![1, 1]⟩
abbrev S128x128 : Shape := ⟨2, ![128, 128]⟩
abbrev S512x128 : Shape := ⟨2, ![512, 128]⟩
abbrev S512x1 : Shape := ⟨2, ![512, 1]⟩
abbrev S512x1536 : Shape := ⟨2, ![512, 1536]⟩
abbrev S512 : Shape := ⟨1, ![512]⟩

abbrev nBuf : Space → Nat
  | .hbm => 8
  | .vmem => 12
  | .smem => 2
  | _ => 0

abbrev bufTy : (tb : Table) → Fin (tcTables nBuf tb) → BufTy
  | .hbm, ⟨0, _⟩ => ⟨S32768x2048, .fp8e4m3⟩
  | .hbm, ⟨1, _⟩ => ⟨S32768x16, .f32⟩
  | .hbm, ⟨2, _⟩ => ⟨S2048x768, .fp8e4m3⟩
  | .hbm, ⟨3, _⟩ => ⟨S16x6, .f32⟩
  | .hbm, ⟨4, _⟩ => ⟨S2048x768, .fp8e4m3⟩
  | .hbm, ⟨5, _⟩ => ⟨S16x6, .f32⟩
  | .hbm, ⟨6, _⟩ => ⟨S32768x768, .fp8e4m3⟩
  | .hbm, ⟨7, _⟩ => ⟨S32768x6, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S512x16, .f32⟩
  | .local _ .vmem, ⟨3, _⟩ => ⟨S512x16, .f32⟩
  | .local _ .vmem, ⟨4, _⟩ => ⟨S2048x768, .fp8e4m3⟩
  | .local _ .vmem, ⟨5, _⟩ => ⟨S2048x768, .fp8e4m3⟩
  | .local _ .vmem, ⟨6, _⟩ => ⟨S512x768, .fp8e4m3⟩
  | .local _ .vmem, ⟨7, _⟩ => ⟨S512x768, .fp8e4m3⟩
  | .local _ .vmem, ⟨8, _⟩ => ⟨S512x6, .f32⟩
  | .local _ .vmem, ⟨9, _⟩ => ⟨S512x6, .f32⟩
  | .local _ .vmem, ⟨10, _⟩ => ⟨S2048x1536, .bf16⟩
  | .local _ .vmem, ⟨11, _⟩ => ⟨S512x2048, .bf16⟩
  | .local _ .smem, ⟨0, _⟩ => ⟨S16x6, .f32⟩
  | .local _ .smem, ⟨1, _⟩ => ⟨S16x6, .f32⟩
  | _, _ => ⟨S32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_250 : BitVec 32 := 0#32
  let c16_i32 : BitVec 32 := 16#32
  let v737 : BitVec 32 := Scalar.addi c0_i32_250 c16_i32
  let c1_i32_251 : BitVec 32 := 1#32
  ⟨c0_i32_250, v737, c1_i32_251⟩
def k0_mult1 (k0_t1 : Fin k0_t1_loop.trips) : BitVec 32 :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  v740
def k0_off1 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let v742 : Index := Scalar.indexCast v739
  let c0_255 : Index := 0#32
  ![v742.toNat, 0]
def k0_off2 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v746 : Index := Scalar.indexCast v741
  let c0_256 : Index := 0#32
  ![v746.toNat, 0]
def k0_off3 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v750 : Index := Scalar.indexCast v741
  let c0_257 : Index := 0#32
  ![v750.toNat, 0]
def k0_off4 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let v754 : Index := Scalar.indexCast v739
  let c1_258 : Index := 1#32
  ![v754.toNat, 1]
def k0_off5 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v758 : Index := Scalar.indexCast v741
  let c128_259 : Index := 128#32
  ![v758.toNat, 128]
def k0_off6 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v762 : Index := Scalar.indexCast v741
  let c128_260 : Index := 128#32
  ![v762.toNat, 128]
def k0_off7 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let v766 : Index := Scalar.indexCast v739
  let c2_261 : Index := 2#32
  ![v766.toNat, 2]
def k0_off8 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v770 : Index := Scalar.indexCast v741
  let c256_262 : Index := 256#32
  ![v770.toNat, 256]
def k0_off9 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v774 : Index := Scalar.indexCast v741
  let c256_263 : Index := 256#32
  ![v774.toNat, 256]
def k0_off10 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let v778 : Index := Scalar.indexCast v739
  let c3_264 : Index := 3#32
  ![v778.toNat, 3]
def k0_off11 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v782 : Index := Scalar.indexCast v741
  let c384_265 : Index := 384#32
  ![v782.toNat, 384]
def k0_off12 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v786 : Index := Scalar.indexCast v741
  let c384_266 : Index := 384#32
  ![v786.toNat, 384]
def k0_off13 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let v790 : Index := Scalar.indexCast v739
  let c4_267 : Index := 4#32
  ![v790.toNat, 4]
def k0_off14 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v794 : Index := Scalar.indexCast v741
  let c512_268 : Index := 512#32
  ![v794.toNat, 512]
def k0_off15 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v798 : Index := Scalar.indexCast v741
  let c512_269 : Index := 512#32
  ![v798.toNat, 512]
def k0_off16 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let v802 : Index := Scalar.indexCast v739
  let c5_270 : Index := 5#32
  ![v802.toNat, 5]
def k0_off17 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v806 : Index := Scalar.indexCast v741
  let c640_271 : Index := 640#32
  ![v806.toNat, 640]
def k0_off18 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v810 : Index := Scalar.indexCast v741
  let c640_272 : Index := 640#32
  ![v810.toNat, 640]
def k0_off19 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v822 : Index := Scalar.indexCast v741
  let c768_275 : Index := 768#32
  ![v822.toNat, 768]
def k0_off20 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v834 : Index := Scalar.indexCast v741
  let c896_278 : Index := 896#32
  ![v834.toNat, 896]
def k0_off21 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v846 : Index := Scalar.indexCast v741
  let c1024_281 : Index := 1024#32
  ![v846.toNat, 1024]
def k0_off22 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v858 : Index := Scalar.indexCast v741
  let c1152_284 : Index := 1152#32
  ![v858.toNat, 1152]
def k0_off23 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v870 : Index := Scalar.indexCast v741
  let c1280_287 : Index := 1280#32
  ![v870.toNat, 1280]
def k0_off24 (k0_t1 : Fin k0_t1_loop.trips) : Fin 2 → Nat :=
  let c0_i32_254 : BitVec 32 := 0#32
  let c0_i32_250 : BitVec 32 := 0#32
  let c1_i32_251 : BitVec 32 := 1#32
  let arg11 : BitVec 32 := Scf.iv c0_i32_250 c1_i32_251 k0_t1
  let c1_i32_253 : BitVec 32 := 1#32
  let v738 : BitVec 32 := Scalar.muli arg11 c1_i32_253
  let v739 : BitVec 32 := Scalar.addi c0_i32_254 v738
  let c128_i32 : BitVec 32 := 128#32
  let v740 : BitVec 32 := Scalar.muli v739 c128_i32
  let v741 : BitVec 32 := v740
  let v882 : Index := Scalar.indexCast v741
  let c1408_290 : Index := 1408#32
  ![v882.toNat, 1408]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S16x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x6 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SharedUpReferenceIdeal.lean ====
abbrev S32768x2048 : Shape := ⟨2, ![32768, 2048]⟩
abbrev S32768x16 : Shape := ⟨2, ![32768, 16]⟩
abbrev S2048x768 : Shape := ⟨2, ![2048, 768]⟩
abbrev S16x6 : Shape := ⟨2, ![16, 6]⟩
abbrev S32768x768 : Shape := ⟨2, ![32768, 768]⟩
abbrev S32768x6 : Shape := ⟨2, ![32768, 6]⟩
abbrev S32768x16x128 : Shape := ⟨3, ![32768, 16, 128]⟩
abbrev S32768x16x1 : Shape := ⟨3, ![32768, 16, 1]⟩
abbrev S16x128x6x128 : Shape := ⟨4, ![16, 128, 6, 128]⟩
abbrev S16x1x6x1 : Shape := ⟨4, ![16, 1, 6, 1]⟩
abbrev S32768x6x128 : Shape := ⟨3, ![32768, 6, 128]⟩
abbrev S32768x6x247 : Shape := ⟨3, ![32768, 6, 247]⟩
abbrev S32768x6x1 : Shape := ⟨3, ![32768, 6, 1]⟩

abbrev nBuf : Space → Nat
  | .hbm => 8
  | .vmem => 8
  | .smem => 0
  | _ => 0

abbrev bufTy : (tb : Table) → Fin (tcTables nBuf tb) → BufTy
  | .hbm, ⟨0, _⟩ => ⟨S32768x2048, .fp8e4m3⟩
  | .hbm, ⟨1, _⟩ => ⟨S32768x16, .f32⟩
  | .hbm, ⟨2, _⟩ => ⟨S2048x768, .fp8e4m3⟩
  | .hbm, ⟨3, _⟩ => ⟨S16x6, .f32⟩
  | .hbm, ⟨4, _⟩ => ⟨S2048x768, .fp8e4m3⟩
  | .hbm, ⟨5, _⟩ => ⟨S16x6, .f32⟩
  | .hbm, ⟨6, _⟩ => ⟨S32768x768, .fp8e4m3⟩
  | .hbm, ⟨7, _⟩ => ⟨S32768x6, .f32⟩
  | .local _ .vmem, ⟨0, _⟩ => ⟨S32768x2048, .fp8e4m3⟩
  | .local _ .vmem, ⟨1, _⟩ => ⟨S32768x16, .f32⟩
  | .local _ .vmem, ⟨2, _⟩ => ⟨S2048x768, .fp8e4m3⟩
  | .local _ .vmem, ⟨3, _⟩ => ⟨S16x6, .f32⟩
  | .local _ .vmem, ⟨4, _⟩ => ⟨S2048x768, .fp8e4m3⟩
  | .local _ .vmem, ⟨5, _⟩ => ⟨S16x6, .f32⟩
  | .local _ .vmem, ⟨6, _⟩ => ⟨S32768x768, .fp8e4m3⟩
  | .local _ .vmem, ⟨7, _⟩ => ⟨S32768x6, .f32⟩
  | _, _ => ⟨S32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Experts.lean ====
abbrev S2x576 : Shape := ⟨2, ![2, 576]⟩
abbrev S294912x8x128 : Shape := ⟨3, ![294912, 8, 128]⟩
abbrev S64x2048x768 : Shape := ⟨3, ![64, 2048, 768]⟩
abbrev S64x16x6 : Shape := ⟨3, ![64, 16, 6]⟩
abbrev S64x768x2048 : Shape := ⟨3, ![64, 768, 2048]⟩
abbrev S64x6x16 : Shape := ⟨3, ![64, 6, 16]⟩
abbrev S294912x16x128 : Shape := ⟨3, ![294912, 16, 128]⟩
abbrev S512x8x128 : Shape := ⟨3, ![512, 8, 128]⟩
abbrev S1x1 : Shape := ⟨2, ![1, 1]⟩
abbrev S1x2048x768 : Shape := ⟨3, ![1, 2048, 768]⟩
abbrev S1x768x2048 : Shape := ⟨3, ![1, 768, 2048]⟩
abbrev S1x16x6 : Shape := ⟨3, ![1, 16, 6]⟩
abbrev S1x6x16 : Shape := ⟨3, ![1, 6, 16]⟩
abbrev S512x16x128 : Shape := ⟨3, ![512, 16, 128]⟩
abbrev S2048x1536 : Shape := ⟨2, ![2048, 1536]⟩
abbrev S768x2048 : Shape := ⟨2, ![768, 2048]⟩
abbrev S512x2048 : Shape := ⟨2, ![512, 2048]⟩
abbrev S512x768 : Shape := ⟨2, ![512, 768]⟩
abbrev S1x1x1 : Shape := ⟨3, ![1, 1, 1]⟩
abbrev S128x128 : Shape := ⟨2, ![128, 128]⟩
abbrev S1x128x128 : Shape := ⟨3, ![1, 128, 128]⟩
abbrev S512x1x128 : Shape := ⟨3, ![512, 1, 128]⟩
abbrev S512x128 : Shape := ⟨2, ![512, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S256x128 : Shape := ⟨2, ![256, 128]⟩
abbrev S512x1536 : Shape := ⟨2, ![512, 1536]⟩
abbrev S512 : Shape := ⟨1, ![512]⟩
abbrev S512x1 : Shape := ⟨2, ![512, 1]⟩

abbrev nBuf : Space → Nat
  | .hbm => 8
  | .vmem => 14
  | .smem => 7
  | _ => 0

abbrev bufTy : (tb : Table) → Fin (tcTables nBuf tb) → BufTy
  | .hbm, ⟨0, _⟩ => ⟨S294912x8x128, .i32⟩
  | .hbm, ⟨1, _⟩ => ⟨S64x2048x768, .fp8e4m3⟩
  | .hbm, ⟨2, _⟩ => ⟨S64x16x6, .f32⟩
  | .hbm, ⟨3, _⟩ => ⟨S64x2048x768, .fp8e4m3⟩
  | .hbm, ⟨4, _⟩ => ⟨S64x16x6, .f32⟩
  | .hbm, ⟨5, _⟩ => ⟨S64x768x2048, .fp8e4m3⟩
  | .hbm, ⟨6, _⟩ => ⟨S64x6x16, .f32⟩
  | .hbm, ⟨7, _⟩ => ⟨S294912x16x128, .f32⟩
  | .local _ .vmem, ⟨0, _⟩ => ⟨S512x8x128, .i32⟩
  | .local _ .vmem, ⟨1, _⟩ => ⟨S512x8x128, .i32⟩
  | .local _ .vmem, ⟨2, _⟩ => ⟨S1x2048x768, .fp8e4m3⟩
  | .local _ .vmem, ⟨3, _⟩ => ⟨S1x2048x768, .fp8e4m3⟩
  | .local _ .vmem, ⟨4, _⟩ => ⟨S1x2048x768, .fp8e4m3⟩
  | .local _ .vmem, ⟨5, _⟩ => ⟨S1x2048x768, .fp8e4m3⟩
  | .local _ .vmem, ⟨6, _⟩ => ⟨S1x768x2048, .fp8e4m3⟩
  | .local _ .vmem, ⟨7, _⟩ => ⟨S1x768x2048, .fp8e4m3⟩
  | .local _ .vmem, ⟨8, _⟩ => ⟨S512x16x128, .f32⟩
  | .local _ .vmem, ⟨9, _⟩ => ⟨S512x16x128, .f32⟩
  | .local _ .vmem, ⟨10, _⟩ => ⟨S2048x1536, .bf16⟩
  | .local _ .vmem, ⟨11, _⟩ => ⟨S768x2048, .bf16⟩
  | .local _ .vmem, ⟨12, _⟩ => ⟨S512x2048, .bf16⟩
  | .local _ .vmem, ⟨13, _⟩ => ⟨S512x768, .bf16⟩
  | .local _ .smem, ⟨0, _⟩ => ⟨S2x576, .i32⟩
  | .local _ .smem, ⟨1, _⟩ => ⟨S1x16x6, .f32⟩
  | .local _ .smem, ⟨2, _⟩ => ⟨S1x16x6, .f32⟩
  | .local _ .smem, ⟨3, _⟩ => ⟨S1x16x6, .f32⟩
  | .local _ .smem, ⟨4, _⟩ => ⟨S1x16x6, .f32⟩
  | .local _ .smem, ⟨5, _⟩ => ⟨S1x6x16, .f32⟩
  | .local _ .smem, ⟨6, _⟩ => ⟨S1x6x16, .f32⟩
  | _, _ => ⟨S294912x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg4_0 : Ref sig .tc := ⟨.smem, 1, rfl⟩
abbrev cc0_stg4_1 : Ref sig .tc := ⟨.smem, 2, rfl⟩
abbrev cc0_stg5_0 : Ref sig .tc := ⟨.smem, 3, rfl⟩
abbrev cc0_stg5_1 : Ref sig .tc := ⟨.smem, 4, rfl⟩
abbrev cc0_stg6_0 : Ref sig .tc := ⟨.smem, 5, rfl⟩
abbrev cc0_stg6_1 : Ref sig .tc := ⟨.smem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![576], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c0_2 : Index := 0#32
  let arg0 : BitVec 32 := BitVec.ofNat 32 (i 0).val
  let c1_i32 : BitVec 32 := 1#32
  let v4 : BitVec 32 := Scalar.subi arg0 c1_i32
  let c0_i32_1 : BitVec 32 := 0#32
  let v5 : BitVec 32 := Scalar.maxsi v4 c0_i32_1
  let v6 : Index := Scalar.indexCast v5
  ![0, v6.toNat]
@[reducible] def k0_t1_loop : Scf.Loop 32 :=
  let c0_i32_5 : BitVec 32 := 0#32
  let c16_i32 : BitVec 32 := 16#32
  let v15 : BitVec 32 := Scalar.addi c0_i32_5 c16_i32
  let c1_i32_6 : BitVec 32 := 1#32
  ⟨c0_i32_5, v15, c1_i32_6⟩
def k0_mult1 (k0_t1 : Fin k0_t1_loop.trips) : BitVec 32 :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  v19
def k0_off3 (k0_t1 : Fin k0_t1_loop.trips) : Fin 3 → Nat :=
  let c0_13 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let v21 : Index := Scalar.indexCast v18
  let c0_14 : Index := 0#32
  ![0, v21.toNat, 0]
def k0_off4 (k0_t1 : Fin k0_t1_loop.trips) : Fin 3 → Nat :=
  let c0_15 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v25 : Index := Scalar.indexCast v20
  let c0_16 : Index := 0#32
  ![0, v25.toNat, 0]
def k0_off5 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v30 : Index := Scalar.indexCast v20
  let c0_17 : Index := 0#32
  ![v30.toNat, 0]
def k0_off6 (k0_t1 : Fin k0_t1_loop.trips) : Fin 3 → Nat :=
  let c0_18 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let v34 : Index := Scalar.indexCast v18
  let c1_19 : Index := 1#32
  ![0, v34.toNat, 1]
def k0_off7 (k0_t1 : Fin k0_t1_loop.trips) : Fin 3 → Nat :=
  let c0_20 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v38 : Index := Scalar.indexCast v20
  let c128 : Index := 128#32
  ![0, v38.toNat, 128]
def k0_off8 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v43 : Index := Scalar.indexCast v20
  let c128_21 : Index := 128#32
  ![v43.toNat, 128]
def k0_off9 (k0_t1 : Fin k0_t1_loop.trips) : Fin 3 → Nat :=
  let c0_22 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let v47 : Index := Scalar.indexCast v18
  let c2 : Index := 2#32
  ![0, v47.toNat, 2]
def k0_off10 (k0_t1 : Fin k0_t1_loop.trips) : Fin 3 → Nat :=
  let c0_23 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v51 : Index := Scalar.indexCast v20
  let c256 : Index := 256#32
  ![0, v51.toNat, 256]
def k0_off11 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v56 : Index := Scalar.indexCast v20
  let c256_24 : Index := 256#32
  ![v56.toNat, 256]
def k0_off12 (k0_t1 : Fin k0_t1_loop.trips) : Fin 3 → Nat :=
  let c0_25 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let v60 : Index := Scalar.indexCast v18
  let c3 : Index := 3#32
  ![0, v60.toNat, 3]
def k0_off13 (k0_t1 : Fin k0_t1_loop.trips) : Fin 3 → Nat :=
  let c0_26 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v64 : Index := Scalar.indexCast v20
  let c384 : Index := 384#32
  ![0, v64.toNat, 384]
def k0_off14 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v69 : Index := Scalar.indexCast v20
  let c384_27 : Index := 384#32
  ![v69.toNat, 384]
def k0_off15 (k0_t1 : Fin k0_t1_loop.trips) : Fin 3 → Nat :=
  let c0_28 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let v73 : Index := Scalar.indexCast v18
  let c4 : Index := 4#32
  ![0, v73.toNat, 4]
def k0_off16 (k0_t1 : Fin k0_t1_loop.trips) : Fin 3 → Nat :=
  let c0_29 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v77 : Index := Scalar.indexCast v20
  let c512 : Index := 512#32
  ![0, v77.toNat, 512]
def k0_off17 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v82 : Index := Scalar.indexCast v20
  let c512_30 : Index := 512#32
  ![v82.toNat, 512]
def k0_off18 (k0_t1 : Fin k0_t1_loop.trips) : Fin 3 → Nat :=
  let c0_31 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let v86 : Index := Scalar.indexCast v18
  let c5 : Index := 5#32
  ![0, v86.toNat, 5]
def k0_off19 (k0_t1 : Fin k0_t1_loop.trips) : Fin 3 → Nat :=
  let c0_32 : Index := 0#32
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v90 : Index := Scalar.indexCast v20
  let c640 : Index := 640#32
  ![0, v90.toNat, 640]
def k0_off20 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v95 : Index := Scalar.indexCast v20
  let c640_33 : Index := 640#32
  ![v95.toNat, 640]
def k0_off21 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v108 : Index := Scalar.indexCast v20
  let c768 : Index := 768#32
  ![v108.toNat, 768]
def k0_off22 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v121 : Index := Scalar.indexCast v20
  let c896 : Index := 896#32
  ![v121.toNat, 896]
def k0_off23 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v134 : Index := Scalar.indexCast v20
  let c1024 : Index := 1024#32
  ![v134.toNat, 1024]
def k0_off24 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v147 : Index := Scalar.indexCast v20
  let c1152 : Index := 1152#32
  ![v147.toNat, 1152]
def k0_off25 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v160 : Index := Scalar.indexCast v20
  let c1280 : Index := 1280#32
  ![v160.toNat, 1280]
def k0_off26 (k0_t1 : Fin k0_t1_loop.trips) : Fin 2 → Nat :=
  let c0_i32_12 : BitVec 32 := 0#32
  let c0_i32_5 : BitVec 32 := 0#32
  let c1_i32_6 : BitVec 32 := 1#32
  let arg14 : BitVec 32 := Scf.iv c0_i32_5 c1_i32_6 k0_t1
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v173 : Index := Scalar.indexCast v20
  let c1408 : Index := 1408#32
  ![v173.toNat, 1408]
@[reducible] def k0_t2_loop : Scf.Loop 32 :=
  let c0_i32_8 : BitVec 32 := 0#32
  let c6_i32 : BitVec 32 := 6#32
  let v16 : BitVec 32 := Scalar.addi c0_i32_8 c6_i32
  let c1_i32_9 : BitVec 32 := 1#32
  ⟨c0_i32_8, v16, c1_i32_9⟩
def k0_mult2 (k0_t2 : Fin k0_t2_loop.trips) : BitVec 32 :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  v19
def k0_off27 (k0_t2 : Fin k0_t2_loop.trips) : Fin 3 → Nat :=
  let c0_13 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v21 : Index := Scalar.indexCast v18
  let c0_14 : Index := 0#32
  ![0, v21.toNat, 0]
def k0_off28 (k0_t2 : Fin k0_t2_loop.trips) : Fin 3 → Nat :=
  let c0_15 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v25 : Index := Scalar.indexCast v20
  let c0_16 : Index := 0#32
  ![0, v25.toNat, 0]
def k0_off29 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v30 : Index := Scalar.indexCast v20
  let c0_17 : Index := 0#32
  ![v30.toNat, 0]
def k0_off30 (k0_t2 : Fin k0_t2_loop.trips) : Fin 3 → Nat :=
  let c0_18 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v34 : Index := Scalar.indexCast v18
  let c1_19 : Index := 1#32
  ![0, v34.toNat, 1]
def k0_off31 (k0_t2 : Fin k0_t2_loop.trips) : Fin 3 → Nat :=
  let c0_20 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v38 : Index := Scalar.indexCast v20
  let c128 : Index := 128#32
  ![0, v38.toNat, 128]
def k0_off32 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v43 : Index := Scalar.indexCast v20
  let c128_21 : Index := 128#32
  ![v43.toNat, 128]
def k0_off33 (k0_t2 : Fin k0_t2_loop.trips) : Fin 3 → Nat :=
  let c0_22 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v47 : Index := Scalar.indexCast v18
  let c2 : Index := 2#32
  ![0, v47.toNat, 2]
def k0_off34 (k0_t2 : Fin k0_t2_loop.trips) : Fin 3 → Nat :=
  let c0_23 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v51 : Index := Scalar.indexCast v20
  let c256 : Index := 256#32
  ![0, v51.toNat, 256]
def k0_off35 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v56 : Index := Scalar.indexCast v20
  let c256_24 : Index := 256#32
  ![v56.toNat, 256]
def k0_off36 (k0_t2 : Fin k0_t2_loop.trips) : Fin 3 → Nat :=
  let c0_25 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v60 : Index := Scalar.indexCast v18
  let c3 : Index := 3#32
  ![0, v60.toNat, 3]
def k0_off37 (k0_t2 : Fin k0_t2_loop.trips) : Fin 3 → Nat :=
  let c0_26 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v64 : Index := Scalar.indexCast v20
  let c384 : Index := 384#32
  ![0, v64.toNat, 384]
def k0_off38 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v69 : Index := Scalar.indexCast v20
  let c384_27 : Index := 384#32
  ![v69.toNat, 384]
def k0_off39 (k0_t2 : Fin k0_t2_loop.trips) : Fin 3 → Nat :=
  let c0_28 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v73 : Index := Scalar.indexCast v18
  let c4 : Index := 4#32
  ![0, v73.toNat, 4]
def k0_off40 (k0_t2 : Fin k0_t2_loop.trips) : Fin 3 → Nat :=
  let c0_29 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v77 : Index := Scalar.indexCast v20
  let c512 : Index := 512#32
  ![0, v77.toNat, 512]
def k0_off41 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v82 : Index := Scalar.indexCast v20
  let c512_30 : Index := 512#32
  ![v82.toNat, 512]
def k0_off42 (k0_t2 : Fin k0_t2_loop.trips) : Fin 3 → Nat :=
  let c0_31 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v86 : Index := Scalar.indexCast v18
  let c5 : Index := 5#32
  ![0, v86.toNat, 5]
def k0_off43 (k0_t2 : Fin k0_t2_loop.trips) : Fin 3 → Nat :=
  let c0_32 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v90 : Index := Scalar.indexCast v20
  let c640 : Index := 640#32
  ![0, v90.toNat, 640]
def k0_off44 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v95 : Index := Scalar.indexCast v20
  let c640_33 : Index := 640#32
  ![v95.toNat, 640]
def k0_off45 (k0_t2 : Fin k0_t2_loop.trips) : Fin 3 → Nat :=
  let c0_34 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v99 : Index := Scalar.indexCast v18
  let c6 : Index := 6#32
  ![0, v99.toNat, 6]
def k0_off46 (k0_t2 : Fin k0_t2_loop.trips) : Fin 3 → Nat :=
  let c0_35 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v103 : Index := Scalar.indexCast v20
  let c768 : Index := 768#32
  ![0, v103.toNat, 768]
def k0_off47 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v108 : Index := Scalar.indexCast v20
  let c768_36 : Index := 768#32
  ![v108.toNat, 768]
def k0_off48 (k0_t2 : Fin k0_t2_loop.trips) : Fin 3 → Nat :=
  let c0_37 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v112 : Index := Scalar.indexCast v18
  let c7 : Index := 7#32
  ![0, v112.toNat, 7]
def k0_off49 (k0_t2 : Fin k0_t2_loop.trips) : Fin 3 → Nat :=
  let c0_38 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v116 : Index := Scalar.indexCast v20
  let c896 : Index := 896#32
  ![0, v116.toNat, 896]
def k0_off50 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v121 : Index := Scalar.indexCast v20
  let c896_39 : Index := 896#32
  ![v121.toNat, 896]
def k0_off51 (k0_t2 : Fin k0_t2_loop.trips) : Fin 3 → Nat :=
  let c0_40 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v125 : Index := Scalar.indexCast v18
  let c8 : Index := 8#32
  ![0, v125.toNat, 8]
def k0_off52 (k0_t2 : Fin k0_t2_loop.trips) : Fin 3 → Nat :=
  let c0_41 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v129 : Index := Scalar.indexCast v20
  let c1024 : Index := 1024#32
  ![0, v129.toNat, 1024]
def k0_off53 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v134 : Index := Scalar.indexCast v20
  let c1024_42 : Index := 1024#32
  ![v134.toNat, 1024]
def k0_off54 (k0_t2 : Fin k0_t2_loop.trips) : Fin 3 → Nat :=
  let c0_43 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v138 : Index := Scalar.indexCast v18
  let c9 : Index := 9#32
  ![0, v138.toNat, 9]
def k0_off55 (k0_t2 : Fin k0_t2_loop.trips) : Fin 3 → Nat :=
  let c0_44 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v142 : Index := Scalar.indexCast v20
  let c1152 : Index := 1152#32
  ![0, v142.toNat, 1152]
def k0_off56 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v147 : Index := Scalar.indexCast v20
  let c1152_45 : Index := 1152#32
  ![v147.toNat, 1152]
def k0_off57 (k0_t2 : Fin k0_t2_loop.trips) : Fin 3 → Nat :=
  let c0_46 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v151 : Index := Scalar.indexCast v18
  let c10 : Index := 10#32
  ![0, v151.toNat, 10]
def k0_off58 (k0_t2 : Fin k0_t2_loop.trips) : Fin 3 → Nat :=
  let c0_47 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v155 : Index := Scalar.indexCast v20
  let c1280 : Index := 1280#32
  ![0, v155.toNat, 1280]
def k0_off59 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v160 : Index := Scalar.indexCast v20
  let c1280_48 : Index := 1280#32
  ![v160.toNat, 1280]
def k0_off60 (k0_t2 : Fin k0_t2_loop.trips) : Fin 3 → Nat :=
  let c0_49 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v164 : Index := Scalar.indexCast v18
  let c11 : Index := 11#32
  ![0, v164.toNat, 11]
def k0_off61 (k0_t2 : Fin k0_t2_loop.trips) : Fin 3 → Nat :=
  let c0_50 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v168 : Index := Scalar.indexCast v20
  let c1408 : Index := 1408#32
  ![0, v168.toNat, 1408]
def k0_off62 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v173 : Index := Scalar.indexCast v20
  let c1408_51 : Index := 1408#32
  ![v173.toNat, 1408]
def k0_off63 (k0_t2 : Fin k0_t2_loop.trips) : Fin 3 → Nat :=
  let c0_52 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v177 : Index := Scalar.indexCast v18
  let c12 : Index := 12#32
  ![0, v177.toNat, 12]
def k0_off64 (k0_t2 : Fin k0_t2_loop.trips) : Fin 3 → Nat :=
  let c0_53 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v181 : Index := Scalar.indexCast v20
  let c1536 : Index := 1536#32
  ![0, v181.toNat, 1536]
def k0_off65 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v186 : Index := Scalar.indexCast v20
  let c1536_54 : Index := 1536#32
  ![v186.toNat, 1536]
def k0_off66 (k0_t2 : Fin k0_t2_loop.trips) : Fin 3 → Nat :=
  let c0_55 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v190 : Index := Scalar.indexCast v18
  let c13 : Index := 13#32
  ![0, v190.toNat, 13]
def k0_off67 (k0_t2 : Fin k0_t2_loop.trips) : Fin 3 → Nat :=
  let c0_56 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v194 : Index := Scalar.indexCast v20
  let c1664 : Index := 1664#32
  ![0, v194.toNat, 1664]
def k0_off68 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v199 : Index := Scalar.indexCast v20
  let c1664_57 : Index := 1664#32
  ![v199.toNat, 1664]
def k0_off69 (k0_t2 : Fin k0_t2_loop.trips) : Fin 3 → Nat :=
  let c0_58 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v203 : Index := Scalar.indexCast v18
  let c14 : Index := 14#32
  ![0, v203.toNat, 14]
def k0_off70 (k0_t2 : Fin k0_t2_loop.trips) : Fin 3 → Nat :=
  let c0_59 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v207 : Index := Scalar.indexCast v20
  let c1792 : Index := 1792#32
  ![0, v207.toNat, 1792]
def k0_off71 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v212 : Index := Scalar.indexCast v20
  let c1792_60 : Index := 1792#32
  ![v212.toNat, 1792]
def k0_off72 (k0_t2 : Fin k0_t2_loop.trips) : Fin 3 → Nat :=
  let c0_61 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let v216 : Index := Scalar.indexCast v18
  let c15 : Index := 15#32
  ![0, v216.toNat, 15]
def k0_off73 (k0_t2 : Fin k0_t2_loop.trips) : Fin 3 → Nat :=
  let c0_62 : Index := 0#32
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v220 : Index := Scalar.indexCast v20
  let c1920 : Index := 1920#32
  ![0, v220.toNat, 1920]
def k0_off74 (k0_t2 : Fin k0_t2_loop.trips) : Fin 2 → Nat :=
  let c0_i32_12 : BitVec 32 := 0#32
  let c0_i32_8 : BitVec 32 := 0#32
  let c1_i32_9 : BitVec 32 := 1#32
  let arg14 : BitVec 32 := Scf.iv c0_i32_8 c1_i32_9 k0_t2
  let c1_i32_11 : BitVec 32 := 1#32
  let v17 : BitVec 32 := Scalar.muli arg14 c1_i32_11
  let v18 : BitVec 32 := Scalar.addi c0_i32_12 v17
  let c128_i32 : BitVec 32 := 128#32
  let v19 : BitVec 32 := Scalar.muli v18 c128_i32
  let v20 : BitVec 32 := v19
  let v225 : Index := Scalar.indexCast v20
  let c1920_63 : Index := 1920#32
  ![v225.toNat, 1920]
def k0_cond2 (i : grid0.Coords) (v0 : BitVec 32) : BitVec 1 :=
  let arg0 : BitVec 32 := BitVec.ofNat 32 (i 0).val
  let v12 : BitVec 1 := Scalar.cmpi .slt arg0 v0
  let v13 : BitVec 32 := Scalar.extui v12
  let c0_i32_4 : BitVec 32 := 0#32
  let v14 : BitVec 1 := Scalar.cmpi .ne v13 c0_i32_4
  v14

def cc0_transform_0 (inb_S2x576_S1x1_1_0 : ∀ a, (![1, 0] : Fin 2 → Nat) a + S1x1.size a ≤ S2x576.size a) (numel1_S1x1 : S1x1.numel = 1) (pf : pre0.Contents (Elt F)) (i : grid0.Coords) : Fin 3 → Nat :=
  let arg0 : BitVec 32 := BitVec.ofNat 32 (i 0).val
  let c1 : Index := 1#32
  let c0 : Index := 0#32
  let v0 : BitVec 32 := pf.at 0 (Rect.unit (s := S2x576) ![1, 0] S1x1.size inb_S2x576_S1x1_1_0) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1x1.size a ≤ S2x576.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x576) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1x1.size a ≤ S2x576.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x576) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1x1.size a ≤ S2x576.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x576) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S2x576.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x576) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1x1.size a ≤ S2x576.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x576) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1x1.size a ≤ S2x576.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x576) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (inb_S2x576_S1x1_1_0 : ∀ a, (![1, 0] : Fin 2 → Nat) a + S1x1.size a ≤ S2x576.size a) (numel1_S1x1 : S1x1.numel = 1) (pf : pre0.Contents (Elt F)) (i : grid0.Coords) : Fin 3 → Nat :=
  let arg0 : BitVec 32 := BitVec.ofNat 32 (i 0).val
  let c1 : Index := 1#32
  let c0 : Index := 0#32
  let v0 : BitVec 32 := pf.at 0 (Rect.unit (s := S2x576) ![1, 0] S1x1.size inb_S2x576_S1x1_1_0) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S512x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S1x16x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S1x16x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .smem S1x6x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S2x576 : Shape := ⟨2, ![2, 576]⟩
abbrev S294912x8x128 : Shape := ⟨3, ![294912, 8, 128]⟩
abbrev S64x2048x768 : Shape := ⟨3, ![64, 2048, 768]⟩
abbrev S64x16x6 : Shape := ⟨3, ![64, 16, 6]⟩
abbrev S64x768x2048 : Shape := ⟨3, ![64, 768, 2048]⟩
abbrev S64x6x16 : Shape := ⟨3, ![64, 6, 16]⟩
abbrev S294912x8x128x2 : Shape := ⟨4, ![294912, 8, 128, 2]⟩
abbrev S294912x2x8x128 : Shape := ⟨4, ![294912, 2, 8, 128]⟩
abbrev S294912x2048 : Shape := ⟨2, ![294912, 2048]⟩
abbrev S18432x2x8x2048 : Shape := ⟨4, ![18432, 2, 8, 2048]⟩
abbrev S18432x8x2x2048 : Shape := ⟨4, ![18432, 8, 2, 2048]⟩
abbrev S1x576 : Shape := ⟨2, ![1, 576]⟩
abbrev S576 : Shape := ⟨1, ![576]⟩
abbrev S576x512 : Shape := ⟨2, ![576, 512]⟩
abbrev S294912 : Shape := ⟨1, ![294912]⟩
abbrev S294912x1 : Shape := ⟨2, ![294912, 1]⟩
abbrev S294912x16x128 : Shape := ⟨3, ![294912, 16, 128]⟩
abbrev S294912x64 : Shape := ⟨2, ![294912, 64]⟩
abbrev S64x16x128x6x128 : Shape := ⟨5, ![64, 16, 128, 6, 128]⟩
abbrev S64x16x1x6x1 : Shape := ⟨5, ![64, 16, 1, 6, 1]⟩
abbrev S294912x64x768 : Shape := ⟨3, ![294912, 64, 768]⟩
abbrev S294912x64x1 : Shape := ⟨3, ![294912, 64, 1]⟩
abbrev S294912x768 : Shape := ⟨2, ![294912, 768]⟩
abbrev S294912x6x128 : Shape := ⟨3, ![294912, 6, 128]⟩
abbrev S294912x6 : Shape := ⟨2, ![294912, 6]⟩
abbrev S294912x6x247 : Shape := ⟨3, ![294912, 6, 247]⟩
abbrev S294912x6x1 : Shape := ⟨3, ![294912, 6, 1]⟩
abbrev S64x6x128x16x128 : Shape := ⟨5, ![64, 6, 128, 16, 128]⟩
abbrev S64x6x1x16x1 : Shape := ⟨5, ![64, 6, 1, 16, 1]⟩
abbrev S294912x64x2048 : Shape := ⟨3, ![294912, 64, 2048]⟩

abbrev nBuf : Space → Nat
  | .hbm => 20
  | .vmem => 9
  | .smem => 0
  | _ => 0

abbrev bufTy : (tb : Table) → Fin (tcTables nBuf tb) → BufTy
  | .hbm, ⟨0, _⟩ => ⟨S2x576, .i32⟩
  | .hbm, ⟨1, _⟩ => ⟨S294912x8x128, .i32⟩
  | .hbm, ⟨2, _⟩ => ⟨S64x2048x768, .fp8e4m3⟩
  | .hbm, ⟨3, _⟩ => ⟨S64x16x6, .f32⟩
  | .hbm, ⟨4, _⟩ => ⟨S64x2048x768, .fp8e4m3⟩
  | .hbm, ⟨5, _⟩ => ⟨S64x16x6, .f32⟩
  | .hbm, ⟨6, _⟩ => ⟨S64x768x2048, .fp8e4m3⟩
  | .hbm, ⟨7, _⟩ => ⟨S64x6x16, .f32⟩
  | .hbm, ⟨8, _⟩ => ⟨S294912x8x128x2, .bf16⟩
  | .hbm, ⟨9, _⟩ => ⟨S294912x2x8x128, .bf16⟩
  | .hbm, ⟨10, _⟩ => ⟨S294912x2048, .bf16⟩
  | .hbm, ⟨11, _⟩ => ⟨S18432x2x8x2048, .bf16⟩
  | .hbm, ⟨12, _⟩ => ⟨S18432x8x2x2048, .bf16⟩
  | .hbm, ⟨13, _⟩ => ⟨S294912x2048, .bf16⟩
  | .hbm, ⟨14, _⟩ => ⟨S1x576, .i32⟩
  | .hbm, ⟨15, _⟩ => ⟨S576, .i32⟩
  | .hbm, ⟨16, _⟩ => ⟨S576x512, .i32⟩
  | .hbm, ⟨17, _⟩ => ⟨S294912, .i32⟩
  | .hbm, ⟨18, _⟩ => ⟨S294912x1, .i32⟩
  | .hbm, ⟨19, _⟩ => ⟨S294912x16x128, .f32⟩
  | .local _ .vmem, ⟨0, _⟩ => ⟨S294912x2048, .bf16⟩
  | .local _ .vmem, ⟨1, _⟩ => ⟨S294912x1, .i32⟩
  | .local _ .vmem, ⟨2, _⟩ => ⟨S64x2048x768, .fp8e4m3⟩
  | .local _ .vmem, ⟨3, _⟩ => ⟨S64x2048x768, .fp8e4m3⟩
  | .local _ .vmem, ⟨4, _⟩ => ⟨S64x768x2048, .fp8e4m3⟩
  | .local _ .vmem, ⟨5, _⟩ => ⟨S64x16x6, .f32⟩
  | .local _ .vmem, ⟨6, _⟩ => ⟨S64x16x6, .f32⟩
  | .local _ .vmem, ⟨7, _⟩ => ⟨S64x6x16, .f32⟩
  | .local _ .vmem, ⟨8, _⟩ => ⟨S294912x16x128, .f32⟩
  | _, _ => ⟨S2x576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S294912x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S294912x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2048x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x768x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x16x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x6x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S294912x16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Pieces.lean ====
module

public import Idealize.ShloMosaic.PureOps.Ideal.Laws
public import Idealize.ShloMosaic.Lib.IdealHost
public import Idealize.ShloMosaic.Lib.ValueIdx
public import Idealize.ShloMosaic.Lib.Pipeline.Value
public import Idealize.ShloMosaic.Lib.WholeRead
public import Idealize.ShloMosaic.Lib.Writes

@[expose] public section

set_option maxRecDepth 16384

noncomputable section

/-! The blocks a kernel writes into a scratch array while it multiplies codes by their scales, each read at an index. -/

namespace Cert.Proof.Pieces

open Idealize.ShloMosaic Idealize.ShloMosaic.ValueIdx

variable {sig : RefSig} {κ : Kind} {sp sp' : Space}

abbrev SW : Shape := ⟨2, ![128, 128]⟩
abbrev SO : Shape := ⟨2, ![1, 1]⟩
abbrev SX : Shape := ⟨2, ![512, 128]⟩
abbrev SX1 : Shape := ⟨2, ![512, 1]⟩

/-- A block of weight codes times one scale. -/
def wV (s : Elt Ideal .f32) (b : Vec Ideal SW .fp8e4m3) (h1 : FTy.fp8e4m3.bits < FTy.bf16.bits) (h2 : FTy.bf16.bits < FTy.f32.bits)
    (hc : SW.ShapeCasts SW) : FVec Ideal SW .bf16 :=
  shapeCast SW (mulf (extf .bf16 b h1) (truncf .bf16 (broadcast SW s) h2)) hc

/-- A block of activation codes times a column of scales. -/
def xV (b : Vec Ideal SX .fp8e4m3) (s : Vec Ideal SX1 .f32) (h1 : FTy.fp8e4m3.bits < FTy.f32.bits) (h2 : FTy.bf16.bits < FTy.f32.bits)
    (hb : SX1.Broadcasts SX) (hc : SX.ShapeCasts SX) : FVec Ideal SX .bf16 :=
  shapeCast SX (truncf .bf16 (mulf (extf .f32 b h1) (broadcastTo SX s hb)) h2) hc

/-- A weight block lands where the widened array has it. -/
theorem wV_piece {R C RG CG D : ℕ} (m : Memref sig κ sp ⟨2, ![R, C]⟩ .fp8e4m3) (hm : m.IsWhole)
    (ms : Memref sig κ sp' ⟨2, ![RG, CG]⟩ .f32) (hms : ms.IsWhole)
    (X : Vec Ideal ⟨2, ![R, C]⟩ .fp8e4m3) (S : Vec Ideal ⟨2, ![RG, CG]⟩ .f32) (G : Vec Ideal ⟨2, ![R, D]⟩ .bf16) (c0 : ℕ)
    (hG : ∀ (r : Fin R) (c : Fin C) (g : Fin RG) (q : Fin CG) (d : Fin D), g.val = r.val / 128 → q.val = c.val / 128 → d.val = c0 + c.val →
      G (ix2 r d) = X (ix2 r c) * S (ix2 g q))
    (oc os od : Fin 2 → ℕ) (k j : ℕ) (hoc : oc = ![128 * k, 128 * j]) (hos : os = ![k, j]) (hod : od = ![128 * k, c0 + 128 * j])
    (ic : ∀ a, oc a + SW.size a ≤ (⟨2, ![R, C]⟩ : Shape).size a) (is : ∀ a, os a + SO.size a ≤ (⟨2, ![RG, CG]⟩ : Shape).size a)
    (id : ∀ a, od a + SW.size a ≤ (⟨2, ![R, D]⟩ : Shape).size a)
    (h0 : 0 < (Rect.unit (s := ⟨2, ![RG, CG]⟩) os SO.size is).toLoadRect.shape.numel) (h1 : FTy.fp8e4m3.bits < FTy.bf16.bits) (h2 : FTy.bf16.bits < FTy.f32.bits) (hc : SW.ShapeCasts SW)
    (x : SW.Idx) :
    wV (View.readAt (Elt Ideal) ms.view (Rect.unit (s := ⟨2, ![RG, CG]⟩) os SO.size is).toLoadRect (hms.unread S) (Shape.Idx.first h0))
      (View.readAt (Elt Ideal) m.view (Rect.unit (s := ⟨2, ![R, C]⟩) oc SW.size ic).toLoadRect (hm.unread X)) h1 h2 hc x
      = G ((Rect.unit (s := ⟨2, ![R, D]⟩) od SW.size id).emb x) := by
  subst hoc hos hod
  have b0 : 128 * k + 128 ≤ R := ic 0
  have b1 : 128 * j + 128 ≤ C := ic 1
  have b2 : k + 1 ≤ RG := is 0
  have b3 : j + 1 ≤ CG := is 1
  have b4 : c0 + 128 * j + 128 ≤ D := id 1
  have x0 : (x 0).val < 128 := (x 0).isLt
  have x1 : (x 1).val < 128 := (x 1).isLt
  have e := hG ⟨128 * k + (x 0).val, by omega⟩ ⟨128 * j + (x 1).val, by omega⟩ ⟨k, by omega⟩ ⟨j, by omega⟩ ⟨c0 + 128 * j + (x 1).val, by omega⟩
    (by show k = (128 * k + (x 0).val) / 128; omega) (by show j = (128 * j + (x 1).val) / 128; omega) (by show c0 + 128 * j + (x 1).val = c0 + (128 * j + (x 1).val); omega)
  have hx : (Rect.unit (s := ⟨2, ![R, D]⟩) ![128 * k, c0 + 128 * j] SW.size id).emb x = ix2 ⟨128 * k + (x 0).val, by omega⟩ ⟨c0 + 128 * j + (x 1).val, by omega⟩ := by
    funext a; apply Fin.ext
    match a with
    | ⟨0, _⟩ => show 128 * k + 1 * (x 0).val = 128 * k + (x 0).val; omega
    | ⟨1, _⟩ => show c0 + 128 * j + 1 * (x 1).val = c0 + 128 * j + (x 1).val; omega
  rw [hx, e]
  unfold wV
  rw [shapeCast_self]
  show View.readAt (Elt Ideal) m.view (Rect.unit (s := ⟨2, ![R, C]⟩) ![128 * k, 128 * j] SW.size ic).toLoadRect (hm.unread X) x
    * View.readAt (Elt Ideal) ms.view (Rect.unit (s := ⟨2, ![RG, CG]⟩) ![k, j] SO.size is).toLoadRect (hms.unread S) (Shape.Idx.first h0) = _
  rw [hm.readAt_unread, hms.readAt_unread]
  refine congrArg₂ (· * ·) (congrArg X ?_) (congrArg S ?_)
  · funext a; apply Fin.ext
    match a with
    | ⟨0, _⟩ => show 128 * k + 1 * (x 0).val = 128 * k + (x 0).val; omega
    | ⟨1, _⟩ => show 128 * j + 1 * (x 1).val = 128 * j + (x 1).val; omega
  · funext a; apply Fin.ext
    match a with
    | ⟨0, _⟩ =>
      have hf : ((Shape.Idx.first h0 : (Rect.unit (s := ⟨2, ![RG, CG]⟩) ![k, j] SO.size is).toLoadRect.shape.Idx) 0).val < 1 := (Shape.Idx.first h0 0).isLt
      show k + 1 * ((Shape.Idx.first h0 : (Rect.unit (s := ⟨2, ![RG, CG]⟩) ![k, j] SO.size is).toLoadRect.shape.Idx) 0).val = k; omega
    | ⟨1, _⟩ =>
      have hf : ((Shape.Idx.first h0 : (Rect.unit (s := ⟨2, ![RG, CG]⟩) ![k, j] SO.size is).toLoadRect.shape.Idx) 1).val < 1 := (Shape.Idx.first h0 1).isLt
      show j + 1 * ((Shape.Idx.first h0 : (Rect.unit (s := ⟨2, ![RG, CG]⟩) ![k, j] SO.size is).toLoadRect.shape.Idx) 1).val = j; omega

/-- An activation block lands where the dequantised rows have it. -/
theorem xV_piece {C CG : ℕ} (m : Memref sig κ sp ⟨2, ![512, C]⟩ .fp8e4m3) (hm : m.IsWhole)
    (ms : Memref sig κ sp' ⟨2, ![512, CG]⟩ .f32) (hms : ms.IsWhole)
    (X : Vec Ideal ⟨2, ![512, C]⟩ .fp8e4m3) (S : Vec Ideal ⟨2, ![512, CG]⟩ .f32) (G : Vec Ideal ⟨2, ![512, C]⟩ .bf16)
    (hG : ∀ (r : Fin 512) (c : Fin C) (q : Fin CG), q.val = c.val / 128 → G (ix2 r c) = X (ix2 r c) * S (ix2 r q))
    (o j : ℕ) (ho : o = 128 * j)
    (ic : ∀ a, (![0, o] : Fin 2 → ℕ) a + SX.size a ≤ (⟨2, ![512, C]⟩ : Shape).size a) (is : ∀ a, (![0, j] : Fin 2 → ℕ) a + SX1.size a ≤ (⟨2, ![512, CG]⟩ : Shape).size a)
    (h1 : FTy.fp8e4m3.bits < FTy.f32.bits) (h2 : FTy.bf16.bits < FTy.f32.bits) (hb : SX1.Broadcasts SX) (hc : SX.ShapeCasts SX)
    (x : SX.Idx) :
    xV (View.readAt (Elt Ideal) m.view (Rect.unit (s := ⟨2, ![512, C]⟩) ![0, o] SX.size ic).toLoadRect (hm.unread X))
      (View.readAt (Elt Ideal) ms.view (Rect.unit (s := ⟨2, ![512, CG]⟩) ![0, j] SX1.size is).toLoadRect (hms.unread S)) h1 h2 hb hc x
      = G ((Rect.unit (s := ⟨2, ![512, C]⟩) ![0, o] SX.size ic).emb x) := by
  subst ho
  have b1 : 128 * j + 128 ≤ C := ic 1
  have b3 : j + 1 ≤ CG := is 1
  have x0 : (x 0).val < 512 := (x 0).isLt
  have x1 : (x 1).val < 128 := (x 1).isLt
  have e := hG ⟨(x 0).val, by omega⟩ ⟨128 * j + (x 1).val, by omega⟩ ⟨j, by omega⟩ (by show j = (128 * j + (x 1).val) / 128; omega)
  have hx : (Rect.unit (s := ⟨2, ![512, C]⟩) ![0, 128 * j] SX.size ic).emb x = ix2 ⟨(x 0).val, by omega⟩ ⟨128 * j + (x 1).val, by omega⟩ := by
    funext a; apply Fin.ext
    match a with
    | ⟨0, _⟩ => show 0 + 1 * (x 0).val = (x 0).val; omega
    | ⟨1, _⟩ => show 128 * j + 1 * (x 1).val = 128 * j + (x 1).val; omega
  rw [hx, e]
  unfold xV
  rw [shapeCast_self]
  have eb : broadcastTo SX (View.readAt (Elt Ideal) ms.view (Rect.unit (s := ⟨2, ![512, CG]⟩) ![0, j] SX1.size is).toLoadRect (hms.unread S)) hb x
      = View.readAt (Elt Ideal) ms.view (Rect.unit (s := ⟨2, ![512, CG]⟩) ![0, j] SX1.size is).toLoadRect (hms.unread S) (ix2 ⟨(x 0).val, x0⟩ (0 : Fin 1)) :=
    broadcastTo_apply _ _ _ _ fun a => by
      match a with
      | ⟨0, _⟩ => rfl
      | ⟨1, _⟩ => rfl
  show View.readAt (Elt Ideal) m.view (Rect.unit (s := ⟨2, ![512, C]⟩) ![0, 128 * j] SX.size ic).toLoadRect (hm.unread X) x
    * broadcastTo SX (View.readAt (Elt Ideal) ms.view (Rect.unit (s := ⟨2, ![512, CG]⟩) ![0, j] SX1.size is).toLoadRect (hms.unread S)) hb x = _
  rw [eb, hm.readAt_unread, hms.readAt_unread]
  refine congrArg₂ (· * ·) (congrArg X ?_) (congrArg S ?_)
  · funext a; apply Fin.ext
    match a with
    | ⟨0, _⟩ => show 0 + 1 * (x 0).val = (x 0).val; omega
    | ⟨1, _⟩ => show 128 * j + 1 * (x 1).val = 128 * j + (x 1).val; omega
  · funext a; apply Fin.ext
    match a with
    | ⟨0, _⟩ => show 0 + 1 * (x 0).val = (x 0).val; omega
    | ⟨1, _⟩ => show j + 1 * 0 = j; omega

end Cert.Proof.Pieces
-- ==== Proof.Pow.lean ====
module

public import Idealize.ShloMosaic.PureOps.Ideal.Laws
public import Idealize.ShloMosaic.Lib.IdealHost
public import Idealize.ShloMosaic.Lib.ValueIdx

@[expose] public section

noncomputable section

/-! The block scale of the quantiser, over the extended reals: the power of two that a binary search over
exponent fields finds is the power of two that the largest power below the value gives. -/

namespace Cert.Proof.Pow

open Idealize.ShloMosaic

/-- The number an exponent field denotes, with sign and fraction clear. -/
def pw (u : BitVec 32) : EReal := FloatOps.ofBits (F := Ideal) .f32 (IntOp.shli .vector u 23#32)

/-- One step of the search: the larger field if its number is still at most `t`. -/
def step (t : EReal) (b d : BitVec 32) : BitVec 32 :=
  Scalar.select (FloatOps.cmpf (F := Ideal) (φ := .f32) .ole (pw (IntOp.addi b d)) t) (IntOp.addi b d) b

/-- The exponent field that the eight steps find. -/
def search (t : EReal) : BitVec 32 :=
  step t (step t (step t (step t (step t (step t (step t (step t 0#32 124#32) 62#32) 31#32) 15#32) 8#32) 4#32) 2#32) 1#32

/-- The exponent of the block scale. -/
def kexp (t : EReal) : BitVec 32 :=
  Scalar.select (IntOp.cmpi .eq (search t) 0#32) 0#32 (IntOp.subi (search t) 126#32)

/-- The block scale of the search. -/
def kscale (t : EReal) : EReal := pw (IntOp.addi (kexp t) 127#32)

/-- Its reciprocal. -/
def kinv (t : EReal) : EReal := pw (IntOp.addi (IntOp.subi 0#32 (kexp t)) 127#32)

/-- The same numbers at natural fields. -/
def pn (n : ℕ) : EReal := if n = 0 then 0 else (((2 : ℝ) ^ ((n : ℤ) - 127) : ℝ) : EReal)

theorem ieee_field (ex fr : ℕ) (hf : fr = 0) (hex : ex < 255) (P : ℕ) (hP : P = 2 ^ 23) :
    (if ex = 255 then (⊤ : EReal)
      else if ex = 0 then (((1 : ℝ) * (fr : ℝ) * (2 : ℝ) ^ (1 - 127 - 23 : Int) : ℝ) : EReal)
      else (((1 : ℝ) * ((P + fr : ℕ) : ℝ) * (2 : ℝ) ^ ((ex : Int) - 127 - 23) : ℝ) : EReal)) = pn ex := by
  rw [if_neg (by omega)]
  unfold pn
  by_cases h0 : ex = 0
  · rw [if_pos h0, if_pos h0, hf]; simp
  · rw [if_neg h0, if_neg h0]
    congr 1
    have hP' : ((P + fr : ℕ) : ℝ) = (2 : ℝ) ^ (23 : ℤ) := by rw [hf, hP]; norm_cast
    rw [hP', one_mul, ← zpow_add₀ (by norm_num : (2 : ℝ) ≠ 0)]
    congr 1; ring

theorem pw_eq (n : ℕ) (h : n < 255) : pw (BitVec.ofNat 32 n) = pn n := by
  have hs : IntOp.shli .vector (BitVec.ofNat 32 n) 23#32 = BitVec.ofNat 32 n <<< 23 := rfl
  have e1 : ∀ n : Fin 255, ((BitVec.ofNat 32 n.val <<< 23).extractLsb' (8 + 23) 1 == 1#1) = false := by decide +kernel
  have e2 : ∀ n : Fin 255, ((BitVec.ofNat 32 n.val <<< 23).extractLsb' 23 8).toNat = n.val := by decide +kernel
  have e3 : ∀ n : Fin 255, ((BitVec.ofNat 32 n.val <<< 23).extractLsb' 0 23).toNat = 0 := by decide +kernel
  have f1 := e1 ⟨n, h⟩
  have f2 := e2 ⟨n, h⟩
  have f3 := e3 ⟨n, h⟩
  unfold pw
  rw [hs]
  refine Eq.trans ?_ (ieee_field n 0 rfl h (2 ^ 23) rfl)
  show Ideal.ieee 8 23 _ = _
  simp only [Ideal.ieee]
  rw [f1, f2, f3]
  norm_num

theorem pn_mono {a b : ℕ} (h : a ≤ b) : pn a ≤ pn b := by
  unfold pn
  split_ifs with h1 h2 h2
  · exact le_rfl
  · exact EReal.coe_nonneg.mpr (by positivity)
  · omega
  · exact EReal.coe_le_coe_iff.mpr (zpow_le_zpow_right₀ (by norm_num) (by omega))

theorem pn_pos {a : ℕ} (h : a ≠ 0) : 0 < pn a := by
  unfold pn; rw [if_neg h]; exact EReal.coe_pos.mpr (by positivity)

theorem pn_nonneg (a : ℕ) : 0 ≤ pn a := by
  have := pn_mono (Nat.zero_le a); simpa [pn] using this

/-- `b` is the largest field up to `b + r` whose number is at most `t`, or zero. -/
def Upto (t : EReal) (b r : ℕ) : Prop := (b = 0 ∨ pn b ≤ t) ∧ ∀ c, b + r < c → c ≤ 247 → t < pn c

theorem step_upto (t : EReal) (b r d : ℕ) (hb : b + d < 248) (hd : d ≤ r) (hr : d ≤ r - d + 1) (h : Upto t b r) :
    ∃ b' : ℕ, step t (BitVec.ofNat 32 b) (BitVec.ofNat 32 d) = BitVec.ofNat 32 b' ∧ b' ≤ b + d ∧ Upto t b' (r - d) := by
  have hadd : IntOp.addi (BitVec.ofNat 32 b) (BitVec.ofNat 32 d) = BitVec.ofNat 32 (b + d) := by
    unfold IntOp.addi; exact (BitVec.ofNat_add b d).symm
  unfold step
  rw [hadd, pw_eq _ (by omega)]
  by_cases hc : pn (b + d) ≤ t
  · refine ⟨b + d, ?_, le_rfl, Or.inr hc, fun c h1 h2 => h.2 c (by omega) h2⟩
    show Scalar.select (Ideal.cmp .ole _ _) _ _ = _
    simp [Ideal.cmp, hc, Scalar.select]
  · refine ⟨b, ?_, by omega, h.1, fun c h1 h2 => ?_⟩
    · show Scalar.select (Ideal.cmp .ole _ _) _ _ = _
      simp [Ideal.cmp, hc, Scalar.select]
    · exact (lt_of_not_ge hc).trans_le (pn_mono (by omega))

/-- The search finds the largest field. -/
theorem search_spec (t : EReal) : ∃ b : ℕ, search t = BitVec.ofNat 32 b ∧ b ≤ 247 ∧ Upto t b 0 := by
  have h0 : Upto t 0 247 := ⟨Or.inl rfl, fun c h1 h2 => by omega⟩
  obtain ⟨b1, e1, l1, u1⟩ := step_upto t 0 247 124 (by omega) (by omega) (by omega) h0
  obtain ⟨b2, e2, l2, u2⟩ := step_upto t b1 _ 62 (by omega) (by omega) (by omega) u1
  obtain ⟨b3, e3, l3, u3⟩ := step_upto t b2 _ 31 (by omega) (by omega) (by omega) u2
  obtain ⟨b4, e4, l4, u4⟩ := step_upto t b3 _ 15 (by omega) (by omega) (by omega) u3
  obtain ⟨b5, e5, l5, u5⟩ := step_upto t b4 _ 8 (by omega) (by omega) (by omega) u4
  obtain ⟨b6, e6, l6, u6⟩ := step_upto t b5 _ 4 (by omega) (by omega) (by omega) u5
  obtain ⟨b7, e7, l7, u7⟩ := step_upto t b6 _ 2 (by omega) (by omega) (by omega) u6
  obtain ⟨b8, e8, l8, u8⟩ := step_upto t b7 _ 1 (by omega) (by omega) (by omega) u7
  refine ⟨b8, ?_, by omega, u8⟩
  unfold search
  rw [← e8, ← e7, ← e6, ← e5, ← e4, ← e3, ← e2, ← e1]

/-- The largest power of two from `2^-126` to `2^120` at most `t`, or zero. -/
def below (t : EReal) : EReal :=
  (Finset.univ : Finset (Fin 247)).fold max (FloatOps.ofBits (F := Ideal) .f32 0xFF800000#32) fun k =>
    Scalar.select (FloatOps.cmpf (F := Ideal) (φ := .f32) .ole
        (FloatOps.exp2 (F := Ideal) (φ := .f32) (FloatOps.subf (F := Ideal) (φ := .f32) (FloatOps.sitofp (F := Ideal) .f32 (BitVec.ofNat 32 k.val)) (FloatOps.ofBits (F := Ideal) .f32 0x42FC0000#32))) t)
      (FloatOps.exp2 (F := Ideal) (φ := .f32) (FloatOps.subf (F := Ideal) (φ := .f32) (FloatOps.sitofp (F := Ideal) .f32 (BitVec.ofNat 32 k.val)) (FloatOps.ofBits (F := Ideal) .f32 0x42FC0000#32)))
      (FloatOps.ofBits (F := Ideal) .f32 0x00000000#32)

/-- The block scale: twice that power, or one. -/
def rscale (t : EReal) : EReal :=
  Scalar.select (FloatOps.cmpf (F := Ideal) (φ := .f32) .oeq (below t) (FloatOps.ofBits (F := Ideal) .f32 0x00000000#32))
    (FloatOps.ofBits (F := Ideal) .f32 0x3F800000#32)
    (FloatOps.mulf (F := Ideal) (φ := .f32) (FloatOps.ofBits (F := Ideal) .f32 0x40000000#32) (below t))

theorem ofBits_126 : Ideal.ofBits .f32 0x42FC0000#32 = ((126 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

theorem exp2_eq (k : Fin 247) :
    FloatOps.exp2 (F := Ideal) (φ := .f32) (FloatOps.subf (F := Ideal) (φ := .f32) (FloatOps.sitofp (F := Ideal) .f32 (BitVec.ofNat 32 k.val)) (FloatOps.ofBits (F := Ideal) .f32 0x42FC0000#32)) = pn (k.val + 1) := by
  have hi : ∀ k : Fin 247, (BitVec.ofNat 32 k.val).toInt = (k.val : ℤ) := by decide +kernel
  show Ideal.exp2 ((((BitVec.ofNat 32 k.val).toInt : ℝ) : EReal) - Ideal.ofBits .f32 0x42FC0000#32) = _
  rw [ofBits_126, hi k, ← EReal.coe_sub]
  unfold pn
  rw [if_neg (by omega)]
  show ((Real.rpow 2 _ : ℝ) : EReal) = _
  congr 1
  have : ((k.val : ℤ) : ℝ) - 126 = ((((k.val + 1 : ℕ) : ℤ) - 127 : ℤ) : ℝ) := by push_cast; ring
  show (2 : ℝ) ^ ((((k.val : ℤ) : ℝ) - 126) : ℝ) = _
  rw [this, Real.rpow_intCast]

theorem below_eq (t : EReal) (b : ℕ) (hb : b ≤ 247) (h : Upto t b 0) : below t = pn b := by
  unfold below
  simp only [exp2_eq]
  have hsel : ∀ k : Fin 247, Scalar.select (FloatOps.cmpf (F := Ideal) (φ := .f32) .ole (pn (k.val + 1)) t) (pn (k.val + 1)) (FloatOps.ofBits (F := Ideal) .f32 0x00000000#32)
      = if pn (k.val + 1) ≤ t then pn (k.val + 1) else 0 := by
    intro k
    show Scalar.select (Ideal.cmp .ole _ _) _ (Ideal.ofBits .f32 0x00000000#32) = _
    rw [ofBits_zero_f32']
    by_cases hc : pn (k.val + 1) ≤ t <;> simp [Ideal.cmp, hc, Scalar.select]
  simp only [hsel]
  show Finset.fold max (Ideal.ofBits .f32 0xFF800000#32) _ _ = _
  rw [ofBits_bot]
  apply le_antisymm
  · rw [Finset.fold_max_le]
    refine ⟨bot_le, fun k _ => ?_⟩
    split_ifs with hc
    · by_contra hn
      have hlt : b < k.val + 1 := by
        by_contra hle; exact hn (pn_mono (by omega))
      exact absurd hc (not_le.mpr (h.2 _ (by omega) (by omega)))
    · exact pn_nonneg b
  · rw [Finset.le_fold_max]
    right
    by_cases h0 : b = 0
    · refine ⟨⟨0, by decide⟩, Finset.mem_univ _, ?_⟩
      subst h0
      split_ifs
      · exact pn_mono (by omega)
      · simp [pn]
    · refine ⟨⟨b - 1, by omega⟩, Finset.mem_univ _, ?_⟩
      have e : b - 1 + 1 = b := by omega
      simp only [e]
      rw [if_pos (h.1.resolve_left h0)]
where
  ofBits_zero_f32' : Ideal.ofBits .f32 0x00000000#32 = 0 := Ideal.ofBits_zero_f32

/-- What the two scales are at the largest field. -/
theorem scales (t : EReal) : ∃ r : ℝ, 0 < r ∧ kscale t = (r : EReal) ∧ kinv t = ((r⁻¹ : ℝ) : EReal) ∧ rscale t = (r : EReal) := by
  obtain ⟨b, e, hb, hu⟩ := search_spec t
  have hbl := below_eq t b hb hu
  by_cases h0 : b = 0
  · refine ⟨1, by norm_num, ?_, ?_, ?_⟩
    · unfold kscale kexp; rw [e, h0]
      show pw (BitVec.ofNat 32 127) = _
      rw [pw_eq _ (by omega)]; simp [pn]
    · unfold kinv kexp; rw [e, h0]
      show pw (BitVec.ofNat 32 127) = _
      rw [pw_eq _ (by omega)]; simp [pn]
    · unfold rscale; rw [hbl, h0]
      show Scalar.select (Ideal.cmp .oeq _ (Ideal.ofBits .f32 0x00000000#32)) (Ideal.ofBits .f32 0x3F800000#32) _ = _
      rw [Ideal.ofBits_zero_f32, Ideal.ofBits_one_f32]
      simp [pn, Ideal.cmp, Scalar.select]
  · have c1 : ∀ b : Fin 248, b.val ≠ 0 → IntOp.addi (Scalar.select (IntOp.cmpi .eq (BitVec.ofNat 32 b.val) 0#32) 0#32 (IntOp.subi (BitVec.ofNat 32 b.val) 126#32)) 127#32 = BitVec.ofNat 32 (b.val + 1) := by
      decide +kernel
    have c2 : ∀ b : Fin 248, b.val ≠ 0 → IntOp.addi (IntOp.subi 0#32 (Scalar.select (IntOp.cmpi .eq (BitVec.ofNat 32 b.val) 0#32) 0#32 (IntOp.subi (BitVec.ofNat 32 b.val) 126#32))) 127#32 = BitVec.ofNat 32 (253 - b.val) := by
      decide +kernel
    refine ⟨(2 : ℝ) ^ ((b : ℤ) - 126), by positivity, ?_, ?_, ?_⟩
    · unfold kscale kexp; rw [e, c1 ⟨b, by omega⟩ h0, pw_eq _ (by simp only; omega)]
      unfold pn; rw [if_neg (by omega)]; congr 2; push_cast; ring
    · unfold kinv kexp; rw [e, c2 ⟨b, by omega⟩ h0, pw_eq _ (by simp only; omega)]
      unfold pn; rw [if_neg (by simp only; omega), ← zpow_neg]
      congr 2; simp only; omega
    · unfold rscale; rw [hbl]
      have hne : pn b ≠ 0 := (pn_pos h0).ne'
      show Scalar.select (Ideal.cmp .oeq _ (Ideal.ofBits .f32 0x00000000#32)) _ ((Ideal.ofBits .f32 0x40000000#32) * pn b) = _
      rw [Ideal.ofBits_zero_f32, ofBits_2]
      simp only [Ideal.cmp, hne, decide_false, Scalar.select, BitVec.ofBool_false]
      unfold pn; rw [if_neg h0, ← EReal.coe_mul]
      show ((_ : ℝ) : EReal) = _
      congr 1
      rw [show (b : ℤ) - 126 = 1 + ((b : ℤ) - 127) by ring, zpow_add₀ (by norm_num : (2 : ℝ) ≠ 0), zpow_one]

/-- The two scales are equal. -/
theorem scale_eq (t : EReal) : kscale t = rscale t := by
  obtain ⟨r, _, h1, _, h3⟩ := scales t
  rw [h1, h3]

/-- Multiplying by the reciprocal divides by the scale. -/
theorem mul_inv_eq (t v : EReal) : v * kinv t = Ideal.div v (rscale t) := by
  obtain ⟨r, hr, _, h2, h3⟩ := scales t
  rw [h2, h3]
  unfold Ideal.div
  rw [if_neg (by simpa using hr.ne'), ← EReal.coe_inv]

end Cert.Proof.Pow

end
-- ==== Proof.Quant.lean ====
module

public import Idealize.ShloMosaic.PureOps.Ideal.Laws
public import Idealize.ShloMosaic.Lib.IdealHost
public import Idealize.ShloMosaic.Lib.ValueIdx
public import Idealize.ShloMosaic.Lib.Pipeline.Value
public import Idealize.ShloMosaic.Lib.MatmulPlain
public import proofs.«01_k».proof.Proof.Pow

@[expose] public section

set_option maxRecDepth 16384

noncomputable section

/-! The quantiser of one block of 512 rows by 128 channels, as a chain of vector operations, read at an index. -/

namespace Cert.Proof.Quant

open Idealize.ShloMosaic Idealize.ShloMosaic.ValueIdx
open Cert.Proof.Pow

abbrev SB : Shape := ⟨2, ![512, 128]⟩
abbrev SC : Shape := ⟨2, ![512, 1]⟩
abbrev SR : Shape := ⟨1, ![512]⟩
abbrev SG : Shape := ⟨2, ![512, 1536]⟩

/-- The gated activation of one element. -/
def act (g u : EReal) : EReal := g * Ideal.logistic g * u

/-- The largest magnitude of 128 elements, over 448. -/
def top (h : Fin 128 → EReal) : EReal :=
  (Finset.univ : Finset (Fin 128)).fold max (FloatOps.ofBits (F := Ideal) .f32 0xFF800000#32) (fun l => FloatOps.absf (F := Ideal) (φ := .f32) (h l))
    * FloatOps.ofBits (F := Ideal) .f32 0x3B124925#32

/-- Clipping at 448. -/
def clip (v : EReal) : EReal :=
  FloatOps.minimumf (F := Ideal) (φ := .f32) (FloatOps.ofBits (F := Ideal) .f32 0x43E00000#32)
    (FloatOps.maximumf (F := Ideal) (φ := .f32) (FloatOps.ofBits (F := Ideal) .f32 0xC3E00000#32) v)

/-- The code of one element, given its scale's exponent search. -/
def code (t v : EReal) : EReal := clip (v * kinv t)

def actV (gu : FVec Ideal SG .f32) (o o' : Fin 2 → ℕ) (hs : SG.Slices o SB) (hs' : SG.Slices o' SB) : FVec Ideal SB .f32 :=
  mulf (mulf (extractStridedSlice SB o gu hs) (logistic (extractStridedSlice SB o gu hs))) (extractStridedSlice SB o' gu hs')

def topV (h : FVec Ideal SB .f32) (hr : SB.Reduces [1] SR) (hc : SR.ShapeCasts SC) : FVec Ideal SC .f32 :=
  mulf (shapeCast SC (multiReduction .maximumf [1] SR (absf h) 0xFF800000#32 hr (.inl rfl) rfl) hc) (broadcast SC (Scalar.ofBits .f32 0x3B124925#32))

def stepV (t : FVec Ideal SC .f32) (b : IVec SC 32) (d : BitVec 32) : IVec SC 32 :=
  select (cmpf .ole (bitcastToFloat .f32 (shli (addi b (broadcast SC d)) (broadcast SC 23#32))) t) (addi b (broadcast SC d)) b

def searchV (t : FVec Ideal SC .f32) : IVec SC 32 :=
  stepV t (stepV t (stepV t (stepV t (stepV t (stepV t (stepV t (stepV t (broadcast SC 0#32) 124#32) 62#32) 31#32) 15#32) 8#32) 4#32) 2#32) 1#32

def expV (b : IVec SC 32) : IVec SC 32 :=
  select (cmpi .eq b (broadcast SC 0#32)) (broadcast SC 0#32) (subi b (broadcast SC 126#32))

def scaleV (e : IVec SC 32) : FVec Ideal SC .f32 :=
  bitcastToFloat .f32 (shli (addi e (broadcast SC 127#32)) (broadcast SC 23#32))

def codeV (h : FVec Ideal SB .f32) (e : IVec SC 32) (hb : SC.Broadcasts SB) : FVec Ideal SB .f32 :=
  minimumf (broadcast SB (Scalar.ofBits .f32 0x43E00000#32))
    (maximumf (broadcast SB (Scalar.ofBits .f32 0xC3E00000#32))
      (mulf h (broadcastTo SB (scaleV (subi (broadcast SC 0#32) e)) hb)))

/-- The activation at an index. -/
theorem actV_apply (gu : FVec Ideal SG .f32) (a b : ℕ) (hs : SG.Slices ![0, a] SB) (hs' : SG.Slices ![0, b] SB) (r : Fin 512) (l : Fin 128)
    (ga : Fin 1536) (gb : Fin 1536) (ha : ga.val = a + l.val) (hb : gb.val = b + l.val) :
    actV gu ![0, a] ![0, b] hs hs' (ix2 r l) = act (gu (ix2 r ga)) (gu (ix2 r gb)) := by
  have e1 : extractStridedSlice SB ![0, a] gu hs (ix2 r l) = gu (ix2 r ga) :=
    extractStridedSlice_apply _ _ _ _ _ fun c => by
      match c with
      | ⟨0, _⟩ => show r.val = 0 + r.val; omega
      | ⟨1, _⟩ => show ga.val = a + l.val; omega
  have e2 : extractStridedSlice SB ![0, b] gu hs' (ix2 r l) = gu (ix2 r gb) :=
    extractStridedSlice_apply _ _ _ _ _ fun c => by
      match c with
      | ⟨0, _⟩ => show r.val = 0 + r.val; omega
      | ⟨1, _⟩ => show gb.val = b + l.val; omega
  show extractStridedSlice SB ![0, a] gu hs (ix2 r l) * Ideal.logistic (extractStridedSlice SB ![0, a] gu hs (ix2 r l)) * extractStridedSlice SB ![0, b] gu hs' (ix2 r l) = _
  rw [e1, e2]; rfl

/-- The group maximum over 448 at a row. -/
theorem topV_apply (h : FVec Ideal SB .f32) (hr : SB.Reduces [1] SR) (hc : SR.ShapeCasts SC) (r : Fin 512) :
    topV h hr hc (ix2 r 0) = top fun l => h (ix2 r l) := by
  have e : shapeCast SC (multiReduction .maximumf [1] SR (absf h) 0xFF800000#32 hr (.inl rfl) rfl) hc (ix2 r 0)
      = multiReduction .maximumf [1] SR (absf h) 0xFF800000#32 hr (.inl rfl) rfl (ix1 r) :=
    shapeCast_apply _ _ _ _ (by
      rw [Shape.rowMajor_val_one, Shape.rowMajor_val_two]
      show r.val = r.val * 1 + 0
      omega)
  unfold topV top
  rw [mulf_apply, e]
  have e2 := Ideal.multiReduction_maximumf_single (a := (1 : Fin 2)) (absf h) 0xFF800000#32 hr (.inl rfl) rfl (ix1 r)
  refine congrArg₂ (· * ·) (Eq.trans e2 ?_) rfl
  refine congrArg (Finset.fold max _ · _) (funext fun l => ?_)
  show FloatOps.absf (h _) = FloatOps.absf (h _)
  refine congrArg (fun i => FloatOps.absf (h i)) (funext fun c => Fin.ext ?_)
  match c with
  | ⟨0, _⟩ => rfl
  | ⟨1, _⟩ => rfl

theorem searchV_apply (t : FVec Ideal SC .f32) (i : SC.Idx) : searchV t i = search (t i) := rfl
theorem expV_apply (t : FVec Ideal SC .f32) (i : SC.Idx) : expV (searchV t) i = kexp (t i) := rfl
theorem scaleV_apply (t : FVec Ideal SC .f32) (i : SC.Idx) : scaleV (expV (searchV t)) i = kscale (t i) := rfl

/-- The code at an index. -/
theorem codeV_apply (h : FVec Ideal SB .f32) (t : FVec Ideal SC .f32) (hb : SC.Broadcasts SB) (r : Fin 512) (l : Fin 128) :
    codeV h (expV (searchV t)) hb (ix2 r l) = code (t (ix2 r 0)) (h (ix2 r l)) := by
  have e : broadcastTo SB (scaleV (subi (broadcast SC 0#32) (expV (searchV t)))) hb (ix2 r l)
      = scaleV (subi (broadcast SC 0#32) (expV (searchV t))) (ix2 r 0) :=
    broadcastTo_apply _ _ _ _ fun c => by
      match c with
      | ⟨0, _⟩ => rfl
      | ⟨1, _⟩ => rfl
  unfold code
  show clip (h (ix2 r l) * broadcastTo SB (scaleV (subi (broadcast SC 0#32) (expV (searchV t)))) hb (ix2 r l)) = _
  rw [e]; rfl

/-- One entry of a product: the sum over the channels. -/
def row (x : (⟨2, ![512, 2048]⟩ : Shape).Idx → EReal) (w : (⟨2, ![2048, 1536]⟩ : Shape).Idx → EReal) (r : Fin 512) (c : Fin 1536) : EReal :=
  ∑ k : Fin 2048, x (ix2 r k) * w (ix2 k c)

/-- The product of the rows with the gate and up weights, read at an index. -/
theorem matmul_row (D : DotDims ⟨2, ![512, 2048]⟩ ⟨2, ![2048, 1536]⟩ SG) (hD : D = DotDims.plain 512 2048 1536)
    (x : FVec Ideal ⟨2, ![512, 2048]⟩ .bf16) (w : FVec Ideal ⟨2, ![2048, 1536]⟩ .bf16) (r : Fin 512) (c : Fin 1536) :
    matmul D none x w (constant SG .f32 0x00000000#32) (ix2 r c) = row x w r c := by
  subst hD
  simp only [matmul]
  rw [Ideal.matmul_plain_apply]
  show Ideal.ofBits .f32 0x00000000#32 + _ = _
  rw [Ideal.ofBits_zero_f32, zero_add]; rfl

/-- The activation of row `r`, group `j`, channel `l` of the group. -/
def hAct (x : (⟨2, ![512, 2048]⟩ : Shape).Idx → EReal) (w : (⟨2, ![2048, 1536]⟩ : Shape).Idx → EReal) (r : Fin 512) (j : Fin 6) (l : Fin 128) : EReal :=
  act (row x w r ⟨128 * j.val + l.val, by omega⟩) (row x w r ⟨768 + 128 * j.val + l.val, by omega⟩)

/-- The scale of row `r`, group `j`. -/
def hScale (x : (⟨2, ![512, 2048]⟩ : Shape).Idx → EReal) (w : (⟨2, ![2048, 1536]⟩ : Shape).Idx → EReal) (r : Fin 512) (j : Fin 6) : EReal :=
  kscale (top (hAct x w r j))

/-- The code of row `r`, group `j`, channel `l` of the group. -/
def hCode (x : (⟨2, ![512, 2048]⟩ : Shape).Idx → EReal) (w : (⟨2, ![2048, 1536]⟩ : Shape).Idx → EReal) (r : Fin 512) (j : Fin 6) (l : Fin 128) : EReal :=
  code (top (hAct x w r j)) (hAct x w r j l)

section

variable (gu : FVec Ideal SG .f32) (x : (⟨2, ![512, 2048]⟩ : Shape).Idx → EReal) (w : (⟨2, ![2048, 1536]⟩ : Shape).Idx → EReal)
  (hgu : ∀ r c, gu (ix2 r c) = row x w r c) (j : Fin 6) (a b : ℕ) (ha : a = 128 * j.val) (hb : b = 768 + 128 * j.val)
  (hs : SG.Slices ![0, a] SB) (hs' : SG.Slices ![0, b] SB) (hr : SB.Reduces [1] SR) (hc : SR.ShapeCasts SC) (hB : SC.Broadcasts SB)

include hgu ha hb in
theorem group_act (r : Fin 512) (l : Fin 128) : actV gu ![0, a] ![0, b] hs hs' (ix2 r l) = hAct x w r j l := by
  rw [actV_apply gu a b hs hs' r l ⟨128 * j.val + l.val, by omega⟩ ⟨768 + 128 * j.val + l.val, by omega⟩ (by subst ha; rfl) (by subst hb; rfl), hgu, hgu]
  rfl

include hgu ha hb in
theorem group_scale (r : Fin 512) :
    scaleV (expV (searchV (topV (actV gu ![0, a] ![0, b] hs hs') hr hc))) (ix2 r 0) = hScale x w r j := by
  rw [scaleV_apply, topV_apply]
  unfold hScale
  refine congrArg kscale (congrArg top (funext fun l => group_act gu x w hgu j a b ha hb hs hs' r l))

include hgu ha hb in
theorem group_code (r : Fin 512) (l : Fin 128) :
    codeV (actV gu ![0, a] ![0, b] hs hs') (expV (searchV (topV (actV gu ![0, a] ![0, b] hs hs') hr hc))) hB (ix2 r l) = hCode x w r j l := by
  rw [codeV_apply, topV_apply, group_act gu x w hgu j a b ha hb hs hs' r l]
  unfold hCode
  exact congrArg (fun t => code (top t) (hAct x w r j l)) (funext fun l => group_act gu x w hgu j a b ha hb hs hs' r l)

end

/-- The codes of a block, group by group. -/
def H6 (x : (⟨2, ![512, 2048]⟩ : Shape).Idx → EReal) (w : (⟨2, ![2048, 1536]⟩ : Shape).Idx → EReal) : Vec Ideal ⟨2, ![512, 768]⟩ .fp8e4m3 := fun y =>
  hCode x w (y 0) ⟨(y 1).val / 128, by have : (y 1).val < 768 := (y 1).isLt; omega⟩ ⟨(y 1).val % 128, Nat.mod_lt _ (by norm_num)⟩

/-- The scales of a block. -/
def H7 (x : (⟨2, ![512, 2048]⟩ : Shape).Idx → EReal) (w : (⟨2, ![2048, 1536]⟩ : Shape).Idx → EReal) : Vec Ideal ⟨2, ![512, 6]⟩ .f32 := fun y =>
  hScale x w (y 0) (y 1)

/-- The codes of one group land where the block has them. -/
theorem code_piece (gu : FVec Ideal SG .f32) (x : (⟨2, ![512, 2048]⟩ : Shape).Idx → EReal) (w : (⟨2, ![2048, 1536]⟩ : Shape).Idx → EReal)
    (hgu : ∀ r c, gu (ix2 r c) = row x w r c) (j : Fin 6) (a b : ℕ) (ha : a = 128 * j.val) (hb : b = 768 + 128 * j.val)
    (hs : SG.Slices ![0, a] SB) (hs' : SG.Slices ![0, b] SB) (hr : SB.Reduces [1] SR) (hc : SR.ShapeCasts SC) (hB : SC.Broadcasts SB)
    (ic : ∀ d, (![0, a] : Fin 2 → ℕ) d + SB.size d ≤ (⟨2, ![512, 768]⟩ : Shape).size d) (z : SB.Idx) :
    codeV (actV gu ![0, a] ![0, b] hs hs') (expV (searchV (topV (actV gu ![0, a] ![0, b] hs hs') hr hc))) hB z
      = H6 x w ((Rect.unit (s := ⟨2, ![512, 768]⟩) ![0, a] SB.size ic).emb z) := by
  have hz : z = ix2 (z 0 : Fin 512) (z 1 : Fin 128) := eq_ix2 z
  have z1 : (z 1).val < 128 := (z 1).isLt
  rw [hz]
  refine (group_code gu x w hgu j a b ha hb hs hs' hr hc hB (z 0) (z 1)).trans ?_
  unfold H6
  have e0 : ((Rect.unit (s := ⟨2, ![512, 768]⟩) ![0, a] SB.size ic).emb (ix2 (z 0 : Fin 512) (z 1 : Fin 128))) 0 = (z 0 : Fin 512) := by
    apply Fin.ext; show 0 + 1 * (z 0).val = (z 0).val; omega
  have e1 : (((Rect.unit (s := ⟨2, ![512, 768]⟩) ![0, a] SB.size ic).emb (ix2 (z 0 : Fin 512) (z 1 : Fin 128))) 1).val = a + (z 1).val := by
    show a + 1 * (z 1).val = a + (z 1).val; omega
  have hj : (⟨(((Rect.unit (s := ⟨2, ![512, 768]⟩) ![0, a] SB.size ic).emb (ix2 (z 0 : Fin 512) (z 1 : Fin 128))) 1).val / 128,
      by rw [e1]; have := j.isLt; omega⟩ : Fin 6) = j := by apply Fin.ext; show _ / 128 = j.val; rw [e1]; omega
  have hl : (⟨(((Rect.unit (s := ⟨2, ![512, 768]⟩) ![0, a] SB.size ic).emb (ix2 (z 0 : Fin 512) (z 1 : Fin 128))) 1).val % 128,
      Nat.mod_lt _ (by norm_num)⟩ : Fin 128) = (z 1 : Fin 128) := by apply Fin.ext; show _ % 128 = (z 1).val; rw [e1]; omega
  exact congr (congr (congrArg (hCode x w) e0.symm) hj.symm) hl.symm

/-- The six columns of scales, chosen by lane. -/
def laneV (s0 s1 s2 s3 s4 s5 : FVec Ideal SC .f32) (hi : (⟨2, ![512, 6]⟩ : Shape).Iotas .tc 32 [1]) (hc : SC.ShapeCasts SC) (hb : SC.Broadcasts ⟨2, ![512, 6]⟩) :
    FVec Ideal ⟨2, ![512, 6]⟩ .f32 :=
  let lane := iota .tc ⟨2, ![512, 6]⟩ 32 [1] hi
  let col := fun s : FVec Ideal SC .f32 => broadcastTo (⟨2, ![512, 6]⟩ : Shape) (shapeCast SC s hc) hb
  let pick := fun (n : BitVec 32) s (o : FVec Ideal ⟨2, ![512, 6]⟩ .f32) => select (cmpi .eq lane (broadcast ⟨2, ![512, 6]⟩ n)) (col s) o
  pick 5#32 s5 (pick 4#32 s4 (pick 3#32 s3 (pick 2#32 s2 (pick 1#32 s1 (col s0)))))

/-- Lane `q` of row `r` holds the scale of group `q`. -/
theorem laneV_apply (s0 s1 s2 s3 s4 s5 : FVec Ideal SC .f32) (hi : (⟨2, ![512, 6]⟩ : Shape).Iotas .tc 32 [1]) (hc : SC.ShapeCasts SC)
    (hb : SC.Broadcasts ⟨2, ![512, 6]⟩) (x : (⟨2, ![512, 2048]⟩ : Shape).Idx → EReal) (w : (⟨2, ![2048, 1536]⟩ : Shape).Idx → EReal)
    (h0 : ∀ r : Fin 512, s0 (ix2 r 0) = hScale x w r 0) (h1 : ∀ r : Fin 512, s1 (ix2 r 0) = hScale x w r 1)
    (h2 : ∀ r : Fin 512, s2 (ix2 r 0) = hScale x w r 2) (h3 : ∀ r : Fin 512, s3 (ix2 r 0) = hScale x w r 3)
    (h4 : ∀ r : Fin 512, s4 (ix2 r 0) = hScale x w r 4) (h5 : ∀ r : Fin 512, s5 (ix2 r 0) = hScale x w r 5) :
    laneV s0 s1 s2 s3 s4 s5 hi hc hb = H7 x w := by
  funext y
  obtain ⟨r, q, rfl⟩ : ∃ (r : Fin 512) (q : Fin 6), y = ix2 r q := ⟨y 0, y 1, eq_ix2 y⟩
  have col : ∀ s : FVec Ideal SC .f32, broadcastTo (⟨2, ![512, 6]⟩ : Shape) (shapeCast SC s hc) hb (ix2 r q) = s (ix2 r 0) := fun s => by
    rw [shapeCast_self]
    exact broadcastTo_apply _ _ _ _ fun a => by
      match a with
      | ⟨0, _⟩ => rfl
      | ⟨1, _⟩ => rfl
  have lane : iota .tc ⟨2, ![512, 6]⟩ 32 [1] hi (ix2 r q) = BitVec.ofNat 32 q.val := by
    show BitVec.ofNat 32 (0 * 6 + q.val) = _
    rw [Nat.zero_mul, Nat.zero_add]
  have pick : ∀ (n : BitVec 32) (s : FVec Ideal SC .f32) (o : FVec Ideal ⟨2, ![512, 6]⟩ .f32),
      select (cmpi .eq (iota .tc ⟨2, ![512, 6]⟩ 32 [1] hi) (broadcast ⟨2, ![512, 6]⟩ n)) (broadcastTo (⟨2, ![512, 6]⟩ : Shape) (shapeCast SC s hc) hb) o (ix2 r q)
        = if BitVec.ofNat 32 q.val = n then s (ix2 r 0) else o (ix2 r q) := fun n s o => by
    show Scalar.select (IntOp.cmpi .eq (iota .tc ⟨2, ![512, 6]⟩ 32 [1] hi (ix2 r q)) n) (broadcastTo (⟨2, ![512, 6]⟩ : Shape) (shapeCast SC s hc) hb (ix2 r q)) (o (ix2 r q)) = _
    rw [lane, col]
    by_cases hq : BitVec.ofNat 32 q.val = n
    · subst hq; simp [Scalar.select, IntOp.cmpi]
    · simp [Scalar.select, IntOp.cmpi, beq_eq_false_iff_ne.mpr hq, hq]
  unfold laneV
  dsimp only
  rw [pick, pick, pick, pick, pick, col]
  show _ = hScale x w r q
  rw [h0, h1, h2, h3, h4, h5]
  have hall : ∀ q : Fin 6, q = 0 ∨ q = 1 ∨ q = 2 ∨ q = 3 ∨ q = 4 ∨ q = 5 := by decide
  rcases hall q with rfl | rfl | rfl | rfl | rfl | rfl <;> simp

end Cert.Proof.Quant
-- ==== Proof.Block.lean ====
module

public import proofs.«01_k».proof.Proof.Gen.SharedUpIdeal.Value
public import proofs.«01_k».proof.Proof.Pieces
public import proofs.«01_k».proof.Proof.Quant
public import Idealize.ShloMosaic.Lib.VecWindow

@[expose] public section

set_option maxRecDepth 16384

noncomputable section

/-! The two arrays the shared up projection keeps in scratch: the widened gate and up weights side by side, and the
dequantised rows of one block. -/

namespace Cert.Proof.SharedUp

open Idealize.ShloMosaic Idealize.ShloMosaic.ValueIdx Idealize.ShloMosaic.TcCoe Idealize.SL.Sem
open Cert.SharedUpIdeal Cert.SharedUpIdeal.Gen
open Cert.Proof.Pieces Cert.Proof.Quant

/-- Gate weights in columns below 768, up weights above, each code times its block's scale. -/
def WGU (x2 x3 : Vec Ideal S2048x768 .fp8e4m3) (x4 x5 : Vec Ideal S16x6 .f32) : Vec Ideal S2048x1536 .bf16 := fun y =>
  if h : (y 1).val < 768 then
    x2 (ix2 (y 0) (⟨(y 1).val, h⟩ : Fin 768)) * x4 (ix2 (⟨(y 0).val / 128, by have : (y 0).val < 2048 := (y 0).isLt; omega⟩ : Fin 16) (⟨(y 1).val / 128, by omega⟩ : Fin 6))
  else
    x3 (ix2 (y 0) (⟨(y 1).val - 768, by have : (y 1).val < 1536 := (y 1).isLt; omega⟩ : Fin 768))
      * x5 (ix2 (⟨(y 0).val / 128, by have : (y 0).val < 2048 := (y 0).isLt; omega⟩ : Fin 16) (⟨((y 1).val - 768) / 128, by have : (y 1).val < 1536 := (y 1).isLt; omega⟩ : Fin 6))

theorem wgu_gate (x2 x3 : Vec Ideal S2048x768 .fp8e4m3) (x4 x5 : Vec Ideal S16x6 .f32) (r : Fin 2048) (c : Fin 768) (g : Fin 16) (q : Fin 6)
    (d : Fin 1536) (hg : g.val = r.val / 128) (hq : q.val = c.val / 128) (hd : d.val = 0 + c.val) :
    WGU x2 x3 x4 x5 (ix2 r d) = x2 (ix2 r c) * x4 (ix2 g q) := by
  have hlt : ((ix2 r d : S2048x1536.Idx) 1).val < 768 := by show d.val < 768; omega
  unfold WGU
  rw [dif_pos hlt]
  refine congrArg₂ (· * ·) (congrArg x2 ?_) (congrArg x4 ?_)
  · funext a; apply Fin.ext
    match a with
    | ⟨0, _⟩ => rfl
    | ⟨1, _⟩ => show d.val = c.val; omega
  · funext a; apply Fin.ext
    match a with
    | ⟨0, _⟩ => show r.val / 128 = g.val; omega
    | ⟨1, _⟩ => show d.val / 128 = q.val; rw [hd, Nat.zero_add]; exact hq.symm

theorem wgu_up (x2 x3 : Vec Ideal S2048x768 .fp8e4m3) (x4 x5 : Vec Ideal S16x6 .f32) (r : Fin 2048) (c : Fin 768) (g : Fin 16) (q : Fin 6)
    (d : Fin 1536) (hg : g.val = r.val / 128) (hq : q.val = c.val / 128) (hd : d.val = 768 + c.val) :
    WGU x2 x3 x4 x5 (ix2 r d) = x3 (ix2 r c) * x5 (ix2 g q) := by
  have hlt : ¬((ix2 r d : S2048x1536.Idx) 1).val < 768 := by show ¬d.val < 768; omega
  unfold WGU
  rw [dif_neg hlt]
  refine congrArg₂ (· * ·) (congrArg x3 ?_) (congrArg x5 ?_)
  · funext a; apply Fin.ext
    match a with
    | ⟨0, _⟩ => rfl
    | ⟨1, _⟩ => show d.val - 768 = c.val; omega
  · funext a; apply Fin.ext
    match a with
    | ⟨0, _⟩ => show r.val / 128 = g.val; omega
    | ⟨1, _⟩ => show (d.val - 768) / 128 = q.val; rw [hd, Nat.add_sub_cancel_left]; exact hq.symm

/-- The dequantised rows. -/
def XW (x0 : Vec Ideal S512x2048 .fp8e4m3) (x1 : Vec Ideal S512x16 .f32) : Vec Ideal S512x2048 .bf16 := fun y =>
  x0 y * x1 (ix2 (y 0) (⟨(y 1).val / 128, by have : (y 1).val < 2048 := (y 1).isLt; omega⟩ : Fin 16))

theorem xw_eq (x0 : Vec Ideal S512x2048 .fp8e4m3) (x1 : Vec Ideal S512x16 .f32) (r : Fin 512) (c : Fin 2048) (q : Fin 16) (hq : q.val = c.val / 128) :
    XW x0 x1 (ix2 r c) = x0 (ix2 r c) * x1 (ix2 r q) := by
  unfold XW
  refine congrArg₂ (· * ·) rfl (congrArg x1 ?_)
  funext a; apply Fin.ext
  match a with
  | ⟨0, _⟩ => rfl
  | ⟨1, _⟩ => exact hq.symm

theorem off1 : ∀ k : Fin k0_t1_loop.trips, k0_off1 k = ![k.val, 0] := by decide +kernel
theorem off4 : ∀ k : Fin k0_t1_loop.trips, k0_off4 k = ![k.val, 1] := by decide +kernel
theorem off7 : ∀ k : Fin k0_t1_loop.trips, k0_off7 k = ![k.val, 2] := by decide +kernel
theorem off10 : ∀ k : Fin k0_t1_loop.trips, k0_off10 k = ![k.val, 3] := by decide +kernel
theorem off13 : ∀ k : Fin k0_t1_loop.trips, k0_off13 k = ![k.val, 4] := by decide +kernel
theorem off16 : ∀ k : Fin k0_t1_loop.trips, k0_off16 k = ![k.val, 5] := by decide +kernel
theorem off2 : ∀ k : Fin k0_t1_loop.trips, k0_off2 k = ![128 * k.val, 128 * 0] := by decide +kernel
theorem off5 : ∀ k : Fin k0_t1_loop.trips, k0_off5 k = ![128 * k.val, 128 * 1] := by decide +kernel
theorem off8 : ∀ k : Fin k0_t1_loop.trips, k0_off8 k = ![128 * k.val, 128 * 2] := by decide +kernel
theorem off11 : ∀ k : Fin k0_t1_loop.trips, k0_off11 k = ![128 * k.val, 128 * 3] := by decide +kernel
theorem off14 : ∀ k : Fin k0_t1_loop.trips, k0_off14 k = ![128 * k.val, 128 * 4] := by decide +kernel
theorem off17 : ∀ k : Fin k0_t1_loop.trips, k0_off17 k = ![128 * k.val, 128 * 5] := by decide +kernel
theorem off3 : ∀ k : Fin k0_t1_loop.trips, k0_off3 k = ![128 * k.val, 0 + 128 * 0] := by decide +kernel
theorem off6 : ∀ k : Fin k0_t1_loop.trips, k0_off6 k = ![128 * k.val, 0 + 128 * 1] := by decide +kernel
theorem off9 : ∀ k : Fin k0_t1_loop.trips, k0_off9 k = ![128 * k.val, 0 + 128 * 2] := by decide +kernel
theorem off12 : ∀ k : Fin k0_t1_loop.trips, k0_off12 k = ![128 * k.val, 0 + 128 * 3] := by decide +kernel
theorem off15 : ∀ k : Fin k0_t1_loop.trips, k0_off15 k = ![128 * k.val, 0 + 128 * 4] := by decide +kernel
theorem off18 : ∀ k : Fin k0_t1_loop.trips, k0_off18 k = ![128 * k.val, 0 + 128 * 5] := by decide +kernel
theorem off19 : ∀ k : Fin k0_t1_loop.trips, k0_off19 k = ![128 * k.val, 768 + 128 * 0] := by decide +kernel
theorem off20 : ∀ k : Fin k0_t1_loop.trips, k0_off20 k = ![128 * k.val, 768 + 128 * 1] := by decide +kernel
theorem off21 : ∀ k : Fin k0_t1_loop.trips, k0_off21 k = ![128 * k.val, 768 + 128 * 2] := by decide +kernel
theorem off22 : ∀ k : Fin k0_t1_loop.trips, k0_off22 k = ![128 * k.val, 768 + 128 * 3] := by decide +kernel
theorem off23 : ∀ k : Fin k0_t1_loop.trips, k0_off23 k = ![128 * k.val, 768 + 128 * 4] := by decide +kernel
theorem off24 : ∀ k : Fin k0_t1_loop.trips, k0_off24 k = ![128 * k.val, 768 + 128 * 5] := by decide +kernel

section

variable (c : Dev nD) (i : grid0.Coords) (arg1 : Memref sig .tc .vmem S512x2048 .fp8e4m3) (harg1 : arg1.IsWhole) (arg2 : Memref sig .tc .vmem S512x16 .f32) (harg2 : arg2.IsWhole) (arg3 : Memref sig .tc .vmem S2048x768 .fp8e4m3) (harg3 : arg3.IsWhole) (arg4 : Memref sig .tc .vmem S2048x768 .fp8e4m3) (harg4 : arg4.IsWhole) (arg5 : Memref sig .tc .smem S16x6 .f32) (harg5 : arg5.IsWhole) (arg6 : Memref sig .tc .smem S16x6 .f32) (harg6 : arg6.IsWhole) (arg7 : Memref sig .tc .vmem S512x768 .fp8e4m3) (harg7 : arg7.IsWhole) (arg8 : Memref sig .tc .vmem S512x6 .f32) (harg8 : arg8.IsWhole) (arg9 : Memref sig .tc .vmem S2048x1536 .bf16) (harg9 : arg9.IsWhole) (arg10 : Memref sig .tc .vmem S512x2048 .bf16) (harg10 : arg10.IsWhole)

/-- Every block of one trip over the weight rows lands where the widened weights have it. -/
theorem trip_pieces (h1 : k0_cond1 i = 1#1) (x2 x3 : Vec Ideal S2048x768 .fp8e4m3) (x4 x5 : Vec Ideal S16x6 .f32) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 h1 (harg3.unread x2) (harg4.unread x3) (harg5.unread x4) (harg6.unread x5) k,
      ∀ x : p.1.shape.Idx, p.2 x = WGU x2 x3 x4 x5 (p.1.emb x) := by
  unfold tripL_k0_t1 trip_k0_t1
  dsimp only
  intro p hp
  simp only [List.mem_cons, List.not_mem_nil, or_false] at hp
  rcases hp with rfl|rfl|rfl|rfl|rfl|rfl|rfl|rfl|rfl|rfl|rfl|rfl <;> intro x <;> dsimp only
  · exact wV_piece arg4 harg4 arg6 harg6 x3 x5 (WGU x2 x3 x4 x5) 768 (wgu_up x2 x3 x4 x5) _ _ _ k.val 5 (off17 k) (off16 k) (off24 k) _ _ _ _ _ _ _ x
  · exact wV_piece arg4 harg4 arg6 harg6 x3 x5 (WGU x2 x3 x4 x5) 768 (wgu_up x2 x3 x4 x5) _ _ _ k.val 4 (off14 k) (off13 k) (off23 k) _ _ _ _ _ _ _ x
  · exact wV_piece arg4 harg4 arg6 harg6 x3 x5 (WGU x2 x3 x4 x5) 768 (wgu_up x2 x3 x4 x5) _ _ _ k.val 3 (off11 k) (off10 k) (off22 k) _ _ _ _ _ _ _ x
  · exact wV_piece arg4 harg4 arg6 harg6 x3 x5 (WGU x2 x3 x4 x5) 768 (wgu_up x2 x3 x4 x5) _ _ _ k.val 2 (off8 k) (off7 k) (off21 k) _ _ _ _ _ _ _ x
  · exact wV_piece arg4 harg4 arg6 harg6 x3 x5 (WGU x2 x3 x4 x5) 768 (wgu_up x2 x3 x4 x5) _ _ _ k.val 1 (off5 k) (off4 k) (off20 k) _ _ _ _ _ _ _ x
  · exact wV_piece arg4 harg4 arg6 harg6 x3 x5 (WGU x2 x3 x4 x5) 768 (wgu_up x2 x3 x4 x5) _ _ _ k.val 0 (off2 k) (off1 k) (off19 k) _ _ _ _ _ _ _ x
  · exact wV_piece arg3 harg3 arg5 harg5 x2 x4 (WGU x2 x3 x4 x5) 0 (wgu_gate x2 x3 x4 x5) _ _ _ k.val 5 (off17 k) (off16 k) (off18 k) _ _ _ _ _ _ _ x
  · exact wV_piece arg3 harg3 arg5 harg5 x2 x4 (WGU x2 x3 x4 x5) 0 (wgu_gate x2 x3 x4 x5) _ _ _ k.val 4 (off14 k) (off13 k) (off15 k) _ _ _ _ _ _ _ x
  · exact wV_piece arg3 harg3 arg5 harg5 x2 x4 (WGU x2 x3 x4 x5) 0 (wgu_gate x2 x3 x4 x5) _ _ _ k.val 3 (off11 k) (off10 k) (off12 k) _ _ _ _ _ _ _ x
  · exact wV_piece arg3 harg3 arg5 harg5 x2 x4 (WGU x2 x3 x4 x5) 0 (wgu_gate x2 x3 x4 x5) _ _ _ k.val 2 (off8 k) (off7 k) (off9 k) _ _ _ _ _ _ _ x
  · exact wV_piece arg3 harg3 arg5 harg5 x2 x4 (WGU x2 x3 x4 x5) 0 (wgu_gate x2 x3 x4 x5) _ _ _ k.val 1 (off5 k) (off4 k) (off6 k) _ _ _ _ _ _ _ x
  · exact wV_piece arg3 harg3 arg5 harg5 x2 x4 (WGU x2 x3 x4 x5) 0 (wgu_gate x2 x3 x4 x5) _ _ _ k.val 0 (off2 k) (off1 k) (off3 k) _ _ _ _ _ _ _ x

/-- So does every block written before trip `n`. -/
theorem loop_pieces (h1 : k0_cond1 i = 1#1) (x2 x3 : Vec Ideal S2048x768 .fp8e4m3) (x4 x5 : Vec Ideal S16x6 .f32) :
    ∀ n : ℕ, ∀ p ∈ pb_k0_t1 (F := Ideal) Variants.none c none i arg1 harg1 arg2 harg2 arg3 harg3 arg4 harg4 arg5 harg5 arg6 harg6 arg7 harg7 arg8 harg8 arg9 harg9 arg10 harg10 h1 (harg3.unread x2) (harg4.unread x3) (harg5.unread x4) (harg6.unread x5) n,
      ∀ x : p.1.shape.Idx, p.2 x = WGU x2 x3 x4 x5 (p.1.emb x)
  | 0, p, hp, _ => absurd hp List.not_mem_nil
  | n + 1, p, hp, x => by
    rw [pb_k0_t1.eq_2] at hp
    unfold pb_k0_t1Step at hp
    split at hp
    · rcases List.mem_append.mp hp with h | h
      · exact trip_pieces c i arg1 harg1 arg2 harg2 arg3 harg3 arg4 harg4 arg5 harg5 arg6 harg6 arg7 harg7 arg8 harg8 arg9 harg9 arg10 harg10 h1 x2 x3 x4 x5 _ p h x
      · exact loop_pieces h1 x2 x3 x4 x5 n p h x
    · exact loop_pieces h1 x2 x3 x4 x5 n p hp x

/-- The first point leaves the widened weights in scratch. -/
theorem sout_A (hc0 : cond0_0 i) (x0 : Vec Ideal S512x2048 .fp8e4m3) (x1 : Vec Ideal S512x16 .f32) (x2 x3 : Vec Ideal S2048x768 .fp8e4m3) (x4 x5 : Vec Ideal S16x6 .f32) :
    sout0_A_0 (F := Ideal) c i arg1 harg1 arg2 harg2 arg3 harg3 arg4 harg4 arg5 harg5 arg6 harg6 arg7 harg7 arg8 harg8 arg9 harg9 arg10 harg10 hc0 x0 x1 x2 x3 x4 x5 = WGU x2 x3 x4 x5 := by
  funext y
  unfold sout0_A_0
  exact View.read_writes_apply_of_pieces _ _ (WGU x2 x3 x4 x5) _
    (loop_pieces c i arg1 harg1 arg2 harg2 arg3 harg3 arg4 harg4 arg5 harg5 arg6 harg6 arg7 harg7 arg8 harg8 arg9 harg9 arg10 harg10 hc0 x2 x3 x4 x5 _) y (scover0_A_0 c i arg1 harg1 arg2 harg2 arg3 harg3 arg4 harg4 arg5 harg5 arg6 harg6 arg7 harg7 arg8 harg8 arg9 harg9 arg10 harg10 hc0 x0 x1 x2 x3 x4 x5 y)

/-- Every activation block lands where the dequantised rows have it. -/
theorem x_pieces (x0 : Vec Ideal S512x2048 .fp8e4m3) (x1 : Vec Ideal S512x16 .f32) :
    ∀ p ∈ kernelRun0_B.sl.HS1_16 (F := Ideal) c arg1 harg1 arg2 harg2 x0 x1, ∀ x : p.1.shape.Idx, p.2 x = XW x0 x1 (p.1.emb x) := by
  unfold kernelRun0_B.sl.HS1_16
  intro p hp
  simp only [List.mem_cons, List.not_mem_nil, or_false] at hp
  rcases hp with rfl|rfl|rfl|rfl|rfl|rfl|rfl|rfl|rfl|rfl|rfl|rfl|rfl|rfl|rfl|rfl <;> intro x <;> dsimp only
  · exact xV_piece arg1 harg1 arg2 harg2 x0 x1 (XW x0 x1) (xw_eq x0 x1) _ 15 rfl _ _ _ _ _ _ x
  · exact xV_piece arg1 harg1 arg2 harg2 x0 x1 (XW x0 x1) (xw_eq x0 x1) _ 14 rfl _ _ _ _ _ _ x
  · exact xV_piece arg1 harg1 arg2 harg2 x0 x1 (XW x0 x1) (xw_eq x0 x1) _ 13 rfl _ _ _ _ _ _ x
  · exact xV_piece arg1 harg1 arg2 harg2 x0 x1 (XW x0 x1) (xw_eq x0 x1) _ 12 rfl _ _ _ _ _ _ x
  · exact xV_piece arg1 harg1 arg2 harg2 x0 x1 (XW x0 x1) (xw_eq x0 x1) _ 11 rfl _ _ _ _ _ _ x
  · exact xV_piece arg1 harg1 arg2 harg2 x0 x1 (XW x0 x1) (xw_eq x0 x1) _ 10 rfl _ _ _ _ _ _ x
  · exact xV_piece arg1 harg1 arg2 harg2 x0 x1 (XW x0 x1) (xw_eq x0 x1) _ 9 rfl _ _ _ _ _ _ x
  · exact xV_piece arg1 harg1 arg2 harg2 x0 x1 (XW x0 x1) (xw_eq x0 x1) _ 8 rfl _ _ _ _ _ _ x
  · exact xV_piece arg1 harg1 arg2 harg2 x0 x1 (XW x0 x1) (xw_eq x0 x1) _ 7 rfl _ _ _ _ _ _ x
  · exact xV_piece arg1 harg1 arg2 harg2 x0 x1 (XW x0 x1) (xw_eq x0 x1) _ 6 rfl _ _ _ _ _ _ x
  · exact xV_piece arg1 harg1 arg2 harg2 x0 x1 (XW x0 x1) (xw_eq x0 x1) _ 5 rfl _ _ _ _ _ _ x
  · exact xV_piece arg1 harg1 arg2 harg2 x0 x1 (XW x0 x1) (xw_eq x0 x1) _ 4 rfl _ _ _ _ _ _ x
  · exact xV_piece arg1 harg1 arg2 harg2 x0 x1 (XW x0 x1) (xw_eq x0 x1) _ 3 rfl _ _ _ _ _ _ x
  · exact xV_piece arg1 harg1 arg2 harg2 x0 x1 (XW x0 x1) (xw_eq x0 x1) _ 2 rfl _ _ _ _ _ _ x
  · exact xV_piece arg1 harg1 arg2 harg2 x0 x1 (XW x0 x1) (xw_eq x0 x1) _ 1 rfl _ _ _ _ _ _ x
  · exact xV_piece arg1 harg1 arg2 harg2 x0 x1 (XW x0 x1) (xw_eq x0 x1) _ 0 rfl _ _ _ _ _ _ x

/-- The product's left operand: the dequantised rows of the block. -/
theorem rows_B (x0 : Vec Ideal S512x2048 .fp8e4m3) (x1 : Vec Ideal S512x16 .f32) :
    kernelRun0_B.sl.v147 (F := Ideal) c arg1 harg1 arg2 harg2 arg10 x0 x1 = XW x0 x1 := by
  unfold kernelRun0_B.sl.v147
  show View.readAt _ _ _ (View.writes _ _ _ _) = _
  rw [View.readAt_full]
  funext y
  exact View.read_writes_apply_of_pieces _ _ (XW x0 x1) _ (x_pieces c arg1 harg1 arg2 harg2 x0 x1) y
    (View.cover_of_tiledL (s := S512x2048) _ S512x128.size (by sl_kernel_rfl) y)

theorem rows_A (x0 : Vec Ideal S512x2048 .fp8e4m3) (x1 : Vec Ideal S512x16 .f32) :
    kernelRun0_A.sl.v147 (F := Ideal) c arg1 harg1 arg2 harg2 arg10 x0 x1 = XW x0 x1 := by
  unfold kernelRun0_A.sl.v147
  show View.readAt _ _ _ (View.writes _ _ _ _) = _
  rw [View.readAt_full]
  funext y
  exact View.read_writes_apply_of_pieces _ _ (XW x0 x1) _ (x_pieces c arg1 harg1 arg2 harg2 x0 x1) y
    (View.cover_of_tiledL (s := S512x2048) _ S512x128.size (by sl_kernel_rfl) y)

/-- The product's right operand: the widened weights, just written or carried. -/
theorem weights_A (hc0 : cond0_0 i) (x2 x3 : Vec Ideal S2048x768 .fp8e4m3) (x4 x5 : Vec Ideal S16x6 .f32) :
    arg9.view.readCov (Val := Elt Ideal) (pb_k0_t1 Variants.none c none i arg1 harg1 arg2 harg2 arg3 harg3 arg4 harg4 arg5 harg5 arg6 harg6 arg7 harg7 arg8 harg8 arg9 harg9 arg10 harg10 hc0 (harg3.unread x2) (harg4.unread x3) (harg5.unread x4) (harg6.unread x5) (Scf.trips k0_t1_loop.lb k0_t1_loop.ub k0_t1_loop.st))
      (Rect.unit ![0, 0] S2048x1536.size inb_S2048x1536_S2048x1536_0_0).toLoadRect = WGU x2 x3 x4 x5 := by
  show View.readAt _ _ _ (View.writes _ _ _ _) = _
  rw [View.readAt_full]
  funext y
  exact View.read_writes_apply_of_pieces _ _ (WGU x2 x3 x4 x5) _ (loop_pieces c i arg1 harg1 arg2 harg2 arg3 harg3 arg4 harg4 arg5 harg5 arg6 harg6 arg7 harg7 arg8 harg8 arg9 harg9 arg10 harg10 hc0 x2 x3 x4 x5 _) y
    (View.cover_of_tiledL (s := S2048x1536) _ S128x128.size (by sl_kernel_rfl) y)

theorem weights_B (xs0 : Vec Ideal S2048x1536 .bf16) :
    View.readAt (Elt Ideal) arg9.view (Rect.unit ![0, 0] S2048x1536.size inb_S2048x1536_S2048x1536_0_0).toLoadRect (harg9.unread xs0) = xs0 := by
  rw [View.readAt_full, harg9.read_unread]

end

end Cert.Proof.SharedUp
-- ==== Proof.Out.lean ====
module

public import proofs.«01_k».proof.Proof.Block

@[expose] public section

set_option maxRecDepth 16384

noncomputable section

/-! What the shared up projection's body leaves in its two outputs, at the first point and at the later ones. -/

namespace Cert.Proof.SharedUp

open Idealize.ShloMosaic Idealize.ShloMosaic.ValueIdx Idealize.ShloMosaic.TcCoe Idealize.SL.Sem
open Cert.SharedUpIdeal Cert.SharedUpIdeal.Gen
open Cert.Proof.Pieces Cert.Proof.Quant

variable (c : Dev nD) (i : grid0.Coords) (arg1 : Memref sig .tc .vmem S512x2048 .fp8e4m3) (harg1 : arg1.IsWhole) (arg2 : Memref sig .tc .vmem S512x16 .f32) (harg2 : arg2.IsWhole) (arg3 : Memref sig .tc .vmem S2048x768 .fp8e4m3) (harg3 : arg3.IsWhole) (arg4 : Memref sig .tc .vmem S2048x768 .fp8e4m3) (harg4 : arg4.IsWhole) (arg5 : Memref sig .tc .smem S16x6 .f32) (harg5 : arg5.IsWhole) (arg6 : Memref sig .tc .smem S16x6 .f32) (harg6 : arg6.IsWhole) (arg7 : Memref sig .tc .vmem S512x768 .fp8e4m3) (harg7 : arg7.IsWhole) (arg8 : Memref sig .tc .vmem S512x6 .f32) (harg8 : arg8.IsWhole) (arg9 : Memref sig .tc .vmem S2048x1536 .bf16) (harg9 : arg9.IsWhole) (arg10 : Memref sig .tc .vmem S512x2048 .bf16) (harg10 : arg10.IsWhole)
  (x0 : Vec Ideal S512x2048 .fp8e4m3) (x1 : Vec Ideal S512x16 .f32) (x2 x3 : Vec Ideal S2048x768 .fp8e4m3) (x4 x5 : Vec Ideal S16x6 .f32)
  (xs0 : Vec Ideal S2048x1536 .bf16)

/-- The product of the block's rows with the gate and up weights. -/
theorem gu_B  (r : Fin 512) (q : Fin 1536) :
    kernelRun0_B.sl.r_3 (F := Ideal) c arg1 harg1 arg2 harg2 arg9 harg9 arg10 x0 x1 xs0 (ix2 r q) = row (XW x0 x1) (xs0) r q := by
  unfold kernelRun0_B.sl.r_3
  rw [rows_B, weights_B]
  unfold k0_pay35
  exact matmul_row _ rfl _ _ r q

/-- The codes the body leaves. -/
theorem out6_B (hc0 : ¬cond0_0 i) :
    out0_B_6 (F := Ideal) c i arg1 harg1 arg2 harg2 arg3 harg3 arg4 harg4 arg5 harg5 arg6 harg6 arg7 harg7 arg8 harg8 arg9 harg9 arg10 harg10 hc0 x0 x1 x2 x3 x4 x5 xs0 = H6 (XW x0 x1) (xs0) := by
  funext y
  unfold out0_B_6
  refine View.read_writes_apply_of_pieces _ _ (H6 (XW x0 x1) (xs0)) _ ?_ y (cover0_B_6 c i arg1 harg1 arg2 harg2 arg3 harg3 arg4 harg4 arg5 harg5 arg6 harg6 arg7 harg7 arg8 harg8 arg9 harg9 arg10 harg10 hc0 x0 x1 x2 x3 x4 x5 xs0 y)
  unfold kernelRun0_B
  dsimp only
  intro p hp
  simp only [List.mem_cons, List.not_mem_nil, or_false] at hp
  rcases hp with rfl|rfl|rfl|rfl|rfl|rfl <;> intro z <;> dsimp only
  · exact code_piece (kernelRun0_B.sl.r_3 (F := Ideal) c arg1 harg1 arg2 harg2 arg9 harg9 arg10 x0 x1 xs0) (XW x0 x1) (xs0) (gu_B c arg1 harg1 arg2 harg2 arg9 harg9 arg10 x0 x1 xs0) 5 640 1408 rfl rfl slices_S512x1536_o0_640_S512x128 slices_S512x1536_o0_1408_S512x128 reduces_S512x128_S512 shapeCasts_S512_S512x1 broadcasts_S512x1_S512x128 _ z
  · exact code_piece (kernelRun0_B.sl.r_3 (F := Ideal) c arg1 harg1 arg2 harg2 arg9 harg9 arg10 x0 x1 xs0) (XW x0 x1) (xs0) (gu_B c arg1 harg1 arg2 harg2 arg9 harg9 arg10 x0 x1 xs0) 4 512 1280 rfl rfl slices_S512x1536_o0_512_S512x128 slices_S512x1536_o0_1280_S512x128 reduces_S512x128_S512 shapeCasts_S512_S512x1 broadcasts_S512x1_S512x128 _ z
  · exact code_piece (kernelRun0_B.sl.r_3 (F := Ideal) c arg1 harg1 arg2 harg2 arg9 harg9 arg10 x0 x1 xs0) (XW x0 x1) (xs0) (gu_B c arg1 harg1 arg2 harg2 arg9 harg9 arg10 x0 x1 xs0) 3 384 1152 rfl rfl slices_S512x1536_o0_384_S512x128 slices_S512x1536_o0_1152_S512x128 reduces_S512x128_S512 shapeCasts_S512_S512x1 broadcasts_S512x1_S512x128 _ z
  · exact code_piece (kernelRun0_B.sl.r_3 (F := Ideal) c arg1 harg1 arg2 harg2 arg9 harg9 arg10 x0 x1 xs0) (XW x0 x1) (xs0) (gu_B c arg1 harg1 arg2 harg2 arg9 harg9 arg10 x0 x1 xs0) 2 256 1024 rfl rfl slices_S512x1536_o0_256_S512x128 slices_S512x1536_o0_1024_S512x128 reduces_S512x128_S512 shapeCasts_S512_S512x1 broadcasts_S512x1_S512x128 _ z
  · exact code_piece (kernelRun0_B.sl.r_3 (F := Ideal) c arg1 harg1 arg2 harg2 arg9 harg9 arg10 x0 x1 xs0) (XW x0 x1) (xs0) (gu_B c arg1 harg1 arg2 harg2 arg9 harg9 arg10 x0 x1 xs0) 1 128 896 rfl rfl slices_S512x1536_o0_128_S512x128 slices_S512x1536_o0_896_S512x128 reduces_S512x128_S512 shapeCasts_S512_S512x1 broadcasts_S512x1_S512x128 _ z
  · exact code_piece (kernelRun0_B.sl.r_3 (F := Ideal) c arg1 harg1 arg2 harg2 arg9 harg9 arg10 x0 x1 xs0) (XW x0 x1) (xs0) (gu_B c arg1 harg1 arg2 harg2 arg9 harg9 arg10 x0 x1 xs0) 0 0 768 rfl rfl slices_S512x1536_o0_0_S512x128 slices_S512x1536_o0_768_S512x128 reduces_S512x128_S512 shapeCasts_S512_S512x1 broadcasts_S512x1_S512x128 _ z

/-- The scales the body leaves. -/
theorem out7_B (hc0 : ¬cond0_0 i) :
    out0_B_7 (F := Ideal) c i arg1 harg1 arg2 harg2 arg3 harg3 arg4 harg4 arg5 harg5 arg6 harg6 arg7 harg7 arg8 harg8 arg9 harg9 arg10 harg10 hc0 x0 x1 x2 x3 x4 x5 xs0 = H7 (XW x0 x1) (xs0) := by
  have e : out0_B_7 (F := Ideal) c i arg1 harg1 arg2 harg2 arg3 harg3 arg4 harg4 arg5 harg5 arg6 harg6 arg7 harg7 arg8 harg8 arg9 harg9 arg10 harg10 hc0 x0 x1 x2 x3 x4 x5 xs0 = k0_pay1 (kernelRun0_B.sl.r_12 (F := Ideal) c arg1 harg1 arg2 harg2 arg9 harg9 arg10 x0 x1 xs0) (kernelRun0_B.sl.r_19 (F := Ideal) c arg1 harg1 arg2 harg2 arg9 harg9 arg10 x0 x1 xs0) (kernelRun0_B.sl.r_26 (F := Ideal) c arg1 harg1 arg2 harg2 arg9 harg9 arg10 x0 x1 xs0) (kernelRun0_B.sl.r_33 (F := Ideal) c arg1 harg1 arg2 harg2 arg9 harg9 arg10 x0 x1 xs0) (kernelRun0_B.sl.r_41 (F := Ideal) c arg1 harg1 arg2 harg2 arg9 harg9 arg10 x0 x1 xs0) (kernelRun0_B.sl.r_49 (F := Ideal) c arg1 harg1 arg2 harg2 arg9 harg9 arg10 x0 x1 xs0) := by
    unfold out0_B_7 kernelRun0_B
    dsimp only
    exact View.read_writes_full _ _ _ _ _
  rw [e]
  exact laneV_apply (kernelRun0_B.sl.r_12 (F := Ideal) c arg1 harg1 arg2 harg2 arg9 harg9 arg10 x0 x1 xs0) (kernelRun0_B.sl.r_19 (F := Ideal) c arg1 harg1 arg2 harg2 arg9 harg9 arg10 x0 x1 xs0) (kernelRun0_B.sl.r_26 (F := Ideal) c arg1 harg1 arg2 harg2 arg9 harg9 arg10 x0 x1 xs0) (kernelRun0_B.sl.r_33 (F := Ideal) c arg1 harg1 arg2 harg2 arg9 harg9 arg10 x0 x1 xs0) (kernelRun0_B.sl.r_41 (F := Ideal) c arg1 harg1 arg2 harg2 arg9 harg9 arg10 x0 x1 xs0) (kernelRun0_B.sl.r_49 (F := Ideal) c arg1 harg1 arg2 harg2 arg9 harg9 arg10 x0 x1 xs0) _ shapeCasts_S512x1_S512x1 broadcasts_S512x1_S512x6 (XW x0 x1) (xs0) (fun r => group_scale (kernelRun0_B.sl.r_3 (F := Ideal) c arg1 harg1 arg2 harg2 arg9 harg9 arg10 x0 x1 xs0) (XW x0 x1) (xs0) (gu_B c arg1 harg1 arg2 harg2 arg9 harg9 arg10 x0 x1 xs0) 0 0 768 rfl rfl slices_S512x1536_o0_0_S512x128 slices_S512x1536_o0_768_S512x128 reduces_S512x128_S512 shapeCasts_S512_S512x1 r) (fun r => group_scale (kernelRun0_B.sl.r_3 (F := Ideal) c arg1 harg1 arg2 harg2 arg9 harg9 arg10 x0 x1 xs0) (XW x0 x1) (xs0) (gu_B c arg1 harg1 arg2 harg2 arg9 harg9 arg10 x0 x1 xs0) 1 128 896 rfl rfl slices_S512x1536_o0_128_S512x128 slices_S512x1536_o0_896_S512x128 reduces_S512x128_S512 shapeCasts_S512_S512x1 r) (fun r => group_scale (kernelRun0_B.sl.r_3 (F := Ideal) c arg1 harg1 arg2 harg2 arg9 harg9 arg10 x0 x1 xs0) (XW x0 x1) (xs0) (gu_B c arg1 harg1 arg2 harg2 arg9 harg9 arg10 x0 x1 xs0) 2 256 1024 rfl rfl slices_S512x1536_o0_256_S512x128 slices_S512x1536_o0_1024_S512x128 reduces_S512x128_S512 shapeCasts_S512_S512x1 r) (fun r => group_scale (kernelRun0_B.sl.r_3 (F := Ideal) c arg1 harg1 arg2 harg2 arg9 harg9 arg10 x0 x1 xs0) (XW x0 x1) (xs0) (gu_B c arg1 harg1 arg2 harg2 arg9 harg9 arg10 x0 x1 xs0) 3 384 1152 rfl rfl slices_S512x1536_o0_384_S512x128 slices_S512x1536_o0_1152_S512x128 reduces_S512x128_S512 shapeCasts_S512_S512x1 r) (fun r => group_scale (kernelRun0_B.sl.r_3 (F := Ideal) c arg1 harg1 arg2 harg2 arg9 harg9 arg10 x0 x1 xs0) (XW x0 x1) (xs0) (gu_B c arg1 harg1 arg2 harg2 arg9 harg9 arg10 x0 x1 xs0) 4 512 1280 rfl rfl slices_S512x1536_o0_512_S512x128 slices_S512x1536_o0_1280_S512x128 reduces_S512x128_S512 shapeCasts_S512_S512x1 r) (fun r => group_scale (kernelRun0_B.sl.r_3 (F := Ideal) c arg1 harg1 arg2 harg2 arg9 harg9 arg10 x0 x1 xs0) (XW x0 x1) (xs0) (gu_B c arg1 harg1 arg2 harg2 arg9 harg9 arg10 x0 x1 xs0) 5 640 1408 rfl rfl slices_S512x1536_o0_640_S512x128 slices_S512x1536_o0_1408_S512x128 reduces_S512x128_S512 shapeCasts_S512_S512x1 r)

/-- The product of the block's rows with the gate and up weights. -/
theorem gu_A (hc0 : cond0_0 i) (r : Fin 512) (q : Fin 1536) :
    kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5 (ix2 r q) = row (XW x0 x1) (WGU x2 x3 x4 x5) r q := by
  unfold kernelRun0_A.sl.r_3
  rw [rows_A, weights_A]
  unfold k0_pay35
  exact matmul_row _ rfl _ _ r q

/-- The codes the body leaves. -/
theorem out6_A (hc0 : cond0_0 i) :
    out0_A_6 (F := Ideal) c i arg1 harg1 arg2 harg2 arg3 harg3 arg4 harg4 arg5 harg5 arg6 harg6 arg7 harg7 arg8 harg8 arg9 harg9 arg10 harg10 hc0 x0 x1 x2 x3 x4 x5 = H6 (XW x0 x1) (WGU x2 x3 x4 x5) := by
  funext y
  unfold out0_A_6
  refine View.read_writes_apply_of_pieces _ _ (H6 (XW x0 x1) (WGU x2 x3 x4 x5)) _ ?_ y (cover0_A_6 c i arg1 harg1 arg2 harg2 arg3 harg3 arg4 harg4 arg5 harg5 arg6 harg6 arg7 harg7 arg8 harg8 arg9 harg9 arg10 harg10 hc0 x0 x1 x2 x3 x4 x5 y)
  unfold kernelRun0_A
  dsimp only
  intro p hp
  simp only [List.mem_cons, List.not_mem_nil, or_false] at hp
  rcases hp with rfl|rfl|rfl|rfl|rfl|rfl <;> intro z <;> dsimp only
  · exact code_piece (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 5 640 1408 rfl rfl slices_S512x1536_o0_640_S512x128 slices_S512x1536_o0_1408_S512x128 reduces_S512x128_S512 shapeCasts_S512_S512x1 broadcasts_S512x1_S512x128 _ z
  · exact code_piece (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 4 512 1280 rfl rfl slices_S512x1536_o0_512_S512x128 slices_S512x1536_o0_1280_S512x128 reduces_S512x128_S512 shapeCasts_S512_S512x1 broadcasts_S512x1_S512x128 _ z
  · exact code_piece (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 3 384 1152 rfl rfl slices_S512x1536_o0_384_S512x128 slices_S512x1536_o0_1152_S512x128 reduces_S512x128_S512 shapeCasts_S512_S512x1 broadcasts_S512x1_S512x128 _ z
  · exact code_piece (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 2 256 1024 rfl rfl slices_S512x1536_o0_256_S512x128 slices_S512x1536_o0_1024_S512x128 reduces_S512x128_S512 shapeCasts_S512_S512x1 broadcasts_S512x1_S512x128 _ z
  · exact code_piece (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 1 128 896 rfl rfl slices_S512x1536_o0_128_S512x128 slices_S512x1536_o0_896_S512x128 reduces_S512x128_S512 shapeCasts_S512_S512x1 broadcasts_S512x1_S512x128 _ z
  · exact code_piece (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 0 0 768 rfl rfl slices_S512x1536_o0_0_S512x128 slices_S512x1536_o0_768_S512x128 reduces_S512x128_S512 shapeCasts_S512_S512x1 broadcasts_S512x1_S512x128 _ z

/-- The scales the body leaves. -/
theorem out7_A (hc0 : cond0_0 i) :
    out0_A_7 (F := Ideal) c i arg1 harg1 arg2 harg2 arg3 harg3 arg4 harg4 arg5 harg5 arg6 harg6 arg7 harg7 arg8 harg8 arg9 harg9 arg10 harg10 hc0 x0 x1 x2 x3 x4 x5 = H7 (XW x0 x1) (WGU x2 x3 x4 x5) := by
  have e : out0_A_7 (F := Ideal) c i arg1 harg1 arg2 harg2 arg3 harg3 arg4 harg4 arg5 harg5 arg6 harg6 arg7 harg7 arg8 harg8 arg9 harg9 arg10 harg10 hc0 x0 x1 x2 x3 x4 x5 = k0_pay1 (kernelRun0_A.sl.r_12 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_19 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_26 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_33 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_41 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_49 (F := Ideal) c i arg1 harg1 arg2 harg2 arg3 harg3 arg4 harg4 arg5 harg5 arg6 harg6 arg7 harg7 arg8 harg8 arg9 harg9 arg10 harg10 hc0 x0 x1 x2 x3 x4 x5) := by
    unfold out0_A_7 kernelRun0_A
    dsimp only
    exact View.read_writes_full _ _ _ _ _
  rw [e]
  exact laneV_apply (kernelRun0_A.sl.r_12 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_19 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_26 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_33 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_41 (F := Ideal) c i arg1 harg1 arg2 harg2 arg3 harg3 arg4 harg4 arg5 harg5 arg6 harg6 arg7 harg7 arg8 harg8 arg9 harg9 arg10 harg10 hc0 x0 x1 x2 x3 x4 x5) (kernelRun0_A.sl.r_49 (F := Ideal) c i arg1 harg1 arg2 harg2 arg3 harg3 arg4 harg4 arg5 harg5 arg6 harg6 arg7 harg7 arg8 harg8 arg9 harg9 arg10 harg10 hc0 x0 x1 x2 x3 x4 x5) _ shapeCasts_S512x1_S512x1 broadcasts_S512x1_S512x6 (XW x0 x1) (WGU x2 x3 x4 x5) (fun r => group_scale (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 0 0 768 rfl rfl slices_S512x1536_o0_0_S512x128 slices_S512x1536_o0_768_S512x128 reduces_S512x128_S512 shapeCasts_S512_S512x1 r) (fun r => group_scale (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 1 128 896 rfl rfl slices_S512x1536_o0_128_S512x128 slices_S512x1536_o0_896_S512x128 reduces_S512x128_S512 shapeCasts_S512_S512x1 r) (fun r => group_scale (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 2 256 1024 rfl rfl slices_S512x1536_o0_256_S512x128 slices_S512x1536_o0_1024_S512x128 reduces_S512x128_S512 shapeCasts_S512_S512x1 r) (fun r => group_scale (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 3 384 1152 rfl rfl slices_S512x1536_o0_384_S512x128 slices_S512x1536_o0_1152_S512x128 reduces_S512x128_S512 shapeCasts_S512_S512x1 r) (fun r => group_scale (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 4 512 1280 rfl rfl slices_S512x1536_o0_512_S512x128 slices_S512x1536_o0_1280_S512x128 reduces_S512x128_S512 shapeCasts_S512_S512x1 r) (fun r => group_scale (kernelRun0_A.sl.r_3 (F := Ideal) c i arg1 harg1 arg2 harg2 arg3 harg3 arg4 harg4 arg5 harg5 arg6 harg6 arg7 harg7 arg8 harg8 arg9 harg9 arg10 harg10 hc0 x0 x1 x2 x3 x4 x5) (XW x0 x1) (WGU x2 x3 x4 x5) (gu_A c i arg1 harg1 arg2 harg2 arg3 harg3 arg4 harg4 arg5 harg5 arg6 harg6 arg7 harg7 arg8 harg8 arg9 harg9 arg10 harg10 x0 x1 x2 x3 x4 x5 hc0) 5 640 1408 rfl rfl slices_S512x1536_o0_640_S512x128 slices_S512x1536_o0_1408_S512x128 reduces_S512x128_S512 shapeCasts_S512_S512x1 r)

end Cert.Proof.SharedUp
-- ==== Proof.Carry.lean ====
module

public import proofs.«01_k».proof.Proof.Out
public import proofs.«01_k».proof.Proof.Gen.SharedUpIdeal.Value

@[expose] public section

set_option maxRecDepth 16384

noncomputable section

/-! What the two output arrays of the shared gate and up layer hold after the run: every point finds the widened weights
    that the first point wrote, so every block of rows is the layer's value on these rows. -/

namespace Cert.Proof.Carry

open Idealize.ShloMosaic Idealize.ShloMosaic.ValueIdx Idealize.ShloMosaic.TcCoe Idealize.SL.Sem
open Cert.SharedUpIdeal Cert.SharedUpIdeal.Gen Cert.SharedUpIdeal.Value
open Cert.Proof.Quant Cert.Proof.SharedUp

variable (m : (ℓ : Loc nD τ sig) → Buf (Elt Ideal) ℓ) (c : Dev nD)

theorem blk2 (t : Fin cfg0.N) : iblk m c 2 t = m ((c : Thread nD τ).loc main_arg2) := by
  have e : ∀ t : Fin grid0.N, win0_2.index t = ![0, 0] := by decide +kernel
  have e0 : win0_2.index t (0 : Fin 2) = 0 := congrFun (e t) 0
  have e1 : win0_2.index t (1 : Fin 2) = 0 := congrFun (e t) 1
  funext y
  show (m ((c : Thread nD τ).loc main_arg2)) (((cfg0.win 2).blk t).view.emb y) = _
  refine congrArg _ (funext fun a => Fin.ext ?_)
  match a with
  | ⟨0, _⟩ => show win0_2.index t (0 : Fin 2) * 2048 + 1 * (y 0).val = (y 0).val; rw [e0]; omega
  | ⟨1, _⟩ => show win0_2.index t (1 : Fin 2) * 768 + 1 * (y 1).val = (y 1).val; rw [e1]; omega

theorem blk3 (t : Fin cfg0.N) : iblk m c 3 t = m ((c : Thread nD τ).loc main_arg4) := by
  have e : ∀ t : Fin grid0.N, win0_3.index t = ![0, 0] := by decide +kernel
  have e0 : win0_3.index t (0 : Fin 2) = 0 := congrFun (e t) 0
  have e1 : win0_3.index t (1 : Fin 2) = 0 := congrFun (e t) 1
  funext y
  show (m ((c : Thread nD τ).loc main_arg4)) (((cfg0.win 3).blk t).view.emb y) = _
  refine congrArg _ (funext fun a => Fin.ext ?_)
  match a with
  | ⟨0, _⟩ => show win0_3.index t (0 : Fin 2) * 2048 + 1 * (y 0).val = (y 0).val; rw [e0]; omega
  | ⟨1, _⟩ => show win0_3.index t (1 : Fin 2) * 768 + 1 * (y 1).val = (y 1).val; rw [e1]; omega

theorem blk4 (t : Fin cfg0.N) : iblk m c 4 t = m ((c : Thread nD τ).loc main_arg3) := by
  have e : ∀ t : Fin grid0.N, win0_4.index t = ![0, 0] := by decide +kernel
  have e0 : win0_4.index t (0 : Fin 2) = 0 := congrFun (e t) 0
  have e1 : win0_4.index t (1 : Fin 2) = 0 := congrFun (e t) 1
  funext y
  show (m ((c : Thread nD τ).loc main_arg3)) (((cfg0.win 4).blk t).view.emb y) = _
  refine congrArg _ (funext fun a => Fin.ext ?_)
  match a with
  | ⟨0, _⟩ => show win0_4.index t (0 : Fin 2) * 16 + 1 * (y 0).val = (y 0).val; rw [e0]; omega
  | ⟨1, _⟩ => show win0_4.index t (1 : Fin 2) * 6 + 1 * (y 1).val = (y 1).val; rw [e1]; omega

theorem blk5 (t : Fin cfg0.N) : iblk m c 5 t = m ((c : Thread nD τ).loc main_arg5) := by
  have e : ∀ t : Fin grid0.N, win0_5.index t = ![0, 0] := by decide +kernel
  have e0 : win0_5.index t (0 : Fin 2) = 0 := congrFun (e t) 0
  have e1 : win0_5.index t (1 : Fin 2) = 0 := congrFun (e t) 1
  funext y
  show (m ((c : Thread nD τ).loc main_arg5)) (((cfg0.win 5).blk t).view.emb y) = _
  refine congrArg _ (funext fun a => Fin.ext ?_)
  match a with
  | ⟨0, _⟩ => show win0_5.index t (0 : Fin 2) * 16 + 1 * (y 0).val = (y 0).val; rw [e0]; omega
  | ⟨1, _⟩ => show win0_5.index t (1 : Fin 2) * 6 + 1 * (y 1).val = (y 1).val; rw [e1]; omega

/-- The block of codes at a point: rows `512 t` to `512 t + 511`. -/
theorem blk0 (t : Fin cfg0.N) (r : Fin 512) (k : Fin 2048) (R : Fin 32768) (hR : R.val = 512 * t.val + r.val) :
    (iblk m c 0 t : Vec Ideal S512x2048 .fp8e4m3) (ix2 r k) = m ((c : Thread nD τ).loc main_arg0) (ix2 R k) := by
  have e : ∀ t : Fin grid0.N, win0_0.index t = ![t.val, 0] := by decide +kernel
  have e0 : win0_0.index t (0 : Fin 2) = t.val := congrFun (e t) 0
  have e1 : win0_0.index t (1 : Fin 2) = 0 := congrFun (e t) 1
  show (m ((c : Thread nD τ).loc main_arg0)) (((cfg0.win 0).blk t).view.emb (ix2 r k)) = _
  refine congrArg _ (funext fun a => Fin.ext ?_)
  match a with
  | ⟨0, _⟩ => show win0_0.index t (0 : Fin 2) * 512 + 1 * r.val = R.val; rw [e0]; omega
  | ⟨1, _⟩ => show win0_0.index t (1 : Fin 2) * 2048 + 1 * k.val = k.val; rw [e1]; omega

theorem blk1 (t : Fin cfg0.N) (r : Fin 512) (k : Fin 16) (R : Fin 32768) (hR : R.val = 512 * t.val + r.val) :
    (iblk m c 1 t : Vec Ideal S512x16 .f32) (ix2 r k) = m ((c : Thread nD τ).loc main_arg1) (ix2 R k) := by
  have e : ∀ t : Fin grid0.N, win0_1.index t = ![t.val, 0] := by decide +kernel
  have e0 : win0_1.index t (0 : Fin 2) = t.val := congrFun (e t) 0
  have e1 : win0_1.index t (1 : Fin 2) = 0 := congrFun (e t) 1
  show (m ((c : Thread nD τ).loc main_arg1)) (((cfg0.win 1).blk t).view.emb (ix2 r k)) = _
  refine congrArg _ (funext fun a => Fin.ext ?_)
  match a with
  | ⟨0, _⟩ => show win0_1.index t (0 : Fin 2) * 512 + 1 * r.val = R.val; rw [e0]; omega
  | ⟨1, _⟩ => show win0_1.index t (1 : Fin 2) * 16 + 1 * k.val = k.val; rw [e1]; omega

/-- The widened weights of the whole run. -/
def W : Vec Ideal S2048x1536 .bf16 :=
  WGU (m ((c : Thread nD τ).loc main_arg2)) (m ((c : Thread nD τ).loc main_arg4)) (m ((c : Thread nD τ).loc main_arg3)) (m ((c : Thread nD τ).loc main_arg5))

theorem w_at (t : Fin cfg0.N) : WGU (iblk m c 2 t) (iblk m c 3 t) (iblk m c 4 t) (iblk m c 5 t) = W m c :=
  congr (congr (congr (congrArg WGU (blk2 m c t)) (blk3 m c t)) (blk4 m c t)) (blk5 m c t)

/-- The widened rows of a point. -/
def X (t : Fin cfg0.N) : Vec Ideal S512x2048 .bf16 := XW (iblk m c 0 t) (iblk m c 1 t)

/-- After every point: the outputs hold the layer's value on the point's rows, and the carried buffer the widened weights. -/
theorem carried : ∀ (n : ℕ) (hn : n < cfg0.N),
    outsAt0 m c n hn = (H6 (X m c ⟨n, hn⟩) (W m c), H7 (X m c ⟨n, hn⟩) (W m c), W m c)
  | 0, hn => by
    rw [outsAt0_A m c ⟨0, hn⟩ rfl, out6_A, out7_A, sout_A, w_at]; rfl
  | n + 1, hn => by
    have h0 : ¬(n + 1) % 64 = 0 := by have : n + 1 < 64 := hn; omega
    rw [outsAt0_B m c ⟨n + 1, hn⟩ h0, out6_B, out7_B]
    unfold sout0_B_0
    have e : (outsAt0 m c (n + 1 - 1) (Nat.lt_of_le_of_lt (Nat.sub_le _ _) hn)).2.2 = W m c :=
      congrArg (fun p => p.2.2) (carried n (Nat.lt_of_succ_lt hn))
    exact congrArg (fun w => (H6 (X m c ⟨n + 1, hn⟩) w, H7 (X m c ⟨n + 1, hn⟩) w, w)) e

end Cert.Proof.Carry
-- ==== Proof.Plain.lean ====
module

public import proofs.«01_k».proof.Proof.Quant

@[expose] public section

set_option maxRecDepth 16384

noncomputable section

/-! The steps of the plain quantised layer, for any number of rows, read at an index. -/

namespace Cert.Proof.Plain

open Idealize.ShloMosaic Idealize.ShloMosaic.ValueIdx
open Cert.Proof.Pow Cert.Proof.Quant

/-- The group of 128 that channel `k` lies in. -/
abbrev grp {n m : ℕ} (h : n = 128 * m) (k : Fin n) : Fin m := ⟨k.val / 128, by omega⟩

/-- Codes times the scale of their row and group of 128 channels. -/
theorem widen_rows {T K G : ℕ} (hK : K = 128 * G) (x : FVec Ideal ⟨2, ![T, K]⟩ .bf16) (s : FVec Ideal ⟨2, ![T, G]⟩ .bf16)
    (h1 : Shape.ShapeCasts ⟨2, ![T, K]⟩ ⟨3, ![T, G, 128]⟩) (h2 : Shape.ShapeCasts ⟨2, ![T, G]⟩ ⟨3, ![T, G, 1]⟩)
    (h3 : Shape.Broadcasts ⟨3, ![T, G, 1]⟩ ⟨3, ![T, G, 128]⟩) (h4 : Shape.ShapeCasts ⟨3, ![T, G, 128]⟩ ⟨2, ![T, K]⟩) (r : Fin T) (k : Fin K) :
    shapeCast ⟨2, ![T, K]⟩ (mulf (shapeCast ⟨3, ![T, G, 128]⟩ x h1) (broadcastTo ⟨3, ![T, G, 128]⟩ (shapeCast ⟨3, ![T, G, 1]⟩ s h2) h3)) h4 (ix2 r k)
      = (x (ix2 r k) : EReal) * s (ix2 r (grp hK k)) := by
  have hk : k.val % 128 < 128 := Nat.mod_lt _ (by norm_num)
  have e1 : shapeCast ⟨3, ![T, G, 128]⟩ x h1 (ix3 r (grp hK k) ⟨k.val % 128, hk⟩) = x (ix2 r k) :=
    shapeCast_apply _ _ _ _ (by
      rw [Shape.rowMajor_val_three, Shape.rowMajor_val_two]
      show r.val * K + k.val = (r.val * G + k.val / 128) * 128 + k.val % 128
      subst hK; rw [add_mul, add_assoc, mul_assoc, mul_comm G 128]; omega)
  have e2 : broadcastTo ⟨3, ![T, G, 128]⟩ (shapeCast ⟨3, ![T, G, 1]⟩ s h2) h3 (ix3 r (grp hK k) ⟨k.val % 128, hk⟩) = s (ix2 r (grp hK k)) := by
    refine (broadcastTo_apply _ _ _ (ix3 r (grp hK k) 0) fun c => ?_).trans (shapeCast_apply _ _ _ _ ?_)
    · match c with
      | ⟨0, _⟩ => show r.val = if T = 1 then 0 else r.val; split <;> omega
      | ⟨1, _⟩ => show k.val / 128 = if G = 1 then 0 else k.val / 128; split <;> omega
      | ⟨2, _⟩ => rfl
    · rw [Shape.rowMajor_val_three, Shape.rowMajor_val_two]
      show r.val * G + k.val / 128 = (r.val * G + k.val / 128) * 1 + 0
      omega
  refine (shapeCast_apply _ _ _ (ix3 r (grp hK k) ⟨k.val % 128, hk⟩) ?_).trans ?_
  · rw [Shape.rowMajor_val_three, Shape.rowMajor_val_two]
    show (r.val * G + k.val / 128) * 128 + k.val % 128 = r.val * K + k.val
    subst hK; rw [add_mul, add_assoc, mul_assoc, mul_comm G 128]; omega
  · show (shapeCast ⟨3, ![T, G, 128]⟩ x h1 (ix3 r (grp hK k) ⟨k.val % 128, hk⟩) : EReal) * _ = _
    rw [e1, e2]

/-- Codes times the scale of their block of 128 by 128. -/
theorem widen_blocks {K G C Q : ℕ} (hK : K = 128 * G) (hC : C = 128 * Q) (x : FVec Ideal ⟨2, ![K, C]⟩ .bf16) (s : FVec Ideal ⟨2, ![G, Q]⟩ .bf16)
    (h1 : Shape.ShapeCasts ⟨2, ![K, C]⟩ ⟨4, ![G, 128, Q, 128]⟩) (h2 : Shape.ShapeCasts ⟨2, ![G, Q]⟩ ⟨4, ![G, 1, Q, 1]⟩)
    (h3 : Shape.Broadcasts ⟨4, ![G, 1, Q, 1]⟩ ⟨4, ![G, 128, Q, 128]⟩) (h4 : Shape.ShapeCasts ⟨4, ![G, 128, Q, 128]⟩ ⟨2, ![K, C]⟩) (k : Fin K) (c : Fin C) :
    shapeCast ⟨2, ![K, C]⟩ (mulf (shapeCast ⟨4, ![G, 128, Q, 128]⟩ x h1) (broadcastTo ⟨4, ![G, 128, Q, 128]⟩ (shapeCast ⟨4, ![G, 1, Q, 1]⟩ s h2) h3)) h4 (ix2 k c)
      = (x (ix2 k c) : EReal) * s (ix2 (grp hK k) (grp hC c)) := by
  have hk : k.val % 128 < 128 := Nat.mod_lt _ (by norm_num)
  have hc : c.val % 128 < 128 := Nat.mod_lt _ (by norm_num)
  have pos : k.val * C + c.val = (((k.val / 128) * 128 + k.val % 128) * Q + c.val / 128) * 128 + c.val % 128 := by
    have e : (k.val / 128) * 128 + k.val % 128 = k.val := by omega
    rw [e]; subst hC; rw [add_mul, add_assoc, mul_assoc, mul_comm Q 128]; omega
  have e1 : shapeCast ⟨4, ![G, 128, Q, 128]⟩ x h1 (ix4 (grp hK k) ⟨k.val % 128, hk⟩ (grp hC c) ⟨c.val % 128, hc⟩) = x (ix2 k c) :=
    shapeCast_apply _ _ _ _ (by
      rw [Shape.rowMajor_val_four, Shape.rowMajor_val_two]
      exact pos)
  have e2 : broadcastTo ⟨4, ![G, 128, Q, 128]⟩ (shapeCast ⟨4, ![G, 1, Q, 1]⟩ s h2) h3 (ix4 (grp hK k) ⟨k.val % 128, hk⟩ (grp hC c) ⟨c.val % 128, hc⟩)
      = s (ix2 (grp hK k) (grp hC c)) := by
    refine (broadcastTo_apply _ _ _ (ix4 (grp hK k) 0 (grp hC c) 0) fun d => ?_).trans (shapeCast_apply _ _ _ _ ?_)
    · match d with
      | ⟨0, _⟩ => show k.val / 128 = if G = 1 then 0 else k.val / 128; split <;> omega
      | ⟨1, _⟩ => rfl
      | ⟨2, _⟩ => show c.val / 128 = if Q = 1 then 0 else c.val / 128; split <;> omega
      | ⟨3, _⟩ => rfl
    · rw [Shape.rowMajor_val_four, Shape.rowMajor_val_two]
      show (k.val / 128) * Q + c.val / 128 = (((k.val / 128) * 1 + 0) * Q + c.val / 128) * 1 + 0
      simp
  refine (shapeCast_apply _ _ _ (ix4 (grp hK k) ⟨k.val % 128, hk⟩ (grp hC c) ⟨c.val % 128, hc⟩) ?_).trans ?_
  · rw [Shape.rowMajor_val_four, Shape.rowMajor_val_two]
    exact pos.symm
  · show (shapeCast ⟨4, ![G, 128, Q, 128]⟩ x h1 (ix4 (grp hK k) ⟨k.val % 128, hk⟩ (grp hC c) ⟨c.val % 128, hc⟩) : EReal) * _ = _
    rw [e1, e2]

/-- One entry of a product. -/
theorem product {M K N : ℕ} (D : DotDims ⟨2, ![M, K]⟩ ⟨2, ![K, N]⟩ ⟨2, ![M, N]⟩) (hD : D = DotDims.plain M K N)
    (x : FVec Ideal ⟨2, ![M, K]⟩ .bf16) (w : FVec Ideal ⟨2, ![K, N]⟩ .bf16) (r : Fin M) (c : Fin N) :
    matmul D none x w (constant ⟨2, ![M, N]⟩ .f32 0x00000000#32) (ix2 r c) = ∑ k : Fin K, (x (ix2 r k) : EReal) * w (ix2 k c) := by
  subst hD
  simp only [matmul]
  rw [Ideal.matmul_plain_apply]
  show Ideal.ofBits .f32 0x00000000#32 + _ = _
  rw [Ideal.ofBits_zero_f32, zero_add]

/-- The group maximum over 448. -/
theorem top_groups {T Q : ℕ} (h : FVec Ideal ⟨3, ![T, Q, 128]⟩ .f32) (hr : Shape.Reduces ⟨3, ![T, Q, 128]⟩ [2] ⟨2, ![T, Q]⟩)
    (hc : Shape.ShapeCasts ⟨2, ![T, Q]⟩ ⟨3, ![T, Q, 1]⟩) (r : Fin T) (q : Fin Q) :
    shapeCast ⟨3, ![T, Q, 1]⟩ (mulf (multiReduction .maximumf [2] ⟨2, ![T, Q]⟩ (absf h) 0xFF800000#32 hr (.inl rfl) rfl)
        (broadcast ⟨2, ![T, Q]⟩ (Scalar.ofBits .f32 0x3B124925#32))) hc (ix3 r q 0)
      = top fun l => h (ix3 r q l) := by
  refine (shapeCast_apply _ _ _ (ix2 r q) ?_).trans ?_
  · rw [Shape.rowMajor_val_three, Shape.rowMajor_val_two]
    show r.val * Q + q.val = (r.val * Q + q.val) * 1 + 0
    omega
  unfold top
  rw [mulf_apply]
  have e2 := Ideal.multiReduction_maximumf_single (a := (2 : Fin 3)) (absf h) 0xFF800000#32 hr (.inl rfl) rfl (ix2 r q)
  refine congrArg₂ (· * ·) (Eq.trans e2 ?_) rfl
  refine congrArg (Finset.fold max _ · _) (funext fun l => ?_)
  show FloatOps.absf (h _) = FloatOps.absf (h _)
  refine congrArg (fun i => FloatOps.absf (h i)) (funext fun c => Fin.ext ?_)
  match c with
  | ⟨0, _⟩ => rfl
  | ⟨1, _⟩ => rfl
  | ⟨2, _⟩ => rfl

/-- The powers of two of the format. -/
def powers {T Q : ℕ} (hi : (⟨3, ![T, Q, 247]⟩ : Shape).Iotas .tc 32 [2]) : FVec Ideal ⟨3, ![T, Q, 247]⟩ .f32 :=
  exp2 (subf (sitofp .f32 (iota .tc ⟨3, ![T, Q, 247]⟩ 32 [2] hi)) (broadcast ⟨3, ![T, Q, 247]⟩ (Scalar.ofBits .f32 0x42FC0000#32)))

/-- One of them. -/
def power (k : Fin 247) : EReal :=
  FloatOps.exp2 (F := Ideal) (φ := .f32) (FloatOps.subf (F := Ideal) (φ := .f32) (FloatOps.sitofp (F := Ideal) .f32 (BitVec.ofNat 32 k.val)) (FloatOps.ofBits (F := Ideal) .f32 0x42FC0000#32))

theorem powers_apply {T Q : ℕ} (hi : (⟨3, ![T, Q, 247]⟩ : Shape).Iotas .tc 32 [2]) (r : Fin T) (q : Fin Q) (l : Fin 247) :
    powers hi (ix3 r q l) = power l := by
  have e : iota .tc ⟨3, ![T, Q, 247]⟩ 32 [2] hi (ix3 r q l) = BitVec.ofNat 32 l.val := by
    unfold iota
    show BitVec.ofNat 32 (0 * 247 + l.val) = _
    rw [Nat.zero_mul, Nat.zero_add]
  unfold power
  rw [← e]
  rfl

/-- Twice the largest power of two that is at most `t`, where there is one. -/
theorem scale_groups {T Q : ℕ} (t : FVec Ideal ⟨3, ![T, Q, 1]⟩ .f32) (hi : (⟨3, ![T, Q, 247]⟩ : Shape).Iotas .tc 32 [2])
    (hb : Shape.Broadcasts ⟨3, ![T, Q, 1]⟩ ⟨3, ![T, Q, 247]⟩) (hr : Shape.Reduces ⟨3, ![T, Q, 247]⟩ [2] ⟨2, ![T, Q]⟩) (r : Fin T) (q : Fin Q)
    (B : FVec Ideal ⟨2, ![T, Q]⟩ .f32)
    (hB : B = multiReduction .maximumf [2] ⟨2, ![T, Q]⟩ (select (cmpf .ole (powers hi) (broadcastTo ⟨3, ![T, Q, 247]⟩ t hb)) (powers hi)
        (broadcast ⟨3, ![T, Q, 247]⟩ (Scalar.ofBits .f32 0x00000000#32))) 0xFF800000#32 hr (.inl rfl) rfl) :
    select (cmpf .oeq B (broadcast ⟨2, ![T, Q]⟩ (Scalar.ofBits .f32 0x00000000#32))) (broadcast ⟨2, ![T, Q]⟩ (Scalar.ofBits .f32 0x3F800000#32))
        (mulf (broadcast ⟨2, ![T, Q]⟩ (Scalar.ofBits .f32 0x40000000#32)) B) (ix2 r q)
      = rscale (t (ix3 r q 0)) := by
  have e : B (ix2 r q) = below (t (ix3 r q 0)) := by
    rw [hB]
    have e2 := Ideal.multiReduction_maximumf_single (a := (2 : Fin 3)) (select (cmpf .ole (powers hi) (broadcastTo ⟨3, ![T, Q, 247]⟩ t hb)) (powers hi)
        (broadcast ⟨3, ![T, Q, 247]⟩ (Scalar.ofBits .f32 0x00000000#32))) 0xFF800000#32 hr (.inl rfl) rfl (ix2 r q)
    refine e2.trans ?_
    unfold below
    refine congrArg (Finset.fold max (FloatOps.ofBits (F := Ideal) .f32 0xFF800000#32) · (Finset.univ : Finset (Fin 247))) (funext fun (l : Fin 247) => ?_)
    have hl : hr.lift (ix2 r q) l = ix3 r q l := funext fun c => Fin.ext (by
      match c with
      | ⟨0, _⟩ => rfl
      | ⟨1, _⟩ => rfl
      | ⟨2, _⟩ => rfl)
    have hbt : broadcastTo ⟨3, ![T, Q, 247]⟩ t hb (ix3 r q l) = t (ix3 r q 0) := broadcastTo_apply _ _ _ _ fun c => by
      match c with
      | ⟨0, _⟩ => show r.val = if T = 1 then 0 else r.val; split <;> omega
      | ⟨1, _⟩ => show q.val = if Q = 1 then 0 else q.val; split <;> omega
      | ⟨2, _⟩ => rfl

    have hf : ∀ i, i = ix3 r q l → Scalar.select (FloatOps.cmpf (F := Ideal) (φ := .f32) .ole (powers hi i) (broadcastTo ⟨3, ![T, Q, 247]⟩ t hb i)) (powers hi i)
        (FloatOps.ofBits (F := Ideal) .f32 0x00000000#32) = Scalar.select (FloatOps.cmpf (F := Ideal) (φ := .f32) .ole (power l) (t (ix3 r q 0))) (power l)
        (FloatOps.ofBits (F := Ideal) .f32 0x00000000#32) := fun i hi' => by rw [hi', hbt, powers_apply]
    exact hf _ hl
  unfold rscale
  rw [← e]
  rfl

/-- The codes: each value over its group's scale, clipped. -/
theorem code_groups {T Q C : ℕ} (hC : C = 128 * Q) (h : FVec Ideal ⟨3, ![T, Q, 128]⟩ .f32) (s : FVec Ideal ⟨2, ![T, Q]⟩ .f32)
    (h1 : Shape.ShapeCasts ⟨2, ![T, Q]⟩ ⟨3, ![T, Q, 1]⟩) (h2 : Shape.Broadcasts ⟨3, ![T, Q, 1]⟩ ⟨3, ![T, Q, 128]⟩) (r : Fin T) (q : Fin Q) (l : Fin 128) :
    minimumf (broadcast ⟨3, ![T, Q, 128]⟩ (Scalar.ofBits .f32 0x43E00000#32)) (maximumf (broadcast ⟨3, ![T, Q, 128]⟩ (Scalar.ofBits .f32 0xC3E00000#32))
        (divf h (broadcastTo ⟨3, ![T, Q, 128]⟩ (shapeCast ⟨3, ![T, Q, 1]⟩ s h1) h2))) (ix3 r q l)
      = clip (Ideal.div (h (ix3 r q l)) (s (ix2 r q))) := by
  have e2 : broadcastTo ⟨3, ![T, Q, 128]⟩ (shapeCast ⟨3, ![T, Q, 1]⟩ s h1) h2 (ix3 r q l) = s (ix2 r q) := by
    refine (broadcastTo_apply _ _ _ (ix3 r q 0) fun c => ?_).trans (shapeCast_apply _ _ _ _ ?_)
    · match c with
      | ⟨0, _⟩ => show r.val = if T = 1 then 0 else r.val; split <;> omega
      | ⟨1, _⟩ => show q.val = if Q = 1 then 0 else q.val; split <;> omega
      | ⟨2, _⟩ => rfl
    · rw [Shape.rowMajor_val_three, Shape.rowMajor_val_two]
      show r.val * Q + q.val = (r.val * Q + q.val) * 1 + 0
      omega
  show clip (Ideal.div (h (ix3 r q l)) (broadcastTo ⟨3, ![T, Q, 128]⟩ (shapeCast ⟨3, ![T, Q, 1]⟩ s h1) h2 (ix3 r q l))) = _
  rw [e2]

/-- Rows of groups laid out as rows of channels. -/
theorem flat_apply {φ : FTy} {T Q C : ℕ} (hC : C = 128 * Q) (h : FVec Ideal ⟨3, ![T, Q, 128]⟩ φ) (hc : Shape.ShapeCasts ⟨3, ![T, Q, 128]⟩ ⟨2, ![T, C]⟩) (r : Fin T) (c : Fin C) :
    shapeCast ⟨2, ![T, C]⟩ h hc (ix2 r c) = h (ix3 r (grp hC c) ⟨c.val % 128, Nat.mod_lt _ (by norm_num)⟩) :=
  shapeCast_apply _ _ _ _ (by
    rw [Shape.rowMajor_val_three, Shape.rowMajor_val_two]
    show (r.val * Q + c.val / 128) * 128 + c.val % 128 = r.val * C + c.val
    subst hC; rw [add_mul, add_assoc, mul_assoc, mul_comm Q 128]; omega)

/-- Rows of channels laid out as rows of groups. -/
theorem split_apply {φ : FTy} {T Q C : ℕ} (hC : C = 128 * Q) (h : FVec Ideal ⟨2, ![T, C]⟩ φ) (hc : Shape.ShapeCasts ⟨2, ![T, C]⟩ ⟨3, ![T, Q, 128]⟩) (r : Fin T) (q : Fin Q) (l : Fin 128) :
    shapeCast ⟨3, ![T, Q, 128]⟩ h hc (ix3 r q l) = h (ix2 r ⟨128 * q.val + l.val, by omega⟩) :=
  shapeCast_apply _ _ _ _ (by
    rw [Shape.rowMajor_val_three, Shape.rowMajor_val_two]
    show r.val * C + (128 * q.val + l.val) = (r.val * Q + q.val) * 128 + l.val
    subst hC; rw [add_mul, mul_assoc, mul_comm Q 128]; omega)

end Cert.Proof.Plain
-- ==== Proof.UpRef.lean ====
module

public import proofs.«01_k».proof.Proof.Gen.SharedUpReferenceIdeal.Value
public import proofs.«01_k».proof.Proof.Plain

@[expose] public section

set_option maxRecDepth 65536

noncomputable section

/-! What the plain reference of the shared expert's gate and up layer computes, at an index. -/

namespace Cert.Proof.UpRef

open Cert.SharedUpReferenceIdeal Cert.SharedUpReferenceIdeal.Gen Cert.SharedUpReferenceIdeal.Value Idealize.ShloMosaic Idealize.ShloMosaic.ValueIdx
open Cert.Proof.Pow Cert.Proof.Quant Cert.Proof.Plain

/-- One entry of the product of the widened rows with one widened weight. -/
def dot (x : Vec Ideal S32768x2048 .fp8e4m3) (s : Vec Ideal S32768x16 .f32) (w : Vec Ideal S2048x768 .fp8e4m3) (b : Vec Ideal S16x6 .f32)
    (r : Fin 32768) (c : Fin 768) : EReal :=
  ∑ k : Fin 2048, (x (ix2 r k) * s (ix2 r (grp (m := 16) rfl k)) : EReal) * (w (ix2 k c) * b (ix2 (grp (m := 16) rfl k) (grp (m := 6) rfl c)))

/-- The activation of row `r`, group `q`, channel `l` of the group. -/
def hid (x : Vec Ideal S32768x2048 .fp8e4m3) (s : Vec Ideal S32768x16 .f32) (wg : Vec Ideal S2048x768 .fp8e4m3) (bg : Vec Ideal S16x6 .f32)
    (wu : Vec Ideal S2048x768 .fp8e4m3) (bu : Vec Ideal S16x6 .f32) (r : Fin 32768) (q : Fin 6) (l : Fin 128) : EReal :=
  act (dot x s wg bg r ⟨128 * q.val + l.val, by omega⟩) (dot x s wu bu r ⟨128 * q.val + l.val, by omega⟩)

variable (x : Vec Ideal S32768x2048 .fp8e4m3) (s : Vec Ideal S32768x16 .f32) (wg : Vec Ideal S2048x768 .fp8e4m3) (bg : Vec Ideal S16x6 .f32)
    (wu : Vec Ideal S2048x768 .fp8e4m3) (bu : Vec Ideal S16x6 .f32)

theorem hidden (r : Fin 32768) (q : Fin 6) (l : Fin 128) :
    k0_pay3 x s wg bg wu bu (ix3 r q l) = hid x s wg bg wu bu r q l := by
  unfold k0_pay3
  refine (split_apply (Q := 6) rfl _ _ r q l).trans ?_
  have e : ∀ (w : Vec Ideal S2048x768 .fp8e4m3) (b : Vec Ideal S16x6 .f32) (c : Fin 768), _ = dot x s w b r c := fun w b c =>
    (product dot_S32768x2048_S2048x768_S32768x768_1_0_0_1_n_n rfl _ _ r c).trans (Finset.sum_congr rfl fun k _ =>
      congrArg₂ (· * ·)
        (widen_rows (T := 32768) (K := 2048) (G := 16) rfl (extf .bf16 x bitsLt_fp8e4m3_bf16) (truncf .bf16 s bitsLt_bf16_f32) shapeCasts_S32768x2048_S32768x16x128 shapeCasts_S32768x16_S32768x16x1 broadcasts_S32768x16x1_S32768x16x128 shapeCasts_S32768x16x128_S32768x2048 r k)
        (widen_blocks (K := 2048) (G := 16) (C := 768) (Q := 6) rfl rfl (extf .bf16 w bitsLt_fp8e4m3_bf16) (truncf .bf16 b bitsLt_bf16_f32) shapeCasts_S2048x768_S16x128x6x128 shapeCasts_S16x6_S16x1x6x1 broadcasts_S16x1x6x1_S16x128x6x128 shapeCasts_S16x128x6x128_S2048x768 k c))
  exact congrArg₂ act (e wg bg _) (e wu bu _)

/-- The scale of row `r`, group `q`. -/
theorem scale (r : Fin 32768) (q : Fin 6) :
    k0_pay1 k0_pay4 (k0_pay5 x s wg bg wu bu) (ix2 r q) = rscale (top (hid x s wg bg wu bu r q)) := by
  have e1 := scale_groups (k0_pay5 x s wg bg wu bu) iota_S32768x6x247_d2_w32 broadcasts_S32768x6x1_S32768x6x247 reduces_S32768x6x247_S32768x6 r q _ rfl
  have e2 := top_groups (k0_pay3 x s wg bg wu bu) reduces_S32768x6x128_S32768x6 shapeCasts_S32768x6_S32768x6x1 r q
  refine Eq.trans e1 (congrArg rscale (Eq.trans e2 (congrArg top (funext fun l => hidden x s wg bg wu bu r q l))))

/-- The code of row `r`, channel `c`. -/
theorem code (r : Fin 32768) (c : Fin 768) (q : Fin 6) (l : Fin 128) (hq : q.val = c.val / 128) (hl : l.val = c.val % 128) :
    k0_pay2 (k0_pay3 x s wg bg wu bu) k0_pay4 (k0_pay5 x s wg bg wu bu) (ix2 r c)
      = clip (Ideal.div (hid x s wg bg wu bu r q l) (rscale (top (hid x s wg bg wu bu r q)))) := by
  obtain rfl : q = grp (m := 6) rfl c := Fin.ext hq
  obtain rfl : l = ⟨c.val % 128, Nat.mod_lt _ (by norm_num)⟩ := Fin.ext hl
  unfold k0_pay2
  refine (flat_apply (Q := 6) rfl _ _ r c).trans ?_
  have e := code_groups (C := 768) rfl (k0_pay3 x s wg bg wu bu) (k0_pay1 k0_pay4 (k0_pay5 x s wg bg wu bu)) shapeCasts_S32768x6_S32768x6x1 broadcasts_S32768x6x1_S32768x6x128 r
    (grp (m := 6) rfl c) ⟨c.val % 128, Nat.mod_lt _ (by norm_num)⟩
  refine Eq.trans e ?_
  rw [scale, hidden]

theorem level : k0_pay7 x s wg bg wu bu = k0_pay5 x s wg bg wu bu := by
  unfold k0_pay7
  rw [View.ld_unit_zero (S := S32768x2048) hz0 _ x, View.ld_unit_zero (S := S32768x16) hz1 _ s, View.ld_unit_zero (S := S2048x768) hz2 _ wg, View.ld_unit_zero (S := S16x6) hz3 _ bg,
    View.ld_unit_zero (S := S2048x768) hz4 _ wu, View.ld_unit_zero (S := S16x6) hz5 _ bu]

theorem G6_eq : G6 x s wg bg wu bu = k0_pay2 (k0_pay3 x s wg bg wu bu) k0_pay4 (k0_pay5 x s wg bg wu bu) := by
  unfold G6
  rw [level]
  rfl

theorem G7_eq : G7 x s wg bg wu bu = k0_pay1 k0_pay4 (k0_pay5 x s wg bg wu bu) := by
  unfold G7
  rw [level]
  rfl

end Cert.Proof.UpRef
-- ==== Proof.UpEq.lean ====
module

public import proofs.«01_k».proof.Proof.Carry
public import proofs.«01_k».proof.Proof.UpRef

@[expose] public section

set_option maxRecDepth 16384

noncomputable section

/-! The kernel's two arrays are the reference's. -/

namespace Cert.Proof.UpEq

open Idealize.ShloMosaic Idealize.ShloMosaic.ValueIdx Idealize.ShloMosaic.TcCoe Idealize.SL.Sem
open Cert.SharedUpIdeal Cert.SharedUpIdeal.Gen Cert.SharedUpIdeal.Value
open Cert.Proof.Pow Cert.Proof.Quant Cert.Proof.SharedUp Cert.Proof.Carry

variable (m : (ℓ : Loc nD τ sig) → Buf (Elt Ideal) ℓ) (c : Dev nD)

/-- The activation of row `r` of block `t` is the reference's of row `512 t + r`. -/
theorem hidden (t : Fin cfg0.N) (r : Fin 512) (R : Fin 32768) (hR : R.val = 512 * t.val + r.val) (q : Fin 6) (l : Fin 128) :
    hAct (X m c t) (W m c) r q l
      = UpRef.hid (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) R q l := by
  have hx : ∀ k : Fin 2048, (X m c t (ix2 r k) : EReal) = @HMul.hMul EReal EReal EReal _ (m ((c : Thread nD τ).loc main_arg0) (ix2 R k)) (m ((c : Thread nD τ).loc main_arg1) (ix2 R (Plain.grp (m := 16) rfl k))) := fun k => by
    refine (xw_eq _ _ r k (Plain.grp (m := 16) rfl k) rfl).trans ?_
    rw [blk0 m c t r k R hR, blk1 m c t r _ R hR]
  unfold hAct UpRef.hid
  refine congrArg₂ act (Finset.sum_congr rfl fun k _ => ?_) (Finset.sum_congr rfl fun k _ => ?_)
  · refine congrArg₂ (· * ·) (hx k) ?_
    exact wgu_gate _ _ _ _ k ⟨128 * q.val + l.val, by omega⟩ (Plain.grp (m := 16) rfl k) (Plain.grp (m := 6) rfl ⟨128 * q.val + l.val, by omega⟩) _ rfl rfl (by simp)
  · refine congrArg₂ (· * ·) (hx k) ?_
    exact wgu_up _ _ _ _ k ⟨128 * q.val + l.val, by omega⟩ (Plain.grp (m := 16) rfl k) (Plain.grp (m := 6) rfl ⟨128 * q.val + l.val, by omega⟩) _ rfl rfl (by simp; omega)

/-- The codes. -/
theorem codes : G6 m c = Cert.SharedUpReferenceIdeal.Value.G6 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨R, C, rfl⟩ : ∃ (R : Fin 32768) (C : Fin 768), i = ix2 R C := ⟨i 0, i 1, eq_ix2 i⟩
  have ht : pt6Of (ix2 R C) = R.val / 512 := by
    show 1 * (R.val / 512 - 0) + 1 * (C.val / 768 - 0) = _
    omega
  have hp : pt6Of (ix2 R C) < cfg0.N := by
    rw [ht]; show R.val / 512 < 64; omega
  have hl : loc6Of (ix2 R C) = ix2 (⟨R.val % 512, Nat.mod_lt _ (by norm_num)⟩ : Fin 512) C := funext fun a => Fin.ext (by
    match a with
    | ⟨0, _⟩ => rfl
    | ⟨1, _⟩ => show C.val % 768 = C.val; omega)
  rw [UpRef.G6_eq]
  refine Eq.trans ?_ (UpRef.code _ _ _ _ _ _ R C (Plain.grp (m := 6) rfl C) ⟨C.val % 128, Nat.mod_lt _ (by norm_num)⟩ rfl rfl).symm
  unfold G6
  rw [dif_pos hp, ← outsAt0_sweep m c _ hp, carried, hl]
  have hh := fun l => hidden m c ⟨_, hp⟩ ⟨R.val % 512, Nat.mod_lt _ (by norm_num)⟩ R (by show R.val = 512 * pt6Of (ix2 R C) + R.val % 512; rw [ht]; omega) (Plain.grp (m := 6) rfl C) l
  have e := congrArg (fun h : Fin 128 → EReal => clip (Ideal.div (h ⟨C.val % 128, Nat.mod_lt _ (by norm_num)⟩) (rscale (top h)))) (funext hh)
  refine Eq.trans ?_ e
  exact congrArg clip (mul_inv_eq _ _)

/-- The scales. -/
theorem scales : G7 m c = Cert.SharedUpReferenceIdeal.Value.G7 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨R, q, rfl⟩ : ∃ (R : Fin 32768) (q : Fin 6), i = ix2 R q := ⟨i 0, i 1, eq_ix2 i⟩
  have ht : pt7Of (ix2 R q) = R.val / 512 := by
    show 1 * (R.val / 512 - 0) + 1 * (q.val / 6 - 0) = _
    omega
  have hp : pt7Of (ix2 R q) < cfg0.N := by
    rw [ht]; show R.val / 512 < 64; omega
  have hl : loc7Of (ix2 R q) = ix2 (⟨R.val % 512, Nat.mod_lt _ (by norm_num)⟩ : Fin 512) q := funext fun a => Fin.ext (by
    match a with
    | ⟨0, _⟩ => rfl
    | ⟨1, _⟩ => show q.val % 6 = q.val; omega)
  rw [UpRef.G7_eq]
  refine Eq.trans ?_ (UpRef.scale _ _ _ _ _ _ R q).symm
  unfold G7
  rw [dif_pos hp, ← outsAt0_sweep m c _ hp, carried, hl]
  refine (scale_eq _).trans ?_
  exact congrArg (fun h : Fin 128 → EReal => rscale (top h)) (funext fun l => hidden m c ⟨_, hp⟩ ⟨R.val % 512, Nat.mod_lt _ (by norm_num)⟩ R (by show R.val = 512 * pt7Of (ix2 R q) + R.val % 512; rw [ht]; omega) q l)

end Cert.Proof.UpEq
-- ==== Proof.Many.lean ====
module
public import proofs.«01_k».proof.Proof.Plain
public import Idealize.ShloMosaic.Lib.MatmulPlain
@[expose] public section

set_option maxRecDepth 16384
noncomputable section

/-! The plain layer of several experts at once, each row keeping the product of its own expert: its steps read at an index. -/
namespace Cert.Proof.Many

open Idealize.ShloMosaic Idealize.ShloMosaic.ValueIdx
open Cert.Proof.Pow Cert.Proof.Quant Cert.Proof.Plain

/-- Every expert's codes times the scale of their block of 128 by 128. -/
theorem widen {E K G C Q : ℕ} (hK : K = 128 * G) (hC : C = 128 * Q) (x : FVec Ideal ⟨3, ![E, K, C]⟩ .bf16) (s : FVec Ideal ⟨3, ![E, G, Q]⟩ .bf16)
    (h1 : Shape.ShapeCasts ⟨3, ![E, K, C]⟩ ⟨5, ![E, G, 128, Q, 128]⟩) (h2 : Shape.ShapeCasts ⟨3, ![E, G, Q]⟩ ⟨5, ![E, G, 1, Q, 1]⟩)
    (h3 : Shape.Broadcasts ⟨5, ![E, G, 1, Q, 1]⟩ ⟨5, ![E, G, 128, Q, 128]⟩) (h4 : Shape.ShapeCasts ⟨5, ![E, G, 128, Q, 128]⟩ ⟨3, ![E, K, C]⟩)
    (e : Fin E) (k : Fin K) (c : Fin C) :
    shapeCast ⟨3, ![E, K, C]⟩ (mulf (shapeCast ⟨5, ![E, G, 128, Q, 128]⟩ x h1) (broadcastTo ⟨5, ![E, G, 128, Q, 128]⟩ (shapeCast ⟨5, ![E, G, 1, Q, 1]⟩ s h2) h3)) h4 (ix3 e k c)
      = (x (ix3 e k c) : EReal) * s (ix3 e (grp hK k) (grp hC c)) := by
  have hk : k.val % 128 < 128 := Nat.mod_lt _ (by norm_num)
  have hc : c.val % 128 < 128 := Nat.mod_lt _ (by norm_num)
  have pos : (e.val * K + k.val) * C + c.val = (((e.val * G + k.val / 128) * 128 + k.val % 128) * Q + c.val / 128) * 128 + c.val % 128 := by
    have e1 : (e.val * G + k.val / 128) * 128 + k.val % 128 = e.val * K + k.val := by
      subst hK; rw [add_mul, mul_assoc, mul_comm G 128]; omega
    rw [e1]; subst hC; rw [add_mul _ _ 128, add_assoc, mul_assoc, mul_comm Q 128]; omega
  have e1 : shapeCast ⟨5, ![E, G, 128, Q, 128]⟩ x h1 (ix5 e (grp hK k) ⟨k.val % 128, hk⟩ (grp hC c) ⟨c.val % 128, hc⟩) = x (ix3 e k c) :=
    shapeCast_apply _ _ _ _ (by
      rw [Shape.rowMajor_val_five, Shape.rowMajor_val_three]
      exact pos)
  have e2 : broadcastTo ⟨5, ![E, G, 128, Q, 128]⟩ (shapeCast ⟨5, ![E, G, 1, Q, 1]⟩ s h2) h3 (ix5 e (grp hK k) ⟨k.val % 128, hk⟩ (grp hC c) ⟨c.val % 128, hc⟩)
      = s (ix3 e (grp hK k) (grp hC c)) := by
    refine (broadcastTo_apply _ _ _ (ix5 e (grp hK k) 0 (grp hC c) 0) fun d => ?_).trans (shapeCast_apply _ _ _ _ ?_)
    · match d with
      | ⟨0, _⟩ => show e.val = if E = 1 then 0 else e.val; split <;> omega
      | ⟨1, _⟩ => show k.val / 128 = if G = 1 then 0 else k.val / 128; split <;> omega
      | ⟨2, _⟩ => rfl
      | ⟨3, _⟩ => show c.val / 128 = if Q = 1 then 0 else c.val / 128; split <;> omega
      | ⟨4, _⟩ => rfl
    · rw [Shape.rowMajor_val_five, Shape.rowMajor_val_three]
      show (e.val * G + k.val / 128) * Q + c.val / 128 = ((((e.val * G + k.val / 128) * 1 + 0) * Q + c.val / 128) * 1 + 0)
      simp
  refine (shapeCast_apply _ _ _ (ix5 e (grp hK k) ⟨k.val % 128, hk⟩ (grp hC c) ⟨c.val % 128, hc⟩) ?_).trans ?_
  · rw [Shape.rowMajor_val_five, Shape.rowMajor_val_three]
    exact pos.symm
  · show (shapeCast ⟨5, ![E, G, 128, Q, 128]⟩ x h1 (ix5 e (grp hK k) ⟨k.val % 128, hk⟩ (grp hC c) ⟨c.val % 128, hc⟩) : EReal) * _ = _
    rw [e1, e2]

/-- One entry of the product of the rows with every expert's weights. -/
theorem product {M K E N : ℕ} (D : DotDims ⟨2, ![M, K]⟩ ⟨3, ![E, K, N]⟩ ⟨3, ![M, E, N]⟩)
    (wf : DotDims.WF ⟨2, ![M, K]⟩ ⟨3, ![E, K, N]⟩ ⟨3, ![M, E, N]⟩ [1] [1] [0] [0, 2] [] []) (hD : D = ⟨[1], [1], [0], [0, 2], [], [], wf⟩)
    (x : FVec Ideal ⟨2, ![M, K]⟩ .bf16) (w : FVec Ideal ⟨3, ![E, K, N]⟩ .bf16) (r : Fin M) (e : Fin E) (c : Fin N) :
    matmul D none x w (constant ⟨3, ![M, E, N]⟩ .f32 0x00000000#32) (ix3 r e c) = ∑ k : Fin K, (x (ix2 r k) : EReal) * w (ix3 e k c) := by
  subst hD
  set D : DotDims ⟨2, ![M, K]⟩ ⟨3, ![E, K, N]⟩ ⟨3, ![M, E, N]⟩ := ⟨[1], [1], [0], [0, 2], [], [], wf⟩ with hD
  have hr : D.contr.rank = 1 := rfl
  have hs : D.contr.size ⟨0, by rw [hr]; exact Nat.one_pos⟩ = K := rfl
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix3 r e c) ((contrEquiv1 D K hr hs).symm k) = ix2 r k := by
    funext a; apply Fin.ext
    match a with
    | ⟨0, _⟩ => rfl
    | ⟨1, _⟩ => exact hk
  have er : D.rhsIdx (ix3 r e c) ((contrEquiv1 D K hr hs).symm k) = ix3 e k c := by
    funext a; apply Fin.ext
    match a with
    | ⟨0, _⟩ => rfl
    | ⟨1, _⟩ => exact hk
    | ⟨2, _⟩ => rfl
  rw [el, er]

/-- Of a row's products, one per expert, the sum keeps that of the row's own. -/
theorem own_only {M E N : ℕ} (mask : IVec ⟨2, ![M, E]⟩ 1) (p : FVec Ideal ⟨3, ![M, E, N]⟩ .f32)
    (h1 : Shape.ShapeCasts ⟨2, ![M, E]⟩ ⟨3, ![M, E, 1]⟩) (h2 : Shape.ShapeCasts ⟨3, ![M, E, 1]⟩ ⟨3, ![M, E, 1]⟩)
    (hb : Shape.Broadcasts ⟨3, ![M, E, 1]⟩ ⟨3, ![M, E, N]⟩) (hr : Shape.Reduces ⟨3, ![M, E, N]⟩ [1] ⟨2, ![M, N]⟩)
    (r : Fin M) (c : Fin N) (e : Fin E) (hm : ∀ j : Fin E, mask (ix2 r j) = if j = e then 1#1 else 0#1) :
    multiReduction .add [1] ⟨2, ![M, N]⟩ (select (broadcastTo ⟨3, ![M, E, N]⟩ (shapeCast ⟨3, ![M, E, 1]⟩ (shapeCast ⟨3, ![M, E, 1]⟩ mask h1) h2) hb) p
        (broadcast ⟨3, ![M, E, N]⟩ (Scalar.ofBits .f32 0x00000000#32))) 0x00000000#32 hr (.inl rfl) rfl (ix2 r c)
      = p (ix3 r e c) := by
  have e2 := Ideal.multiReduction_add_single (a := (1 : Fin 3)) (select (broadcastTo ⟨3, ![M, E, N]⟩ (shapeCast ⟨3, ![M, E, 1]⟩ (shapeCast ⟨3, ![M, E, 1]⟩ mask h1) h2) hb) p
        (broadcast ⟨3, ![M, E, N]⟩ (Scalar.ofBits .f32 0x00000000#32))) 0x00000000#32 hr (.inl rfl) rfl (ix2 r c)
  refine e2.trans ?_
  have ht : ∀ j : Fin E, (select (broadcastTo ⟨3, ![M, E, N]⟩ (shapeCast ⟨3, ![M, E, 1]⟩ (shapeCast ⟨3, ![M, E, 1]⟩ mask h1) h2) hb) p
        (broadcast ⟨3, ![M, E, N]⟩ (Scalar.ofBits .f32 0x00000000#32))) (hr.lift (ix2 r c) j) = if j = e then p (ix3 r e c) else (0 : EReal) := by
    intro j
    have hl : hr.lift (ix2 r c) j = ix3 r j c := funext fun d => Fin.ext (by
      match d with
      | ⟨0, _⟩ => rfl
      | ⟨1, _⟩ => rfl
      | ⟨2, _⟩ => rfl)
    have hbt : broadcastTo ⟨3, ![M, E, N]⟩ (shapeCast ⟨3, ![M, E, 1]⟩ (shapeCast ⟨3, ![M, E, 1]⟩ mask h1) h2) hb (ix3 r j c) = mask (ix2 r j) := by
      rw [shapeCast_self]
      refine (broadcastTo_apply _ _ _ (ix3 r j 0) fun d => ?_).trans (shapeCast_apply _ _ _ _ ?_)
      · match d with
        | ⟨0, _⟩ => show r.val = if M = 1 then 0 else r.val; split <;> omega
        | ⟨1, _⟩ => show j.val = if E = 1 then 0 else j.val; split <;> omega
        | ⟨2, _⟩ => rfl
      · rw [Shape.rowMajor_val_three, Shape.rowMajor_val_two]
        show r.val * E + j.val = (r.val * E + j.val) * 1 + 0
        omega
    refine (congrArg _ hl).trans ?_
    show Scalar.select (broadcastTo ⟨3, ![M, E, N]⟩ (shapeCast ⟨3, ![M, E, 1]⟩ (shapeCast ⟨3, ![M, E, 1]⟩ mask h1) h2) hb (ix3 r j c)) (p (ix3 r j c)) (Ideal.ofBits .f32 0x00000000#32) = _
    rw [hbt, hm, Ideal.ofBits_zero_f32]
    by_cases h : j = e
    · subst h; rw [if_pos rfl, if_pos rfl]; rfl
    · rw [if_neg h, if_neg h]; rfl
  exact (Finset.sum_congr rfl fun j _ => ht j).trans ((Finset.sum_ite_eq' Finset.univ e fun _ => (p (ix3 r e c) : EReal)).trans (if_pos (Finset.mem_univ e)))

end Cert.Proof.Many
-- ==== Proof.ExpRef.lean ====
module
public import proofs.«01_k».proof.Proof.Gen.ExpertsReferenceIdeal.Value
public import proofs.«01_k».proof.Proof.Many
@[expose] public section

set_option maxRecDepth 65536
noncomputable section

/-! What the plain reference of the routed experts computes from its rows and their owners, at an index. -/
namespace Cert.Proof.ExpRef

open Cert.ExpertsReferenceIdeal Cert.ExpertsReferenceIdeal.Gen Cert.ExpertsReferenceIdeal.Value Idealize.ShloMosaic Idealize.ShloMosaic.ValueIdx
open Cert.Proof.Pow Cert.Proof.Quant Cert.Proof.Plain

/-- One entry of the product of the rows with an expert's widened gate or up weights. -/
def dot (x : Vec Ideal S294912x2048 .bf16) (w : Vec Ideal S64x2048x768 .fp8e4m3) (b : Vec Ideal S64x16x6 .f32) (r : Fin 294912) (e : Fin 64) (c : Fin 768) : EReal :=
  ∑ k : Fin 2048, (x (ix2 r k) : EReal) * (w (ix3 e k c) * b (ix3 e (grp (m := 16) rfl k) (grp (m := 6) rfl c)))

/-- The activation of row `r` under expert `e`, group `q`, channel `l` of the group. -/
def hid (x : Vec Ideal S294912x2048 .bf16) (wg : Vec Ideal S64x2048x768 .fp8e4m3) (bg : Vec Ideal S64x16x6 .f32)
    (wu : Vec Ideal S64x2048x768 .fp8e4m3) (bu : Vec Ideal S64x16x6 .f32) (r : Fin 294912) (e : Fin 64) (q : Fin 6) (l : Fin 128) : EReal :=
  act (dot x wg bg r e ⟨128 * q.val + l.val, by omega⟩) (dot x wu bu r e ⟨128 * q.val + l.val, by omega⟩)

/-- The activation rounded: its code times its scale. -/
def rounded (h : Fin 6 → Fin 128 → EReal) (c : Fin 768) : EReal :=
  clip (Ideal.div (h (grp (m := 6) rfl c) ⟨c.val % 128, Nat.mod_lt _ (by norm_num)⟩) (rscale (top (h (grp (m := 6) rfl c))))) * rscale (top (h (grp (m := 6) rfl c)))

/-- The result of row `r` under expert `e`. -/
def res (x : Vec Ideal S294912x2048 .bf16) (wg : Vec Ideal S64x2048x768 .fp8e4m3) (bg : Vec Ideal S64x16x6 .f32)
    (wu : Vec Ideal S64x2048x768 .fp8e4m3) (bu : Vec Ideal S64x16x6 .f32) (wd : Vec Ideal S64x768x2048 .fp8e4m3) (bd : Vec Ideal S64x6x16 .f32)
    (r : Fin 294912) (e : Fin 64) (c : Fin 2048) : EReal :=
  ∑ k : Fin 768, rounded (hid x wg bg wu bu r e) k * (wd (ix3 e k c) * bd (ix3 e (grp (m := 6) rfl k) (grp (m := 16) rfl c)))

variable (ow : Vec Ideal S294912x1 .i32) (x : Vec Ideal S294912x2048 .bf16) (wg : Vec Ideal S64x2048x768 .fp8e4m3) (bg : Vec Ideal S64x16x6 .f32)
    (wu : Vec Ideal S64x2048x768 .fp8e4m3) (bu : Vec Ideal S64x16x6 .f32) (wd : Vec Ideal S64x768x2048 .fp8e4m3) (bd : Vec Ideal S64x6x16 .f32)

/-- A row is its owner's. -/
theorem mask (r : Fin 294912) (e : Fin 64) (h : ow (ix2 r 0) = BitVec.ofNat 32 e.val) (j : Fin 64) :
    k0_pay2 (F := Ideal) ow (ix2 r j) = if j = e then 1#1 else 0#1 := by
  have e1 : broadcastTo S294912x64 (shapeCast S294912x1 ow shapeCasts_S294912x1_S294912x1) broadcasts_S294912x1_S294912x64 (ix2 r j) = ow (ix2 r 0) := by
    rw [shapeCast_self]
    exact broadcastTo_apply _ _ _ _ fun d => by
      match d with
      | ⟨0, _⟩ => rfl
      | ⟨1, _⟩ => rfl
  have e2 : iota .tc S294912x64 32 [1] iota_S294912x64_d1_w32 (ix2 r j) = BitVec.ofNat 32 j.val := by
    unfold iota
    show BitVec.ofNat 32 (0 * 64 + j.val) = _
    rw [Nat.zero_mul, Nat.zero_add]
  show IntOp.cmpi .eq (broadcastTo S294912x64 (shapeCast S294912x1 ow shapeCasts_S294912x1_S294912x1) broadcasts_S294912x1_S294912x64 (ix2 r j))
    (iota .tc S294912x64 32 [1] iota_S294912x64_d1_w32 (ix2 r j)) = _
  rw [e1, e2, h]
  show BitVec.ofBool (BitVec.ofNat 32 e.val == BitVec.ofNat 32 j.val) = _
  by_cases hj : j = e
  · subst hj; rw [if_pos rfl, beq_self_eq_true]; rfl
  · rw [if_neg hj, beq_false_of_ne]
    · rfl
    · intro hh
      have h2 := congrArg BitVec.toNat hh
      rw [BitVec.toNat_ofNat, BitVec.toNat_ofNat] at h2
      exact hj (Fin.ext (by have := j.isLt; have := e.isLt; omega))

theorem dot_eq (r : Fin 294912) (e : Fin 64) (c : Fin 768) : k0_pay4 x wg bg (ix3 r e c) = dot x wg bg r e c := by
  unfold k0_pay4
  refine (Many.product _ dot_S294912x2048_S64x2048x768_S294912x64x768_1_1_0_02_n_n_wf rfl _ _ r e c).trans (Finset.sum_congr rfl fun k _ => congrArg₂ (· * ·) ?_ ?_)
  · rw [shapeCast_self]
  · exact Many.widen (G := 16) (Q := 6) rfl rfl (extf .bf16 wg bitsLt_fp8e4m3_bf16) (truncf .bf16 bg bitsLt_bf16_f32) _ _ _ _ e k c

theorem gate (r : Fin 294912) (e : Fin 64) (h : ow (ix2 r 0) = BitVec.ofNat 32 e.val) (c : Fin 768) : k0_pay3 ow x wg bg (ix2 r c) = dot x wg bg r e c :=
  (Many.own_only (k0_pay2 (F := Ideal) ow) (k0_pay4 x wg bg) shapeCasts_S294912x64_S294912x64x1 shapeCasts_S294912x64x1_S294912x64x1 broadcasts_S294912x64x1_S294912x64x768
    reduces_S294912x64x768_S294912x768 r c e (mask ow r e h)).trans (dot_eq x wg bg r e c)

theorem silu_apply (a b : FVec Ideal S294912x768 .f32) (i : S294912x768.Idx) : mulf (mulf a (logistic a)) b i = act (a i) (b i) := rfl

theorem truncf_at {S : Shape} {φ ψ : FTy} (a : FVec Ideal S φ) (h : ψ.bits < φ.bits) (i : S.Idx) : (truncf ψ a h i : EReal) = a i := rfl

theorem extf_at {S : Shape} {φ ψ : FTy} (a : FVec Ideal S φ) (h : φ.bits < ψ.bits) (i : S.Idx) : (extf ψ a h i : EReal) = a i := rfl

/-- The activations, in groups. -/
def grouped : FVec Ideal S294912x6x128 .f32 :=
  shapeCast S294912x6x128 (mulf (mulf (k0_pay3 ow x wg bg) (logistic (k0_pay3 ow x wg bg))) (k0_pay3 ow x wu bu)) shapeCasts_S294912x768_S294912x6x128

theorem hidden (r : Fin 294912) (e : Fin 64) (h : ow (ix2 r 0) = BitVec.ofNat 32 e.val) (q : Fin 6) (l : Fin 128) :
    grouped ow x wg bg wu bu (ix3 r q l) = hid x wg bg wu bu r e q l := by
  unfold grouped
  refine (split_apply (Q := 6) rfl _ _ r q l).trans ?_
  refine (silu_apply _ _ _).trans ?_
  rw [gate ow x wg bg r e h, gate ow x wu bu r e h]
  rfl

/-- The maximum of each group over 448. -/
def tops : FVec Ideal S294912x6x1 .f32 :=
  shapeCast S294912x6x1 (mulf (multiReduction .maximumf [2] S294912x6 (absf (grouped ow x wg bg wu bu)) 0xFF800000#32 reduces_S294912x6x128_S294912x6 (.inl rfl) rfl)
    (broadcast S294912x6 (Scalar.ofBits .f32 0x3B124925#32))) shapeCasts_S294912x6_S294912x6x1

/-- The powers of two kept under each maximum. -/
def belows : FVec Ideal S294912x6 .f32 :=
  multiReduction .maximumf [2] S294912x6 (select (cmpf .ole (powers iota_S294912x6x247_d2_w32) (broadcastTo S294912x6x247 (tops ow x wg bg wu bu) broadcasts_S294912x6x1_S294912x6x247))
    (powers iota_S294912x6x247_d2_w32) (broadcast S294912x6x247 (Scalar.ofBits .f32 0x00000000#32))) 0xFF800000#32 reduces_S294912x6x247_S294912x6 (.inl rfl) rfl

/-- The scales. -/
def scales : FVec Ideal S294912x6 .f32 :=
  select (cmpf .oeq (belows ow x wg bg wu bu) (broadcast S294912x6 (Scalar.ofBits .f32 0x00000000#32))) (broadcast S294912x6 (Scalar.ofBits .f32 0x3F800000#32))
    (mulf (broadcast S294912x6 (Scalar.ofBits .f32 0x40000000#32)) (belows ow x wg bg wu bu))

/-- The codes, in groups. -/
def codes : FVec Ideal S294912x6x128 .f32 :=
  minimumf (broadcast S294912x6x128 (Scalar.ofBits .f32 0x43E00000#32)) (maximumf (broadcast S294912x6x128 (Scalar.ofBits .f32 0xC3E00000#32))
    (divf (grouped ow x wg bg wu bu) (broadcastTo S294912x6x128 (shapeCast S294912x6x1 (scales ow x wg bg wu bu) shapeCasts_S294912x6_S294912x6x1) broadcasts_S294912x6x1_S294912x6x128)))

/-- The codes, each widened by its group's scale. -/
def widened : FVec Ideal S294912x768 .bf16 :=
  shapeCast S294912x768 (mulf (shapeCast S294912x6x128 (extf .bf16 (shapeCast S294912x768 (truncf .fp8e4m3 (codes ow x wg bg wu bu) bitsLt_fp8e4m3_f32) shapeCasts_S294912x6x128_S294912x768) bitsLt_fp8e4m3_bf16)
      shapeCasts_S294912x768_S294912x6x128)
    (broadcastTo S294912x6x128 (shapeCast S294912x6x1 (truncf .bf16 (scales ow x wg bg wu bu) bitsLt_bf16_f32) shapeCasts_S294912x6_S294912x6x1) broadcasts_S294912x6x1_S294912x6x128))
    shapeCasts_S294912x6x128_S294912x768

theorem widened_eq : k0_pay6 (k0_pay3 ow x wg bg) (k0_pay4 x wu bu) (Scalar.ofBits .f32 0x00000000#32) (k0_pay5 (F := Ideal) ow) = widened ow x wg bg wu bu := rfl

theorem scale (r : Fin 294912) (e : Fin 64) (h : ow (ix2 r 0) = BitVec.ofNat 32 e.val) (q : Fin 6) :
    scales ow x wg bg wu bu (ix2 r q) = rscale (top (hid x wg bg wu bu r e q)) := by
  have e1 := scale_groups (tops ow x wg bg wu bu) iota_S294912x6x247_d2_w32 broadcasts_S294912x6x1_S294912x6x247 reduces_S294912x6x247_S294912x6 r q (belows ow x wg bg wu bu) rfl
  have e2 := top_groups (grouped ow x wg bg wu bu) reduces_S294912x6x128_S294912x6 shapeCasts_S294912x6_S294912x6x1 r q
  exact Eq.trans e1 (congrArg rscale (Eq.trans e2 (congrArg top (funext fun l => hidden ow x wg bg wu bu r e h q l))))

theorem code (r : Fin 294912) (e : Fin 64) (h : ow (ix2 r 0) = BitVec.ofNat 32 e.val) (q : Fin 6) (l : Fin 128) :
    codes ow x wg bg wu bu (ix3 r q l) = clip (Ideal.div (hid x wg bg wu bu r e q l) (rscale (top (hid x wg bg wu bu r e q)))) := by
  have e1 := code_groups (C := 768) rfl (grouped ow x wg bg wu bu) (scales ow x wg bg wu bu) shapeCasts_S294912x6_S294912x6x1 broadcasts_S294912x6x1_S294912x6x128 r q l
  refine Eq.trans e1 ?_
  rw [scale ow x wg bg wu bu r e h, hidden ow x wg bg wu bu r e h]

theorem round_eq (r : Fin 294912) (e : Fin 64) (h : ow (ix2 r 0) = BitVec.ofNat 32 e.val) (c : Fin 768) :
    widened ow x wg bg wu bu (ix2 r c) = rounded (hid x wg bg wu bu r e) c := by
  have e1 := widen_rows (K := 768) (G := 6) rfl (extf .bf16 (shapeCast S294912x768 (truncf .fp8e4m3 (codes ow x wg bg wu bu) bitsLt_fp8e4m3_f32) shapeCasts_S294912x6x128_S294912x768) bitsLt_fp8e4m3_bf16)
    (truncf .bf16 (scales ow x wg bg wu bu) bitsLt_bf16_f32) shapeCasts_S294912x768_S294912x6x128 shapeCasts_S294912x6_S294912x6x1 broadcasts_S294912x6x1_S294912x6x128 shapeCasts_S294912x6x128_S294912x768 r c
  have e2 := flat_apply (Q := 6) (C := 768) rfl (truncf .fp8e4m3 (codes ow x wg bg wu bu) bitsLt_fp8e4m3_f32) shapeCasts_S294912x6x128_S294912x768 r c
  have e3 := code ow x wg bg wu bu r e h (grp (m := 6) rfl c) ⟨c.val % 128, Nat.mod_lt _ (by norm_num)⟩
  have e4 := scale ow x wg bg wu bu r e h (grp (m := 6) rfl c)
  refine Eq.trans e1 ?_
  unfold rounded
  refine congrArg₂ (fun a b : EReal => a * b) (Eq.trans (extf_at _ _ _) (Eq.trans e2 (Eq.trans (truncf_at _ _ _) e3))) (Eq.trans (truncf_at _ _ _) e4)

/-- The result of a row whose owner is in range. -/
theorem result (r : Fin 294912) (e : Fin 64) (h : ow (ix2 r 0) = BitVec.ofNat 32 e.val) (a : Fin 16) (b : Fin 128) :
    k0_pay1 (k0_pay2 (F := Ideal) ow) (k0_pay6 (k0_pay3 ow x wg bg) (k0_pay4 x wu bu) (Scalar.ofBits .f32 0x00000000#32) (k0_pay5 (F := Ideal) ow)) wd bd (ix3 r a b)
      = res x wg bg wu bu wd bd r e ⟨128 * a.val + b.val, by omega⟩ := by
  rw [widened_eq]
  unfold k0_pay1
  refine (shapeCast_apply _ _ _ (ix2 r (⟨128 * a.val + b.val, by omega⟩ : Fin 2048)) ?_).trans ?_
  · rw [Shape.rowMajor_val_three, Shape.rowMajor_val_two]
    show r.val * 2048 + (128 * a.val + b.val) = (r.val * 16 + a.val) * 128 + b.val
    omega
  refine (Many.own_only (k0_pay2 (F := Ideal) ow) _ shapeCasts_S294912x64_S294912x64x1 shapeCasts_S294912x64x1_S294912x64x1 broadcasts_S294912x64x1_S294912x64x2048
    reduces_S294912x64x2048_S294912x2048 r _ e (mask ow r e h)).trans ?_
  refine (Many.product _ dot_S294912x768_S64x768x2048_S294912x64x2048_1_1_0_02_n_n_wf rfl _ _ r e _).trans (Finset.sum_congr rfl fun k _ => congrArg₂ (· * ·) (round_eq ow x wg bg wu bu r e h k) ?_)
  exact Many.widen (G := 6) (Q := 16) rfl rfl (extf .bf16 wd bitsLt_fp8e4m3_bf16) (truncf .bf16 bd bitsLt_bf16_f32) _ _ _ _ e k _

end Cert.Proof.ExpRef
-- ==== Proof.Words.lean ====
module
public import Idealize.ShloMosaic.PureOps.Ideal.Laws
public import Idealize.ShloMosaic.Lib.IdealHost
public import Idealize.ShloMosaic.Lib.ValueIdx
public import Idealize.ShloMosaic.Lib.Pipeline.Value
public import Idealize.ShloMosaic.Lib.WholeRead
public import Idealize.ShloMosaic.Lib.Writes
public import Idealize.ShloMosaic.Lib.VecWindow
public import Idealize.ShloMosaic.Lib.BitcastPair
@[expose] public section

set_option maxRecDepth 16384
noncomputable section

/-! A tile's rows arrive as words, two numbers to a word. What the kernel's unpacking leaves, read at an index. -/
namespace Cert.Proof.Words

open Idealize.ShloMosaic Idealize.ShloMosaic.ValueIdx

abbrev SP : Shape := ⟨3, ![512, 1, 128]⟩
abbrev SB : Shape := ⟨2, ![512, 128]⟩
abbrev S4 : Shape := ⟨4, ![32, 2, 8, 128]⟩
abbrev S41 : Shape := ⟨4, ![32, 1, 8, 128]⟩
abbrev S3 : Shape := ⟨3, ![32, 8, 128]⟩
abbrev SH : Shape := ⟨2, ![256, 128]⟩

/-- Half `b` of a word, as a number. -/
def half (v : BitVec 32) (b : ℕ) : EReal := FloatOps.ofBits (F := Ideal) .bf16 (v.extractLsb' (16 * b) 16)

/-- Every second run of eight word rows. -/
def runsV (o : Fin 4 → ℕ) (w : IVec SP 32) (h1 : SP.ShapeCasts SB) (h2 : SB.ShapeCasts S4) (hs : S4.Slices o S41) (h3 : S41.ShapeCasts S3) : IVec S3 32 :=
  shapeCast S3 (extractStridedSlice S41 o (shapeCast S4 (shapeCast SB w h1) h2) hs) h3

theorem runs_apply (p : ℕ) (w : IVec SP 32) (h1 : SP.ShapeCasts SB) (h2 : SB.ShapeCasts S4) (hs : S4.Slices ![0, p, 0, 0] S41) (h3 : S41.ShapeCasts S3)
    (hp : p < 2) (q : Fin 32) (s : Fin 8) (l : Fin 128) (r : Fin 512) (hr : r.val = 16 * q.val + 8 * p + s.val) :
    runsV ![0, p, 0, 0] w h1 h2 hs h3 (ix3 q s l) = w (ix3 r 0 l) := by
  unfold runsV
  have e1 := shapeCast_apply (extractStridedSlice S41 ![0, p, 0, 0] (shapeCast S4 (shapeCast SB w h1) h2) hs) h3 (ix3 q s l) (ix4 q (0 : Fin 1) s l) (by
    rw [Shape.rowMajor_val_four, Shape.rowMajor_val_three]
    show ((q.val * 1 + 0) * 8 + s.val) * 128 + l.val = (q.val * 8 + s.val) * 128 + l.val
    omega)
  have e2 : extractStridedSlice S41 ![0, p, 0, 0] (shapeCast S4 (shapeCast SB w h1) h2) hs (ix4 q (0 : Fin 1) s l)
      = shapeCast S4 (shapeCast SB w h1) h2 (ix4 q (⟨p, hp⟩ : Fin 2) s l) :=
    extractStridedSlice_apply _ _ _ _ _ fun a => by
      match a with
      | ⟨0, _⟩ => show q.val = 0 + q.val; omega
      | ⟨1, _⟩ => show p = p + 0; omega
      | ⟨2, _⟩ => show s.val = 0 + s.val; omega
      | ⟨3, _⟩ => show l.val = 0 + l.val; omega
  have e3 := shapeCast_apply (shapeCast SB w h1) h2 (ix4 q (⟨p, hp⟩ : Fin 2) s l) (ix2 r l) (by
    rw [Shape.rowMajor_val_four, Shape.rowMajor_val_two]
    show r.val * 128 + l.val = ((q.val * 2 + p) * 8 + s.val) * 128 + l.val
    omega)
  have e4 := shapeCast_apply w h1 (ix2 r l) (ix3 r (0 : Fin 1) l) (by
    rw [Shape.rowMajor_val_three, Shape.rowMajor_val_two]
    show (r.val * 1 + 0) * 128 + l.val = r.val * 128 + l.val
    omega)
  exact e1.trans (e2.trans (e3.trans e4))

/-- Words laid out as rows of numbers: the halves of a word go to neighbouring rows. -/
def packV (x : IVec S3 32) (h4 : S3.ShapeCasts SH) (hb : SH.Bitcasts 32 SB 16) (h5 : SB.ShapeCasts SB) : FVec Ideal SB .bf16 :=
  shapeCast SB (bitcastToFloat .bf16 (bitcast SB 16 (shapeCast SH x h4) hb)) h5

theorem pack_apply (x : IVec S3 32) (h4 : S3.ShapeCasts SH) (hb : SH.Bitcasts 32 SB 16) (h5 : SB.ShapeCasts SB)
    (q : Fin 32) (s : Fin 8) (p : Fin 2) (l : Fin 128) (r : Fin 512) (hr : r.val = 16 * q.val + 2 * s.val + p.val) :
    packV x h4 hb h5 (ix2 r l) = half (x (ix3 q s l)) p.val := by
  unfold packV
  rw [shapeCast_self]
  show FloatOps.ofBits (F := Ideal) .bf16 (bitcast SB 16 (shapeCast SH x h4) hb (ix2 r l)) = _
  rw [bitcast_32_16]
  have hrow : SB.row (ix2 r l) = r.val := rfl
  have hm : SB.row (ix2 r l) % 2 = p.val := by rw [hrow]; omega
  unfold half
  rw [hm]
  have hlt : 8 * q.val + s.val < 256 := by omega
  have ei : ∀ hh, hb.srcIdx (ix2 r l) (SB.row (ix2 r l) / 2) hh = (ix2 (⟨8 * q.val + s.val, hlt⟩ : Fin 256) l : SH.Idx) := fun hh => by
    funext a; apply Fin.ext
    match a with
    | ⟨0, _⟩ =>
      rw [Shape.Bitcasts.srcIdx_row hb _ _ hh _ rfl, hrow]
      show r.val / 2 = 8 * q.val + s.val
      omega
    | ⟨1, _⟩ =>
      rw [Shape.Bitcasts.srcIdx_other hb _ _ hh _ (by show ¬(1 + 2 = 2); omega)]
      rfl
  rw [ei]
  have e1 := shapeCast_apply x h4 (ix2 (⟨8 * q.val + s.val, hlt⟩ : Fin 256) l) (ix3 q s l) (by
    rw [Shape.rowMajor_val_three, Shape.rowMajor_val_two]
    show (q.val * 8 + s.val) * 128 + l.val = (8 * q.val + s.val) * 128 + l.val
    omega)
  rw [e1]

/-- The low halves of two words in one word, and the high halves. -/
def loW (a b : BitVec 32) : BitVec 32 := IntOp.ori (IntOp.andi a 65535#32) (IntOp.shli .vector b 16#32)
def hiW (a b : BitVec 32) : BitVec 32 := IntOp.ori (IntOp.shrui .vector a 16#32) (IntOp.andi b 4294901760#32)

theorem bits_at (m n i : ℕ) (hn : n < 2 ^ 32) : (BitVec.ofNat 32 n).getLsbD i = (decide (i < 32) && n.testBit i) := by
  rw [BitVec.getLsbD_ofNat]

theorem low_mask (i : ℕ) (hi : i < 32) : (65535#32).getLsbD i = decide (i < 16) := by
  revert i; decide

theorem high_mask (i : ℕ) (hi : i < 32) : (4294901760#32).getLsbD i = decide (16 ≤ i) := by
  revert i; decide

theorem lo_low (a b : BitVec 32) : half (loW a b) 0 = half a 0 := by
  refine congrArg (FloatOps.ofBits (F := Ideal) .bf16) (BitVec.eq_of_getLsbD_eq fun i hi => ?_)
  show (((a &&& 65535#32) ||| (b <<< 16#32)).extractLsb' 0 16).getLsbD i = _
  rw [BitVec.getLsbD_extractLsb', BitVec.getLsbD_extractLsb', BitVec.getLsbD_or, BitVec.getLsbD_and, low_mask _ (by omega)]
  have : (b <<< 16#32).getLsbD (0 + i) = false := by simp [hi]
  rw [this]; simp [hi]

theorem lo_high (a b : BitVec 32) : half (loW a b) 1 = half b 0 := by
  refine congrArg (FloatOps.ofBits (F := Ideal) .bf16) (BitVec.eq_of_getLsbD_eq fun i hi => ?_)
  show (((a &&& 65535#32) ||| (b <<< 16#32)).extractLsb' 16 16).getLsbD i = _
  rw [BitVec.getLsbD_extractLsb', BitVec.getLsbD_extractLsb', BitVec.getLsbD_or, BitVec.getLsbD_and, low_mask _ (by omega)]
  have : (b <<< 16#32).getLsbD (16 + i) = b.getLsbD i := by
    simp; omega
  rw [this]; simp [hi]

theorem hi_low (a b : BitVec 32) : half (hiW a b) 0 = half a 1 := by
  refine congrArg (FloatOps.ofBits (F := Ideal) .bf16) (BitVec.eq_of_getLsbD_eq fun i hi => ?_)
  show (((a >>> 16#32) ||| (b &&& 4294901760#32)).extractLsb' 0 16).getLsbD i = _
  rw [BitVec.getLsbD_extractLsb', BitVec.getLsbD_extractLsb', BitVec.getLsbD_or, BitVec.getLsbD_and, high_mask _ (by omega)]
  have : (a >>> 16#32).getLsbD (0 + i) = a.getLsbD (16 + i) := by simp
  have h2 : decide (16 ≤ 0 + i) = false := by simp; omega
  rw [this, h2]; simp

theorem hi_high (a b : BitVec 32) : half (hiW a b) 1 = half b 1 := by
  refine congrArg (FloatOps.ofBits (F := Ideal) .bf16) (BitVec.eq_of_getLsbD_eq fun i hi => ?_)
  show (((a >>> 16#32) ||| (b &&& 4294901760#32)).extractLsb' 16 16).getLsbD i = _
  rw [BitVec.getLsbD_extractLsb', BitVec.getLsbD_extractLsb', BitVec.getLsbD_or, BitVec.getLsbD_and, high_mask _ (by omega)]
  have : (a >>> 16#32).getLsbD (16 + i) = false := by simp; apply BitVec.getLsbD_of_ge; omega
  have h2 : decide (16 ≤ 16 + i) = true := by simp
  rw [this, h2]; simp

/-- The kernel's two unpacked planes of one plane of words. -/
def loV (w : IVec SP 32) (h1 : SP.ShapeCasts SB) (h2 : SB.ShapeCasts S4) (ha : S4.Slices ![0, 0, 0, 0] S41) (hb : S4.Slices ![0, 1, 0, 0] S41)
    (h3 : S41.ShapeCasts S3) (h4 : S3.ShapeCasts SH) (hc : SH.Bitcasts 32 SB 16) (h5 : SB.ShapeCasts SB) : FVec Ideal SB .bf16 :=
  packV (ori (andi (runsV ![0, 0, 0, 0] w h1 h2 ha h3) (broadcast S3 65535#32)) (shli (runsV ![0, 1, 0, 0] w h1 h2 hb h3) (broadcast S3 16#32))) h4 hc h5
def hiV (w : IVec SP 32) (h1 : SP.ShapeCasts SB) (h2 : SB.ShapeCasts S4) (ha : S4.Slices ![0, 0, 0, 0] S41) (hb : S4.Slices ![0, 1, 0, 0] S41)
    (h3 : S41.ShapeCasts S3) (h4 : S3.ShapeCasts SH) (hc : SH.Bitcasts 32 SB 16) (h5 : SB.ShapeCasts SB) : FVec Ideal SB .bf16 :=
  packV (ori (shrui (runsV ![0, 0, 0, 0] w h1 h2 ha h3) (broadcast S3 16#32)) (andi (runsV ![0, 1, 0, 0] w h1 h2 hb h3) (broadcast S3 4294901760#32))) h4 hc h5

/-- The word row that row `r` of a tile comes from. -/
def src (r : Fin 512) : Fin 512 := ⟨16 * (r.val / 16) + 8 * (r.val % 2) + r.val % 16 / 2, by omega⟩

section
variable (w : IVec SP 32) (h1 : SP.ShapeCasts SB) (h2 : SB.ShapeCasts S4) (ha : S4.Slices ![0, 0, 0, 0] S41) (hb : S4.Slices ![0, 1, 0, 0] S41)
    (h3 : S41.ShapeCasts S3) (h4 : S3.ShapeCasts SH) (hc : SH.Bitcasts 32 SB 16) (h5 : SB.ShapeCasts SB) (r : Fin 512) (l : Fin 128)

theorem lo_apply : loV w h1 h2 ha hb h3 h4 hc h5 (ix2 r l) = half (w (ix3 (src r) 0 l)) 0 := by
  have hq : r.val / 16 < 32 := by omega
  have hs : r.val % 16 / 2 < 8 := by omega
  have hp : r.val % 2 < 2 := by omega
  unfold loV
  rw [pack_apply _ h4 hc h5 ⟨r.val / 16, hq⟩ ⟨r.val % 16 / 2, hs⟩ ⟨r.val % 2, hp⟩ l r (by show r.val = 16 * (r.val / 16) + 2 * (r.val % 16 / 2) + r.val % 2; omega)]
  show half (loW (runsV ![0, 0, 0, 0] w h1 h2 ha h3 (ix3 _ _ l)) (runsV ![0, 1, 0, 0] w h1 h2 hb h3 (ix3 _ _ l))) (r.val % 2) = _
  rcases (by omega : r.val % 2 = 0 ∨ r.val % 2 = 1) with e | e
  · rw [e, lo_low, runs_apply 0 w h1 h2 ha h3 (by omega) _ _ l (src r) (by show 16 * (r.val / 16) + 8 * (r.val % 2) + r.val % 16 / 2 = 16 * (r.val / 16) + 8 * 0 + r.val % 16 / 2; omega)]
  · rw [e, lo_high, runs_apply 1 w h1 h2 hb h3 (by omega) _ _ l (src r) (by show 16 * (r.val / 16) + 8 * (r.val % 2) + r.val % 16 / 2 = 16 * (r.val / 16) + 8 * 1 + r.val % 16 / 2; omega)]

theorem hi_apply : hiV w h1 h2 ha hb h3 h4 hc h5 (ix2 r l) = half (w (ix3 (src r) 0 l)) 1 := by
  have hq : r.val / 16 < 32 := by omega
  have hs : r.val % 16 / 2 < 8 := by omega
  have hp : r.val % 2 < 2 := by omega
  unfold hiV
  rw [pack_apply _ h4 hc h5 ⟨r.val / 16, hq⟩ ⟨r.val % 16 / 2, hs⟩ ⟨r.val % 2, hp⟩ l r (by show r.val = 16 * (r.val / 16) + 2 * (r.val % 16 / 2) + r.val % 2; omega)]
  show half (hiW (runsV ![0, 0, 0, 0] w h1 h2 ha h3 (ix3 _ _ l)) (runsV ![0, 1, 0, 0] w h1 h2 hb h3 (ix3 _ _ l))) (r.val % 2) = _
  rcases (by omega : r.val % 2 = 0 ∨ r.val % 2 = 1) with e | e
  · rw [e, hi_low, runs_apply 0 w h1 h2 ha h3 (by omega) _ _ l (src r) (by show 16 * (r.val / 16) + 8 * (r.val % 2) + r.val % 16 / 2 = 16 * (r.val / 16) + 8 * 0 + r.val % 16 / 2; omega)]
  · rw [e, hi_high, runs_apply 1 w h1 h2 hb h3 (by omega) _ _ l (src r) (by show 16 * (r.val / 16) + 8 * (r.val % 2) + r.val % 16 / 2 = 16 * (r.val / 16) + 8 * 1 + r.val % 16 / 2; omega)]
end

/-- The tile's rows of numbers: channels below 1024 are low halves, the others high halves. -/
def XR (x0 : (⟨3, ![512, 8, 128]⟩ : Shape).Idx → BitVec 32) : Vec Ideal ⟨2, ![512, 2048]⟩ .bf16 := fun y =>
  half (x0 (ix3 (src (y 0)) (⟨(y 1).val % 1024 / 128, by omega⟩ : Fin 8) (⟨(y 1).val % 128, by omega⟩ : Fin 128))) ((y 1).val / 1024)

section
variable {sig : RefSig} {κ : Kind} {sp : Space} (m : Memref sig κ sp ⟨3, ![512, 8, 128]⟩ .i32) (x0 : Vec Ideal ⟨3, ![512, 8, 128]⟩ .i32)

theorem plane_apply (j : ℕ) (hj : j < 8) (ic : ∀ a, (![0, j, 0] : Fin 3 → ℕ) a + SP.size a ≤ (⟨3, ![512, 8, 128]⟩ : Shape).size a) (r : Fin 512) (l : Fin 128) :
    View.readAt (Elt Ideal) m.view (Rect.unit (s := ⟨3, ![512, 8, 128]⟩) ![0, j, 0] SP.size ic).toLoadRect (m.view.rep x0) (ix3 r 0 l) = x0 (ix3 r ⟨j, hj⟩ l) := by
  rw [View.readAt_rep]
  refine congrArg x0 (funext fun a => Fin.ext ?_)
  match a with
  | ⟨0, _⟩ => show 0 + 1 * r.val = r.val; omega
  | ⟨1, _⟩ => show j + 1 * 0 = j; omega
  | ⟨2, _⟩ => show 0 + 1 * l.val = l.val; omega

theorem xr_at (b j : ℕ) (hb : b < 2) (hj : j < 8) (o : ℕ) (ho : o = 1024 * b + 128 * j)
    (id : ∀ a, (![0, o] : Fin 2 → ℕ) a + SB.size a ≤ (⟨2, ![512, 2048]⟩ : Shape).size a) (x : SB.Idx) :
    XR x0 ((Rect.unit (s := ⟨2, ![512, 2048]⟩) ![0, o] SB.size id).emb x) = half (x0 (ix3 (src (x 0)) ⟨j, hj⟩ (x 1 : Fin 128))) b := by
  have x1 : (x 1).val < 128 := (x 1).isLt
  have e0 : ((Rect.unit (s := ⟨2, ![512, 2048]⟩) ![0, o] SB.size id).emb x) 0 = (x 0 : Fin 512) := by
    apply Fin.ext; show 0 + 1 * (x 0).val = (x 0).val; omega
  have e1 : (((Rect.unit (s := ⟨2, ![512, 2048]⟩) ![0, o] SB.size id).emb x) 1).val = o + (x 1).val := by
    show o + 1 * (x 1).val = o + (x 1).val; omega
  unfold XR
  have hbb : (((Rect.unit (s := ⟨2, ![512, 2048]⟩) ![0, o] SB.size id).emb x) 1).val / 1024 = b := by rw [e1]; omega
  rw [hbb]
  refine congrArg (fun v => half (x0 v) b) (funext fun a => Fin.ext ?_)
  match a with
  | ⟨0, _⟩ => exact congrArg (fun z => (src z).val) e0
  | ⟨1, _⟩ => show _ % 1024 / 128 = j; rw [e1]; omega
  | ⟨2, _⟩ => show _ % 128 = (x 1).val; rw [e1]; omega

theorem lo_piece (j : ℕ) (hj : j < 8) (o : ℕ) (ho : o = 128 * j) (ic : ∀ a, (![0, j, 0] : Fin 3 → ℕ) a + SP.size a ≤ (⟨3, ![512, 8, 128]⟩ : Shape).size a)
    (id : ∀ a, (![0, o] : Fin 2 → ℕ) a + SB.size a ≤ (⟨2, ![512, 2048]⟩ : Shape).size a)
    (h1 : SP.ShapeCasts SB) (h2 : SB.ShapeCasts S4) (ha : S4.Slices ![0, 0, 0, 0] S41) (hb : S4.Slices ![0, 1, 0, 0] S41)
    (h3 : S41.ShapeCasts S3) (h4 : S3.ShapeCasts SH) (hc : SH.Bitcasts 32 SB 16) (h5 : SB.ShapeCasts SB) (x : SB.Idx) :
    loV (View.readAt (Elt Ideal) m.view (Rect.unit (s := ⟨3, ![512, 8, 128]⟩) ![0, j, 0] SP.size ic).toLoadRect (m.view.rep x0)) h1 h2 ha hb h3 h4 hc h5 x
      = XR x0 ((Rect.unit (s := ⟨2, ![512, 2048]⟩) ![0, o] SB.size id).emb x) := by
  rw [xr_at x0 0 j (by omega) hj o (by omega) id x]
  obtain ⟨r, l, rfl⟩ : ∃ (r : Fin 512) (l : Fin 128), x = ix2 r l := ⟨x 0, x 1, eq_ix2 x⟩
  refine (lo_apply _ h1 h2 ha hb h3 h4 hc h5 r l).trans ?_
  exact congrArg (fun v => half v 0) (plane_apply m x0 j hj ic (src r) l)

theorem hi_piece (j : ℕ) (hj : j < 8) (o : ℕ) (ho : o = 1024 + 128 * j) (ic : ∀ a, (![0, j, 0] : Fin 3 → ℕ) a + SP.size a ≤ (⟨3, ![512, 8, 128]⟩ : Shape).size a)
    (id : ∀ a, (![0, o] : Fin 2 → ℕ) a + SB.size a ≤ (⟨2, ![512, 2048]⟩ : Shape).size a)
    (h1 : SP.ShapeCasts SB) (h2 : SB.ShapeCasts S4) (ha : S4.Slices ![0, 0, 0, 0] S41) (hb : S4.Slices ![0, 1, 0, 0] S41)
    (h3 : S41.ShapeCasts S3) (h4 : S3.ShapeCasts SH) (hc : SH.Bitcasts 32 SB 16) (h5 : SB.ShapeCasts SB) (x : SB.Idx) :
    hiV (View.readAt (Elt Ideal) m.view (Rect.unit (s := ⟨3, ![512, 8, 128]⟩) ![0, j, 0] SP.size ic).toLoadRect (m.view.rep x0)) h1 h2 ha hb h3 h4 hc h5 x
      = XR x0 ((Rect.unit (s := ⟨2, ![512, 2048]⟩) ![0, o] SB.size id).emb x) := by
  rw [xr_at x0 1 j (by omega) hj o (by omega) id x]
  obtain ⟨r, l, rfl⟩ : ∃ (r : Fin 512) (l : Fin 128), x = ix2 r l := ⟨x 0, x 1, eq_ix2 x⟩
  refine (hi_apply _ h1 h2 ha hb h3 h4 hc h5 r l).trans ?_
  exact congrArg (fun v => half v 1) (plane_apply m x0 j hj ic (src r) l)
end

abbrev SW : Shape := ⟨2, ![128, 128]⟩
abbrev SW3 : Shape := ⟨3, ![1, 128, 128]⟩
abbrev SO : Shape := ⟨3, ![1, 1, 1]⟩

/-- A block of weight codes of one expert times one scale. -/
def wV (s : Elt Ideal .f32) (b : Vec Ideal SW3 .fp8e4m3) (h1 : FTy.fp8e4m3.bits < FTy.bf16.bits) (h2 : FTy.bf16.bits < FTy.f32.bits)
    (hc : SW3.ShapeCasts SW) (hc' : SW.ShapeCasts SW) : FVec Ideal SW .bf16 :=
  shapeCast SW (mulf (extf .bf16 (shapeCast SW b hc) h1) (truncf .bf16 (broadcast SW s) h2)) hc'

/-- A weight block of one expert lands where the widened array has it. -/
theorem wV_piece {sig : RefSig} {κ : Kind} {sp sp' : Space} {R C RG CG D : ℕ} (m : Memref sig κ sp ⟨3, ![1, R, C]⟩ .fp8e4m3)
    (ms : Memref sig κ sp' ⟨3, ![1, RG, CG]⟩ .f32)
    (X : Vec Ideal ⟨3, ![1, R, C]⟩ .fp8e4m3) (S : Vec Ideal ⟨3, ![1, RG, CG]⟩ .f32) (G : Vec Ideal ⟨2, ![R, D]⟩ .bf16) (c0 : ℕ)
    (hG : ∀ (r : Fin R) (c : Fin C) (g : Fin RG) (q : Fin CG) (d : Fin D), g.val = r.val / 128 → q.val = c.val / 128 → d.val = c0 + c.val →
      G (ix2 r d) = X (ix3 0 r c) * S (ix3 0 g q))
    (a b k j d : ℕ)
    (ic : ∀ i, (![0, a, b] : Fin 3 → ℕ) i + SW3.size i ≤ (⟨3, ![1, R, C]⟩ : Shape).size i)
    (is : ∀ i, (![0, k, j] : Fin 3 → ℕ) i + SO.size i ≤ (⟨3, ![1, RG, CG]⟩ : Shape).size i)
    (id : ∀ i, (![a, d] : Fin 2 → ℕ) i + SW.size i ≤ (⟨2, ![R, D]⟩ : Shape).size i)
    (h0 : 0 < (Rect.unit (s := ⟨3, ![1, RG, CG]⟩) ![0, k, j] SO.size is).toLoadRect.shape.numel) (h1 : FTy.fp8e4m3.bits < FTy.bf16.bits) (h2 : FTy.bf16.bits < FTy.f32.bits)
    (hc : SW3.ShapeCasts SW) (hc' : SW.ShapeCasts SW) (x : SW.Idx) (ha : a = 128 * k) (hb : b = 128 * j) (hd : d = c0 + b) :
    wV (View.readAt (Elt Ideal) ms.view (Rect.unit (s := ⟨3, ![1, RG, CG]⟩) ![0, k, j] SO.size is).toLoadRect (ms.view.rep S) (Shape.Idx.first h0))
      (View.readAt (Elt Ideal) m.view (Rect.unit (s := ⟨3, ![1, R, C]⟩) ![0, a, b] SW3.size ic).toLoadRect (m.view.rep X)) h1 h2 hc hc' x
      = G ((Rect.unit (s := ⟨2, ![R, D]⟩) ![a, d] SW.size id).emb x) := by
  subst ha hb hd
  have b0 : 128 * k + 128 ≤ R := ic 1
  have b1 : 128 * j + 128 ≤ C := ic 2
  have b2 : k + 1 ≤ RG := is 1
  have b3 : j + 1 ≤ CG := is 2
  have b4 : c0 + 128 * j + 128 ≤ D := id 1
  obtain ⟨r, l, rfl⟩ : ∃ (r : Fin 128) (l : Fin 128), x = ix2 r l := ⟨x 0, x 1, eq_ix2 x⟩
  have e := hG ⟨128 * k + r.val, by omega⟩ ⟨128 * j + l.val, by omega⟩ ⟨k, by omega⟩ ⟨j, by omega⟩ ⟨c0 + 128 * j + l.val, by omega⟩
    (by show k = (128 * k + r.val) / 128; omega) (by show j = (128 * j + l.val) / 128; omega) (by show c0 + 128 * j + l.val = c0 + (128 * j + l.val); omega)
  have hx : (Rect.unit (s := ⟨2, ![R, D]⟩) ![128 * k, c0 + 128 * j] SW.size id).emb (ix2 r l) = ix2 ⟨128 * k + r.val, by omega⟩ ⟨c0 + 128 * j + l.val, by omega⟩ := by
    funext i; apply Fin.ext
    match i with
    | ⟨0, _⟩ => show 128 * k + 1 * r.val = 128 * k + r.val; omega
    | ⟨1, _⟩ => show c0 + 128 * j + 1 * l.val = c0 + 128 * j + l.val; omega
  rw [hx, e]
  unfold wV
  rw [shapeCast_self]
  have e1 := shapeCast_apply (View.readAt (Elt Ideal) m.view (Rect.unit (s := ⟨3, ![1, R, C]⟩) ![0, 128 * k, 128 * j] SW3.size ic).toLoadRect (m.view.rep X)) hc (ix2 r l) (ix3 (0 : Fin 1) r l) (by
    rw [Shape.rowMajor_val_three, Shape.rowMajor_val_two]
    show (0 * 128 + r.val) * 128 + l.val = r.val * 128 + l.val
    omega)
  show shapeCast SW (View.readAt (Elt Ideal) m.view (Rect.unit (s := ⟨3, ![1, R, C]⟩) ![0, 128 * k, 128 * j] SW3.size ic).toLoadRect (m.view.rep X)) hc (ix2 r l)
    * View.readAt (Elt Ideal) ms.view (Rect.unit (s := ⟨3, ![1, RG, CG]⟩) ![0, k, j] SO.size is).toLoadRect (ms.view.rep S) (Shape.Idx.first h0) = _
  refine congrArg₂ (· * ·) (e1.trans ?_) ?_
  · rw [View.readAt_rep]
    refine congrArg X (funext fun i => Fin.ext ?_)
    match i with
    | ⟨0, _⟩ => show 0 + 1 * 0 = 0; omega
    | ⟨1, _⟩ => show 128 * k + 1 * r.val = 128 * k + r.val; omega
    | ⟨2, _⟩ => show 128 * j + 1 * l.val = 128 * j + l.val; omega
  · rw [View.readAt_rep]
    show S ((Rect.unit (s := ⟨3, ![1, RG, CG]⟩) ![0, k, j] SO.size is).toLoadRect.idx (Shape.Idx.first h0)) = _
    refine congrArg S (funext fun i => Fin.ext ?_)
    match i with
    | ⟨0, _⟩ =>
      have hf : ((Shape.Idx.first h0 : (Rect.unit (s := ⟨3, ![1, RG, CG]⟩) ![0, k, j] SO.size is).toLoadRect.shape.Idx) 0).val < 1 := (Shape.Idx.first h0 0).isLt
      show 0 + 1 * ((Shape.Idx.first h0 : (Rect.unit (s := ⟨3, ![1, RG, CG]⟩) ![0, k, j] SO.size is).toLoadRect.shape.Idx) 0).val = 0; omega
    | ⟨1, _⟩ =>
      have hf : ((Shape.Idx.first h0 : (Rect.unit (s := ⟨3, ![1, RG, CG]⟩) ![0, k, j] SO.size is).toLoadRect.shape.Idx) 1).val < 1 := (Shape.Idx.first h0 1).isLt
      show k + 1 * ((Shape.Idx.first h0 : (Rect.unit (s := ⟨3, ![1, RG, CG]⟩) ![0, k, j] SO.size is).toLoadRect.shape.Idx) 1).val = k; omega
    | ⟨2, _⟩ =>
      have hf : ((Shape.Idx.first h0 : (Rect.unit (s := ⟨3, ![1, RG, CG]⟩) ![0, k, j] SO.size is).toLoadRect.shape.Idx) 2).val < 1 := (Shape.Idx.first h0 2).isLt
      show j + 1 * ((Shape.Idx.first h0 : (Rect.unit (s := ⟨3, ![1, RG, CG]⟩) ![0, k, j] SO.size is).toLoadRect.shape.Idx) 2).val = j; omega

end Cert.Proof.Words
-- ==== Proof.ExpRefRun.lean ====
module
public import proofs.«01_k».proof.Proof.ExpRef
public import proofs.«01_k».proof.Proof.Words
public import Idealize.ShloMosaic.Lib.Claim
public import Idealize.ShloMosaic.Lib.StableHlo.Run
@[expose] public section

set_option maxRecDepth 65536
noncomputable section

/-! The run of the plain reference of the routed experts: what it has unpacked before the region, and what its result holds. -/
namespace Cert.Proof.ExpRefRun

open Cert.ExpertsReferenceIdeal Cert.ExpertsReferenceIdeal.Gen Cert.ExpertsReferenceIdeal.Value Idealize.ShloMosaic Idealize.ShloMosaic.ValueIdx Idealize.ShloMosaic.TcCoe
open Cert.Proof.Words

variable (m : (ℓ : Loc nD τ sig) → Buf (Elt Ideal) ℓ) (c : Dev nD)

/-- The rows as the reference unpacks and reorders them. -/
def unpacked (w : Vec Ideal S294912x8x128 .i32) : Vec Ideal S294912x2048 .bf16 :=
  shapeCast S294912x2048 (transpose S18432x8x2x2048 [0, 2, 1, 3] (shapeCast S18432x2x8x2048 (shapeCast S294912x2048
    (transpose S294912x2x8x128 [0, 3, 1, 2] (bitcastToFloat (F := Ideal) .bf16 (Host.bitcastConvertNarrow S294912x8x128x2 16 w splits_S294912x8x128_w32_S294912x8x128x2_w16))
      transposes_S294912x8x128x2_S294912x2x8x128_0_3_1_2) shapeCasts_S294912x2x8x128_S294912x2048) shapeCasts_S294912x2048_S18432x2x8x2048)
      transposes_S18432x2x8x2048_S18432x8x2x2048_0_2_1_3) shapeCasts_S18432x8x2x2048_S294912x2048

/-- The owner of every row. -/
def owners (s : Vec Ideal S2x576 .i32) : Vec Ideal S294912x1 .i32 :=
  broadcastInDim S294912x1 ![0] bcast_S294912_S294912x1_0 (shapeCast S294912 (broadcastInDim S576x512 ![0] bcast_S576_S576x512_0
    (shapeCast S576 (extractStridedSlice S1x576 ![0, 0] s slices_S2x576_S1x576_0_0) shapeCasts_S1x576_S576)) shapeCasts_S576x512_S294912)

theorem V_rows : V m c main_v5 = unpacked (m ((c : Thread nD τ).loc main_arg1)) := by
  unfold_abbrev_sides
  after_results
  rfl

theorem V_owners : V m c main_v10 = owners (m ((c : Thread nD τ).loc main_arg0)) := by
  unfold_abbrev_sides
  after_results
  rfl

/-- The source row of row `R`: runs of eight interleaved. -/
def srcRow (R : Fin 294912) : Fin 294912 := ⟨16 * (R.val / 16) + 8 * (R.val % 2) + R.val % 16 / 2, by omega⟩

theorem unpacked_apply (w : Vec Ideal S294912x8x128 .i32) (R : Fin 294912) (k : Fin 2048) :
    unpacked w (ix2 R k) = half (w (ix3 (srcRow R) (⟨k.val % 1024 / 128, by omega⟩ : Fin 8) (⟨k.val % 128, by omega⟩ : Fin 128))) (k.val / 1024) := by
  unfold unpacked
  refine (shapeCast_apply _ _ _ (ix4 (⟨R.val / 16, by omega⟩ : Fin 18432) (⟨R.val % 16 / 2, by omega⟩ : Fin 8) (⟨R.val % 2, by omega⟩ : Fin 2) k) ?_).trans ?_
  · rw [Shape.rowMajor_val_four, Shape.rowMajor_val_two]
    show ((R.val / 16 * 8 + R.val % 16 / 2) * 2 + R.val % 2) * 2048 + k.val = R.val * 2048 + k.val
    omega
  refine (transpose_apply _ _ _ _ (ix4 (⟨R.val / 16, by omega⟩ : Fin 18432) (⟨R.val % 2, by omega⟩ : Fin 2) (⟨R.val % 16 / 2, by omega⟩ : Fin 8) k) ?_).trans ?_
  · intro b
    match b with
    | ⟨0, _⟩ => rfl
    | ⟨1, _⟩ => rfl
    | ⟨2, _⟩ => rfl
    | ⟨3, _⟩ => rfl
  refine (shapeCast_apply _ _ _ (ix2 (srcRow R) k) ?_).trans ?_
  · rw [Shape.rowMajor_val_four, Shape.rowMajor_val_two]
    show (16 * (R.val / 16) + 8 * (R.val % 2) + R.val % 16 / 2) * 2048 + k.val = ((R.val / 16 * 2 + R.val % 2) * 8 + R.val % 16 / 2) * 2048 + k.val
    omega
  refine (shapeCast_apply _ _ _ (ix4 (srcRow R) (⟨k.val / 1024, by omega⟩ : Fin 2) (⟨k.val % 1024 / 128, by omega⟩ : Fin 8) (⟨k.val % 128, by omega⟩ : Fin 128)) ?_).trans ?_
  · rw [Shape.rowMajor_val_four, Shape.rowMajor_val_two]
    show (((srcRow R).val * 2 + k.val / 1024) * 8 + k.val % 1024 / 128) * 128 + k.val % 128 = (srcRow R).val * 2048 + k.val
    omega
  refine (transpose_apply _ _ _ _ (ix4 (srcRow R) (⟨k.val % 1024 / 128, by omega⟩ : Fin 8) (⟨k.val % 128, by omega⟩ : Fin 128) (⟨k.val / 1024, by omega⟩ : Fin 2)) ?_).trans ?_
  · intro b
    match b with
    | ⟨0, _⟩ => rfl
    | ⟨1, _⟩ => rfl
    | ⟨2, _⟩ => rfl
    | ⟨3, _⟩ => rfl
  unfold half
  show FloatOps.ofBits (F := Ideal) .bf16 ((w _).extractLsb' (k.val / 1024 * 16) 16) = _
  rw [Nat.mul_comm]
  refine congrArg (fun i => FloatOps.ofBits (F := Ideal) .bf16 ((w i).extractLsb' (16 * (k.val / 1024)) 16)) (funext fun a => Fin.ext ?_)
  match a with
  | ⟨0, _⟩ => rfl
  | ⟨1, _⟩ => rfl
  | ⟨2, _⟩ => rfl

theorem owners_apply (s : Vec Ideal S2x576 .i32) (R : Fin 294912) : owners s (ix2 R 0) = s (ix2 0 (⟨R.val / 512, by omega⟩ : Fin 576)) := by
  unfold owners
  refine (broadcastInDim_apply _ _ _ _ (ix1 R) ?_).trans ?_
  · intro a
    match a with
    | ⟨0, _⟩ => rfl
  refine (shapeCast_apply _ _ _ (ix2 (⟨R.val / 512, by omega⟩ : Fin 576) (⟨R.val % 512, by omega⟩ : Fin 512)) ?_).trans ?_
  · rw [Shape.rowMajor_val_one, Shape.rowMajor_val_two]
    show R.val / 512 * 512 + R.val % 512 = R.val
    omega
  refine (broadcastInDim_apply _ _ _ _ (ix1 (⟨R.val / 512, by omega⟩ : Fin 576)) ?_).trans ?_
  · intro a
    match a with
    | ⟨0, _⟩ => rfl
  refine (shapeCast_apply _ _ _ (ix2 (0 : Fin 1) (⟨R.val / 512, by omega⟩ : Fin 576)) ?_).trans ?_
  · rw [Shape.rowMajor_val_one, Shape.rowMajor_val_two]
    show 0 * 576 + R.val / 512 = R.val / 512
    omega
  exact extractStridedSlice_apply _ _ _ _ _ fun a => by
    match a with
    | ⟨0, _⟩ => rfl
    | ⟨1, _⟩ => show R.val / 512 = 0 + R.val / 512; omega

/-- The launch has one point and every window is its whole array. -/
theorem index_zero (w : Fin cfg0.W) (t : Fin cfg0.N) (a : Fin (cfg0.win w).shape.rank) : (cfg0.win w).index t a = 0 := by
  fin_cases w <;> (revert a; revert t; decide +kernel)

theorem emb (w : Fin cfg0.W) (t : Fin cfg0.N) (y : ((cfg0.win w).xblock (cfg0.grid.coords t)).Idx) (a : Fin (cfg0.win w).shape.rank) :
    ((((cfg0.win w).rect t).emb y a) : ℕ) = y a :=
  (cfg0.win w).rect_emb_val_of_index_zero t a (index_zero w t a) y

theorem blk0 (t : Fin cfg0.N) : iblk m c 0 t = V m c main_v5 := funext fun y => congrArg (V m c main_v5) (funext fun a => Fin.ext (emb 0 t y a))
theorem blk1 (t : Fin cfg0.N) : iblk m c 1 t = V m c main_v10 := funext fun y => congrArg (V m c main_v10) (funext fun a => Fin.ext (emb 1 t y a))
theorem blk2 (t : Fin cfg0.N) : iblk m c 2 t = V m c main_arg2 := funext fun y => congrArg (V m c main_arg2) (funext fun a => Fin.ext (emb 2 t y a))
theorem blk3 (t : Fin cfg0.N) : iblk m c 3 t = V m c main_arg4 := funext fun y => congrArg (V m c main_arg4) (funext fun a => Fin.ext (emb 3 t y a))
theorem blk4 (t : Fin cfg0.N) : iblk m c 4 t = V m c main_arg6 := funext fun y => congrArg (V m c main_arg6) (funext fun a => Fin.ext (emb 4 t y a))
theorem blk5 (t : Fin cfg0.N) : iblk m c 5 t = V m c main_arg3 := funext fun y => congrArg (V m c main_arg3) (funext fun a => Fin.ext (emb 5 t y a))
theorem blk6 (t : Fin cfg0.N) : iblk m c 6 t = V m c main_arg5 := funext fun y => congrArg (V m c main_arg5) (funext fun a => Fin.ext (emb 6 t y a))
theorem blk7 (t : Fin cfg0.N) : iblk m c 7 t = V m c main_arg7 := funext fun y => congrArg (V m c main_arg7) (funext fun a => Fin.ext (emb 7 t y a))

/-- What the region computes from its blocks. -/
abbrev P (x : Vec Ideal S294912x2048 .bf16) (ow : Vec Ideal S294912x1 .i32) (wg wu : Vec Ideal S64x2048x768 .fp8e4m3) (wd : Vec Ideal S64x768x2048 .fp8e4m3)
    (bg bu : Vec Ideal S64x16x6 .f32) (bd : Vec Ideal S64x6x16 .f32) : Vec Ideal S294912x16x128 .f32 :=
  k0_pay1 (k0_pay2 (F := Ideal) ow) (k0_pay6 (k0_pay3 ow x wg bg) (k0_pay4 x wu bu) (Scalar.ofBits .f32 0x00000000#32) (k0_pay5 (F := Ideal) ow)) wd bd

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x : Vec Ideal S294912x2048 .bf16) (ow : Vec Ideal S294912x1 .i32) (wg wu : Vec Ideal S64x2048x768 .fp8e4m3) (wd : Vec Ideal S64x768x2048 .fp8e4m3)
    (bg bu : Vec Ideal S64x16x6 .f32) (bd : Vec Ideal S64x6x16 .f32) : out0_8 x ow wg wu wd bg bu bd = P x ow wg wu wd bg bu bd := by
  unfold out0_8
  rw [View.canon_unit_zero hz3, View.ld_unit_zero (S := S294912x2048) hz2 _ x, View.ld_unit_zero (S := S294912x1) hz2 _ ow, View.ld_unit_zero (S := S64x2048x768) hz3 _ wg,
    View.ld_unit_zero (S := S64x2048x768) hz3 _ wu, View.ld_unit_zero (S := S64x768x2048) hz3 _ wd, View.ld_unit_zero (S := S64x16x6) hz3 _ bg,
    View.ld_unit_zero (S := S64x16x6) hz3 _ bu, View.ld_unit_zero (S := S64x6x16) hz3 _ bd]

/-- The whole result. -/
abbrev R : Vec Ideal S294912x16x128 .f32 :=
  P (unpacked (m ((c : Thread nD τ).loc main_arg1))) (owners (m ((c : Thread nD τ).loc main_arg0))) (m ((c : Thread nD τ).loc main_arg2)) (m ((c : Thread nD τ).loc main_arg4))
    (m ((c : Thread nD τ).loc main_arg6)) (m ((c : Thread nD τ).loc main_arg3)) (m ((c : Thread nD τ).loc main_arg5)) (m ((c : Thread nD τ).loc main_arg7))

theorem emb8 (t : Fin cfg0.N) (y : S294912x16x128.Idx) : ((cfg0.win 8).blk t).view.emb y = y := funext fun a => Fin.ext (emb 8 t y a)

theorem flushed_eq (t : Fin cfg0.N) : (dats m 0 c).flushed 8 t = ((cfg0.win 8).blk t).view.read (Elt Ideal) (R m c) := by
  rw [flushed8, out_eq, blk0, blk1, blk2, blk3, blk4, blk5, blk6, blk7, V_rows, V_owners, V_main_arg2, V_main_arg4, V_main_arg6, V_main_arg3, V_main_arg5, V_main_arg7]
  funext y
  show R m c y = R m c (((cfg0.win 8).blk t).view.emb y)
  rw [emb8]

theorem covered (i : S294912x16x128.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

theorem final : (dats m 0 c).arrAt 8 cfg0.N = R m c :=
  (dats m 0 c).arrAt_eq_of_cover 8 (R m c) (fun t _ => flushed_eq m c t) covered

end Cert.Proof.ExpRefRun
-- ==== Proof.Tile.lean ====
module
public import proofs.«01_k».proof.Proof.Quant
public import proofs.«01_k».proof.Proof.Words
@[expose] public section

set_option maxRecDepth 16384
noncomputable section

/-! One tile of the routed experts: its widened weights, its hidden activations rounded to codes and widened again, its
    result; and where each block that the kernel writes lands. -/
namespace Cert.Proof.Tile

open Idealize.ShloMosaic Idealize.ShloMosaic.ValueIdx
open Cert.Proof.Quant

abbrev SW3 : Shape := ⟨3, ![1, 2048, 768]⟩
abbrev SD3 : Shape := ⟨3, ![1, 768, 2048]⟩
abbrev SS3 : Shape := ⟨3, ![1, 16, 6]⟩
abbrev ST3 : Shape := ⟨3, ![1, 6, 16]⟩
abbrev SWW : Shape := ⟨2, ![2048, 1536]⟩
abbrev SDD : Shape := ⟨2, ![768, 2048]⟩
abbrev SHH : Shape := ⟨2, ![512, 768]⟩
abbrev SXX : Shape := ⟨2, ![512, 2048]⟩
abbrev SOO : Shape := ⟨3, ![512, 16, 128]⟩
abbrev SO1 : Shape := ⟨3, ![512, 1, 128]⟩

/-- An expert's gate weights in columns below 768, its up weights above, each code times its block's scale. -/
def WG (x1 x2 : Vec Ideal SW3 .fp8e4m3) (x4 x5 : Vec Ideal SS3 .f32) : Vec Ideal SWW .bf16 := fun y =>
  if h : (y 1).val < 768 then
    x1 (ix3 0 (y 0) (⟨(y 1).val, h⟩ : Fin 768)) * x4 (ix3 0 (⟨(y 0).val / 128, by have : (y 0).val < 2048 := (y 0).isLt; omega⟩ : Fin 16) (⟨(y 1).val / 128, by omega⟩ : Fin 6))
  else
    x2 (ix3 0 (y 0) (⟨(y 1).val - 768, by have : (y 1).val < 1536 := (y 1).isLt; omega⟩ : Fin 768))
      * x5 (ix3 0 (⟨(y 0).val / 128, by have : (y 0).val < 2048 := (y 0).isLt; omega⟩ : Fin 16) (⟨((y 1).val - 768) / 128, by have : (y 1).val < 1536 := (y 1).isLt; omega⟩ : Fin 6))

theorem wg_gate (x1 x2 : Vec Ideal SW3 .fp8e4m3) (x4 x5 : Vec Ideal SS3 .f32) (r : Fin 2048) (c : Fin 768) (g : Fin 16) (q : Fin 6)
    (d : Fin 1536) (hg : g.val = r.val / 128) (hq : q.val = c.val / 128) (hd : d.val = 0 + c.val) :
    WG x1 x2 x4 x5 (ix2 r d) = x1 (ix3 0 r c) * x4 (ix3 0 g q) := by
  have hlt : ((ix2 r d : SWW.Idx) 1).val < 768 := by show d.val < 768; omega
  unfold WG
  rw [dif_pos hlt]
  refine congrArg₂ (· * ·) (congrArg x1 ?_) (congrArg x4 ?_)
  · funext a; apply Fin.ext
    match a with
    | ⟨0, _⟩ => rfl
    | ⟨1, _⟩ => rfl
    | ⟨2, _⟩ => show d.val = c.val; omega
  · funext a; apply Fin.ext
    match a with
    | ⟨0, _⟩ => rfl
    | ⟨1, _⟩ => show r.val / 128 = g.val; omega
    | ⟨2, _⟩ => show d.val / 128 = q.val; rw [hd, Nat.zero_add]; exact hq.symm

theorem wg_up (x1 x2 : Vec Ideal SW3 .fp8e4m3) (x4 x5 : Vec Ideal SS3 .f32) (r : Fin 2048) (c : Fin 768) (g : Fin 16) (q : Fin 6)
    (d : Fin 1536) (hg : g.val = r.val / 128) (hq : q.val = c.val / 128) (hd : d.val = 768 + c.val) :
    WG x1 x2 x4 x5 (ix2 r d) = x2 (ix3 0 r c) * x5 (ix3 0 g q) := by
  have hlt : ¬((ix2 r d : SWW.Idx) 1).val < 768 := by show ¬d.val < 768; omega
  unfold WG
  rw [dif_neg hlt]
  refine congrArg₂ (· * ·) (congrArg x2 ?_) (congrArg x5 ?_)
  · funext a; apply Fin.ext
    match a with
    | ⟨0, _⟩ => rfl
    | ⟨1, _⟩ => rfl
    | ⟨2, _⟩ => show d.val - 768 = c.val; omega
  · funext a; apply Fin.ext
    match a with
    | ⟨0, _⟩ => rfl
    | ⟨1, _⟩ => show r.val / 128 = g.val; omega
    | ⟨2, _⟩ => show (d.val - 768) / 128 = q.val; rw [hd, Nat.add_sub_cancel_left]; exact hq.symm

/-- An expert's down weights, each code times its block's scale. -/
def WD (x3 : Vec Ideal SD3 .fp8e4m3) (x6 : Vec Ideal ST3 .f32) : Vec Ideal SDD .bf16 := fun y =>
  x3 (ix3 0 (y 0) (y 1)) * x6 (ix3 0 (⟨(y 0).val / 128, by have : (y 0).val < 768 := (y 0).isLt; omega⟩ : Fin 6) (⟨(y 1).val / 128, by have : (y 1).val < 2048 := (y 1).isLt; omega⟩ : Fin 16))

theorem wd_eq (x3 : Vec Ideal SD3 .fp8e4m3) (x6 : Vec Ideal ST3 .f32) (r : Fin 768) (c : Fin 2048) (g : Fin 6) (q : Fin 16)
    (d : Fin 2048) (hg : g.val = r.val / 128) (hq : q.val = c.val / 128) (hd : d.val = 0 + c.val) :
    WD x3 x6 (ix2 r d) = x3 (ix3 0 r c) * x6 (ix3 0 g q) := by
  have e : d = c := Fin.ext (by omega)
  subst e
  unfold WD
  refine congrArg₂ (· * ·) rfl (congrArg x6 ?_)
  funext a; apply Fin.ext
  match a with
  | ⟨0, _⟩ => rfl
  | ⟨1, _⟩ => exact hg.symm
  | ⟨2, _⟩ => exact hq.symm

/-- The hidden activations after rounding: code times scale. -/
def HW (x : SXX.Idx → EReal) (w : SWW.Idx → EReal) : Vec Ideal SHH .bf16 := fun y =>
  H6 x w y * H7 x w (ix2 (y 0) (⟨(y 1).val / 128, by have : (y 1).val < 768 := (y 1).isLt; omega⟩ : Fin 6))

/-- One group of codes times its column of scales. -/
def hV (cd : FVec Ideal SB .fp8e4m3) (s : FVec Ideal SC .f32) (h1 : FTy.fp8e4m3.bits < FTy.f32.bits) (h2 : FTy.bf16.bits < FTy.f32.bits)
    (hb : SC.Broadcasts SB) (hc : SB.ShapeCasts SB) : FVec Ideal SB .bf16 :=
  shapeCast SB (truncf .bf16 (mulf (extf .f32 cd h1) (broadcastTo SB s hb)) h2) hc

theorem h_piece (gu : FVec Ideal SG .f32) (x : SXX.Idx → EReal) (w : SWW.Idx → EReal)
    (hgu : ∀ r c, gu (ix2 r c) = row x w r c) (j : Fin 6) (a b : ℕ) (ha : a = 128 * j.val) (hb : b = 768 + 128 * j.val)
    (hs : SG.Slices ![0, a] SB) (hs' : SG.Slices ![0, b] SB) (hr : SB.Reduces [1] SR) (hc : SR.ShapeCasts SC) (hB : SC.Broadcasts SB)
    (ic : ∀ d, (![0, a] : Fin 2 → ℕ) d + SB.size d ≤ SHH.size d)
    (h1 : FTy.fp8e4m3.bits < FTy.f32.bits) (h2 : FTy.bf16.bits < FTy.f32.bits) (hc' : SB.ShapeCasts SB) (z : SB.Idx) :
    hV (codeV (actV gu ![0, a] ![0, b] hs hs') (expV (searchV (topV (actV gu ![0, a] ![0, b] hs hs') hr hc))) hB)
      (scaleV (expV (searchV (topV (actV gu ![0, a] ![0, b] hs hs') hr hc)))) h1 h2 hB hc' z
      = HW x w ((Rect.unit (s := SHH) ![0, a] SB.size ic).emb z) := by
  have ec := code_piece gu x w hgu j a b ha hb hs hs' hr hc hB ic z
  obtain ⟨r, l, rfl⟩ : ∃ (r : Fin 512) (l : Fin 128), z = ix2 r l := ⟨z 0, z 1, eq_ix2 z⟩
  unfold hV
  rw [shapeCast_self]
  have eb : broadcastTo SB (scaleV (expV (searchV (topV (actV gu ![0, a] ![0, b] hs hs') hr hc)))) hB (ix2 r l)
      = scaleV (expV (searchV (topV (actV gu ![0, a] ![0, b] hs hs') hr hc))) (ix2 r 0) :=
    broadcastTo_apply _ _ _ _ fun i => by
      match i with
      | ⟨0, _⟩ => rfl
      | ⟨1, _⟩ => rfl
  show codeV (actV gu ![0, a] ![0, b] hs hs') (expV (searchV (topV (actV gu ![0, a] ![0, b] hs hs') hr hc))) hB (ix2 r l)
    * broadcastTo SB (scaleV (expV (searchV (topV (actV gu ![0, a] ![0, b] hs hs') hr hc)))) hB (ix2 r l) = _
  rw [ec, eb, group_scale gu x w hgu j a b ha hb hs hs' hr hc r]
  unfold HW
  refine congrArg₂ (· * ·) rfl ?_
  show hScale x w r j = hScale x w _ _
  have e0 : r = (((Rect.unit (s := SHH) ![0, a] SB.size ic).emb (ix2 r l)) 0 : Fin 512) := by
    apply Fin.ext; show r.val = 0 + 1 * r.val; omega
  have e1 : j = (⟨(((Rect.unit (s := SHH) ![0, a] SB.size ic).emb (ix2 r l)) 1).val / 128, by
      show (a + 1 * l.val) / 128 < 6; have := j.isLt; omega⟩ : Fin 6) := by
    apply Fin.ext; show j.val = (a + 1 * l.val) / 128; omega
  exact congr (congrArg (hScale x w) e0) e1

/-- The tile's result. -/
def OUT (h : SHH.Idx → EReal) (w : SDD.Idx → EReal) : Vec Ideal SOO .f32 := fun y =>
  ∑ k : Fin 768, h (ix2 (y 0) k) * w (ix2 k (⟨128 * (y 1).val + (y 2).val, by
    have h1 : (y 1).val < 16 := (y 1).isLt
    have h2 : (y 2).val < 128 := (y 2).isLt
    omega⟩ : Fin 2048))

theorem matmul_out (D : DotDims SHH SDD SXX) (hD : D = DotDims.plain 512 768 2048)
    (x : FVec Ideal SHH .bf16) (w : FVec Ideal SDD .bf16) (r : Fin 512) (c : Fin 2048) :
    matmul D none x w (constant SXX .f32 0x00000000#32) (ix2 r c) = ∑ k : Fin 768, x (ix2 r k) * w (ix2 k c) := by
  subst hD
  simp only [matmul]
  rw [Ideal.matmul_plain_apply]
  show Ideal.ofBits .f32 0x00000000#32 + _ = _
  rw [Ideal.ofBits_zero_f32, zero_add]

/-- The columns of one block of the result. -/
def oV (o : FVec Ideal SXX .f32) (off : Fin 2 → ℕ) (hs : SXX.Slices off SB) (hc : SB.ShapeCasts SO1) : FVec Ideal SO1 .f32 :=
  shapeCast SO1 (extractStridedSlice SB off o hs) hc

theorem out_piece (h : SHH.Idx → EReal) (w : SDD.Idx → EReal) (D : DotDims SHH SDD SXX) (hD : D = DotDims.plain 512 768 2048) (j : ℕ) (hj : j < 16) (a : ℕ) (ha : a = 128 * j)
    (hs : SXX.Slices ![0, a] SB) (hc : SB.ShapeCasts SO1) (ic : ∀ d, (![0, j, 0] : Fin 3 → ℕ) d + SO1.size d ≤ SOO.size d) (z : SO1.Idx) :
    oV (matmul (F := Ideal) (φ₁ := .bf16) (φ₂ := .bf16) D none h w (constant SXX .f32 0x00000000#32)) ![0, a] hs hc z = OUT h w ((Rect.unit (s := SOO) ![0, j, 0] SO1.size ic).emb z) := by
  subst ha
  obtain ⟨r, q, l, rfl⟩ : ∃ (r : Fin 512) (q : Fin 1) (l : Fin 128), z = ix3 r q l := ⟨z 0, z 1, z 2, eq_ix3 z⟩
  unfold oV
  have e1 := shapeCast_apply (extractStridedSlice SB ![0, 128 * j] (matmul (F := Ideal) (φ₁ := .bf16) (φ₂ := .bf16) D none h w (constant SXX .f32 0x00000000#32)) hs) hc (ix3 r q l) (ix2 r l) (by
    rw [Shape.rowMajor_val_three, Shape.rowMajor_val_two]
    show r.val * 128 + l.val = (r.val * 1 + q.val) * 128 + l.val
    omega)
  have hlt : 128 * j + l.val < 2048 := by omega
  have e2 : extractStridedSlice SB ![0, 128 * j] (matmul (F := Ideal) (φ₁ := .bf16) (φ₂ := .bf16) D none h w (constant SXX .f32 0x00000000#32)) hs (ix2 r l)
      = matmul (F := Ideal) (φ₁ := .bf16) (φ₂ := .bf16) D none h w (constant SXX .f32 0x00000000#32) (ix2 r (⟨128 * j + l.val, hlt⟩ : Fin 2048)) :=
    extractStridedSlice_apply _ _ _ _ _ fun i => by
      match i with
      | ⟨0, _⟩ => show r.val = 0 + r.val; omega
      | ⟨1, _⟩ => show 128 * j + l.val = 128 * j + l.val; omega
  refine e1.trans (e2.trans ((matmul_out D hD h w r ⟨128 * j + l.val, hlt⟩).trans ?_))
  unfold OUT
  refine Finset.sum_congr rfl fun k _ => congrArg₂ (· * ·) (congrArg h (funext fun i => Fin.ext ?_)) (congrArg w (funext fun i => Fin.ext ?_))
  · match i with
    | ⟨0, _⟩ => show r.val = 0 + 1 * r.val; omega
    | ⟨1, _⟩ => rfl
  · match i with
    | ⟨0, _⟩ => rfl
    | ⟨1, _⟩ => show 128 * j + l.val = 128 * (j + 1 * q.val) + (0 + 1 * l.val); omega

end Cert.Proof.Tile
-- ==== Proof.Whole.lean ====
module
public import proofs.«01_k».proof.Proof.Tile
@[expose] public section

set_option maxRecDepth 16384
noncomputable section

/-! The routed experts' whole result from whole arguments: tile by tile, each tile with the weights of its own expert. -/
namespace Cert.Proof.Whole

open Idealize.ShloMosaic Idealize.ShloMosaic.ValueIdx
open Cert.Proof.Quant Cert.Proof.Words Cert.Proof.Tile

abbrev AX : Shape := ⟨3, ![294912, 8, 128]⟩
abbrev AO : Shape := ⟨3, ![294912, 16, 128]⟩
abbrev AW : Shape := ⟨3, ![64, 2048, 768]⟩
abbrev AD : Shape := ⟨3, ![64, 768, 2048]⟩
abbrev ASW : Shape := ⟨3, ![64, 16, 6]⟩
abbrev ASD : Shape := ⟨3, ![64, 6, 16]⟩

/-- One expert's part of an array. -/
def pick {ε : EltTy} {P Q : ℕ} (A : Vec Ideal ⟨3, ![64, P, Q]⟩ ε) (e : Fin 64) : Vec Ideal ⟨3, ![1, P, Q]⟩ ε := fun y => A (ix3 e (y 1) (y 2))

/-- The word rows of one tile. -/
def rowsOf (A : Vec Ideal AX .i32) (b : Fin 576) : Vec Ideal ⟨3, ![512, 8, 128]⟩ .i32 := fun y =>
  A (ix3 (⟨512 * b.val + (y 0).val, by have h : (y 0).val < 512 := (y 0).isLt; omega⟩ : Fin 294912) (y 1) (y 2))

variable (xs : Vec Ideal AX .i32) (wg wu : Vec Ideal AW .fp8e4m3) (wd : Vec Ideal AD .fp8e4m3) (sg su : Vec Ideal ASW .f32) (sd : Vec Ideal ASD .f32)

/-- The widened gate and up weights of an expert. -/
def gu (e : Fin 64) : Vec Ideal SWW .bf16 := WG (pick wg e) (pick wu e) (pick sg e) (pick su e)
/-- Its widened down weights. -/
def dn (e : Fin 64) : Vec Ideal SDD .bf16 := WD (pick wd e) (pick sd e)

/-- The result of one tile under one expert. -/
def tile (b : Fin 576) (e : Fin 64) : Vec Ideal SOO .f32 :=
  OUT (HW (XR (rowsOf xs b)) (gu wg wu sg su e)) (dn wd sd e)

/-- The tile a row is in. -/
def at_ (r : Fin 294912) : Fin 576 := ⟨r.val / 512, by omega⟩

/-- The whole result, the tiles' experts given. -/
def all (own : Fin 576 → Fin 64) : Vec Ideal AO .f32 := fun i =>
  tile xs wg wu wd sg su sd (at_ (i 0)) (own (at_ (i 0))) (ix3 (⟨(i 0).val % 512, by omega⟩ : Fin 512) (i 1) (i 2))

end Cert.Proof.Whole
-- ==== Proof.ExpEq.lean ====
module
public import proofs.«01_k».proof.Proof.ExpRefRun
public import proofs.«01_k».proof.Proof.Whole
@[expose] public section

set_option maxRecDepth 16384
noncomputable section

/-! A row of the routed experts' kernel is that row of the plain reference, under the same expert. -/
namespace Cert.Proof.ExpEq

open Idealize.ShloMosaic Idealize.ShloMosaic.ValueIdx
open Cert.Proof.Pow Cert.Proof.Quant Cert.Proof.Words Cert.Proof.Tile Cert.Proof.Whole Cert.Proof.ExpRefRun
open Cert.Proof.Plain (grp)

variable (xs : Vec Ideal AX .i32) (wg wu : Vec Ideal AW .fp8e4m3) (wd : Vec Ideal AD .fp8e4m3) (sg su : Vec Ideal ASW .f32) (sd : Vec Ideal ASD .f32)

/-- A row's place in its tile. -/
def in_ (R : Fin 294912) : Fin 512 := ⟨R.val % 512, Nat.mod_lt _ (by norm_num)⟩

theorem row_eq (R : Fin 294912) (k : Fin 2048) : XR (rowsOf xs (at_ R)) (ix2 (in_ R) k) = unpacked xs (ix2 R k) := by
  rw [unpacked_apply]
  unfold XR
  refine congrArg (fun i => half (xs i) (k.val / 1024)) (funext fun a => Fin.ext ?_)
  match a with
  | ⟨0, _⟩ =>
    show 512 * (R.val / 512) + (16 * (R.val % 512 / 16) + 8 * (R.val % 512 % 2) + R.val % 512 % 16 / 2) = 16 * (R.val / 16) + 8 * (R.val % 2) + R.val % 16 / 2
    omega
  | ⟨1, _⟩ => rfl
  | ⟨2, _⟩ => rfl

theorem hid_eq (R : Fin 294912) (e : Fin 64) (q : Fin 6) (l : Fin 128) :
    hAct (XR (rowsOf xs (at_ R))) (gu wg wu sg su e) (in_ R) q l = ExpRef.hid (unpacked xs) wg sg wu su R e q l := by
  unfold hAct ExpRef.hid
  refine congrArg₂ act (Finset.sum_congr rfl fun k _ => ?_) (Finset.sum_congr rfl fun k _ => ?_)
  · refine congrArg₂ (· * ·) (row_eq xs R k) ?_
    exact wg_gate _ _ _ _ k ⟨128 * q.val + l.val, by omega⟩ (grp (m := 16) rfl k) (grp (m := 6) rfl ⟨128 * q.val + l.val, by omega⟩) _ rfl rfl (by simp)
  · refine congrArg₂ (· * ·) (row_eq xs R k) ?_
    exact wg_up _ _ _ _ k ⟨128 * q.val + l.val, by omega⟩ (grp (m := 16) rfl k) (grp (m := 6) rfl ⟨128 * q.val + l.val, by omega⟩) _ rfl rfl (by simp; omega)

theorem rounded_eq (R : Fin 294912) (e : Fin 64) (k : Fin 768) :
    HW (XR (rowsOf xs (at_ R))) (gu wg wu sg su e) (ix2 (in_ R) k) = ExpRef.rounded (ExpRef.hid (unpacked xs) wg sg wu su R e) k := by
  have hh : hAct (XR (rowsOf xs (at_ R))) (gu wg wu sg su e) (in_ R) = ExpRef.hid (unpacked xs) wg sg wu su R e :=
    funext fun q => funext fun l => hid_eq xs wg wu sg su R e q l
  have e1 : H6 (XR (rowsOf xs (at_ R))) (gu wg wu sg su e) (ix2 (in_ R) k)
      = code (top (hAct (XR (rowsOf xs (at_ R))) (gu wg wu sg su e) (in_ R) (grp (m := 6) rfl k)))
          (hAct (XR (rowsOf xs (at_ R))) (gu wg wu sg su e) (in_ R) (grp (m := 6) rfl k) ⟨k.val % 128, Nat.mod_lt _ (by norm_num)⟩) := rfl
  have e2 : ∀ h, H7 (XR (rowsOf xs (at_ R))) (gu wg wu sg su e) (ix2 (in_ R) (⟨k.val / 128, h⟩ : Fin 6))
      = kscale (top (hAct (XR (rowsOf xs (at_ R))) (gu wg wu sg su e) (in_ R) (grp (m := 6) rfl k))) := fun _ => rfl
  show H6 _ _ _ * H7 (XR (rowsOf xs (at_ R))) (gu wg wu sg su e) (ix2 (in_ R) (⟨k.val / 128, _⟩ : Fin 6)) = _
  rw [e1, e2, hh]
  unfold ExpRef.rounded code
  rw [scale_eq, mul_inv_eq]

theorem tile_eq (R : Fin 294912) (e : Fin 64) (a : Fin 16) (l : Fin 128) :
    tile xs wg wu wd sg su sd (at_ R) e (ix3 (in_ R) a l) = ExpRef.res (unpacked xs) wg sg wu su wd sd R e ⟨128 * a.val + l.val, by omega⟩ := by
  unfold ExpRef.res
  show ∑ k : Fin 768, HW (XR (rowsOf xs (at_ R))) (gu wg wu sg su e) (ix2 (in_ R) k) * dn wd sd e (ix2 k (⟨128 * a.val + l.val, _⟩ : Fin 2048)) = _
  refine Finset.sum_congr rfl fun k _ => congrArg₂ (· * ·) (rounded_eq xs wg wu sg su R e k) ?_
  exact wd_eq _ _ k ⟨128 * a.val + l.val, by omega⟩ (grp (m := 6) rfl k) (grp (m := 16) rfl ⟨128 * a.val + l.val, by omega⟩) _ rfl rfl (by simp)

/-- The reference's result at a row whose tile has the expert `e`. -/
theorem reference_at (s : Vec Ideal ⟨2, ![2, 576]⟩ .i32) (R : Fin 294912) (e : Fin 64) (h : s (ix2 0 (at_ R)) = BitVec.ofNat 32 e.val) (a : Fin 16) (l : Fin 128) :
    P (unpacked xs) (owners s) wg wu wd sg su sd (ix3 R a l) = tile xs wg wu wd sg su sd (at_ R) e (ix3 (in_ R) a l) :=
  (ExpRef.result (owners s) (unpacked xs) wg sg wu su wd sd R e ((owners_apply s R).trans h) a l).trans (tile_eq xs wg wu wd sg su sd R e a l).symm

/-- The reference's whole result, when the table's first row gives the tiles' experts. -/
theorem reference_eq (s : Vec Ideal ⟨2, ![2, 576]⟩ .i32) (own : Fin 576 → Fin 64) (h : ∀ j, s (ix2 0 j) = BitVec.ofNat 32 (own j).val) (i : AO.Idx) :
    P (unpacked xs) (owners s) wg wu wd sg su sd i = Whole.all xs wg wu wd sg su sd own i := by
  obtain ⟨R, a, l, rfl⟩ : ∃ (R : Fin 294912) (a : Fin 16) (l : Fin 128), i = ix3 R a l := ⟨i 0, i 1, i 2, eq_ix3 i⟩
  exact reference_at xs wg wu wd sg su sd s R (own (at_ R)) (h (at_ R)) a l

end Cert.Proof.ExpEq
-- ==== Proof.ExpertsTables.lean ====
/- The routed experts' table of slots, for ANY table in range: the number of tiles in use, the expert of each tile, the
   pipeline at such a table, and what its control decides at each grid point. -/
module

public import proofs.«01_k».proof.Proof.Gen.Experts.Flash.Runs
public import Idealize.ShloMosaic.Lib.ValueIdx

@[expose] public section

set_option maxRecDepth 16384
set_option Elab.async false

noncomputable section

namespace Cert.Experts.Any

open Cert.Experts Cert.Experts.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## Tables in range -/

/-- A table of slots in range: the expert of every tile is one of 64, and between 1 and 576 tiles are in use. -/
structure Tabs where
  w : S2x576.Idx → BitVec 32
  expert_lt : ∀ j : Fin 576, (w (ix2 (0 : Fin 2) j)).toNat < 64
  one_le : 1 ≤ (w (ix2 (1 : Fin 2) (0 : Fin 576))).toNat
  le : (w (ix2 (1 : Fin 2) (0 : Fin 576))).toNat ≤ 576

variable (ch : Tabs)

/-- The number of tiles in use. -/
def Tabs.tiles (ch : Tabs) : ℕ := (ch.w (ix2 (1 : Fin 2) (0 : Fin 576))).toNat
/-- The expert of a tile. -/
def Tabs.expert (ch : Tabs) (j : Fin 576) : ℕ := (ch.w (ix2 (0 : Fin 2) j)).toNat

theorem Tabs.tiles_pos (ch : Tabs) : 1 ≤ ch.tiles := ch.one_le
theorem Tabs.tiles_le (ch : Tabs) : ch.tiles ≤ 576 := ch.le

/-- The table as the kernel's buffer holds it. -/
abbrev pinT_0 : S2x576.Idx → BitVec 32 := ch.w

/-- The prefetched tables' contents. -/
def pfN : pre0.Contents (Elt Bits) := fun | ⟨0, _⟩ => pinT_0 ch | ⟨_ + 1, h⟩ => absurd h (by simp)

/-- The launch memory holds the table `ch`. -/
def Pinned (m : (ℓ : Loc nD τ sig) → Buf (Elt Bits) ℓ) : Prop :=
  (∀ c : Dev nD, m ((c : Thread nD τ).loc main_arg0) = pinT_0 ch)

/-! ## The words the control reads -/

/-- A word of the table, read at row `r` and column `j`. -/
theorem word_at (T : S2x576.Idx → BitVec 32) (off : Fin 2 → ℕ) (inb : ∀ a, off a + S1x1.size a ≤ S2x576.size a)
    (h1 : 0 < (Rect.unit (s := S2x576) off S1x1.size inb).shape.numel)
    (r : Fin 2) (j : Fin 576) (hr : off 0 = r.val) (hj : off 1 = j.val) :
    T ((Rect.unit (s := S2x576) off S1x1.size inb).emb (Shape.Idx.first h1)) = T (ix2 r j) := by
  refine congrArg T (funext fun a => Fin.ext ?_)
  match a with
  | ⟨0, _⟩ => show off 0 + 1 * 0 = r.val; omega
  | ⟨1, _⟩ => show off 1 + 1 * 0 = j.val; omega

theorem toNat_coord (i : grid0.Coords) : (BitVec.ofNat 32 (i 0).val).toNat = (i 0).val := by
  have h : (i 0).val < 576 := (i 0).isLt
  rw [BitVec.toNat_ofNat]; exact Nat.mod_eq_of_lt (by omega)

theorem toInt_coord (i : grid0.Coords) : (BitVec.ofNat 32 (i 0).val).toInt = (i 0).val := by
  have h : (i 0).val < 576 := (i 0).isLt
  rw [BitVec.toInt_eq_toNat_of_lt (by rw [toNat_coord]; omega), toNat_coord]

theorem toInt_tiles : (ch.w (ix2 (1 : Fin 2) (0 : Fin 576))).toInt = ch.tiles := by
  have h : (ch.w (ix2 (1 : Fin 2) (0 : Fin 576))).toNat ≤ 576 := ch.le
  exact BitVec.toInt_eq_toNat_of_lt (by omega)

theorem off1_0 (i : grid0.Coords) : k0_off1 i 0 = 0 := rfl
theorem off1_1 (i : grid0.Coords) : k0_off1 i 1 = (i 0).val := toNat_coord i

/-- The expert read at a coordinate. -/
theorem word_expert (i : grid0.Coords) (h1) :
    ch.w ((Rect.unit (s := S2x576) (k0_off1 i) S1x1.size (k0_off1_inb i)).emb (Shape.Idx.first h1)) = ch.w (ix2 (0 : Fin 2) (i 0)) :=
  word_at ch.w _ _ h1 0 (i 0) rfl (off1_1 i)

/-- The number of tiles, read. -/
theorem word_tiles (inb) (h1) :
    ch.w ((Rect.unit (s := S2x576) ![1, 0] S1x1.size inb).emb (Shape.Idx.first h1)) = ch.w (ix2 (1 : Fin 2) (0 : Fin 576)) :=
  word_at ch.w _ _ h1 1 0 rfl rfl

/-- The block of the rows at a coordinate: the coordinate, or the last tile in use where that is before it. -/
theorem rows_index (i : grid0.Coords) :
    (Scalar.minsi (BitVec.ofNat 32 (i 0).val) (Scalar.subi (ch.w (ix2 (1 : Fin 2) (0 : Fin 576))) 1#32)).toNat = min (i 0).val (ch.tiles - 1) := by
  have h : (i 0).val < 576 := (i 0).isLt
  have hp := ch.one_le; have hl := ch.le
  have e : (Scalar.subi (ch.w (ix2 (1 : Fin 2) (0 : Fin 576))) 1#32).toNat = ch.tiles - 1 := by
    show (ch.w (ix2 (1 : Fin 2) (0 : Fin 576)) - 1#32).toNat = _
    rw [BitVec.toNat_sub]; unfold Tabs.tiles
    have : (1#32).toNat = 1 := rfl
    rw [this]; omega
  have e' : (Scalar.subi (ch.w (ix2 (1 : Fin 2) (0 : Fin 576))) 1#32).toInt = (ch.tiles - 1 : ℕ) := by
    have : ch.tiles ≤ 576 := hl
    rw [BitVec.toInt_eq_toNat_of_lt (by rw [e]; omega), e]
  show (if (BitVec.ofNat 32 (i 0).val).slt _ then BitVec.ofNat 32 (i 0).val else _).toNat = _
  rw [BitVec.slt_eq_decide, toInt_coord, e']
  by_cases hc : (i 0).val < ch.tiles - 1
  · rw [if_pos (by simpa using hc), toNat_coord]; omega
  · rw [if_neg (by simpa using hc), e]; omega

theorem transform_rows_0 (i : grid0.Coords) : cc0_transform_0 inb_S2x576_S1x1_1_0 numel1_S1x1 (pfN ch) i = ![min (i 0).val (ch.tiles - 1), 0, 0] := by
  rw [← rows_index ch i, ← word_tiles ch inb_S2x576_S1x1_1_0 (numel1_S1x1.symm ▸ Nat.one_pos)]; rfl
theorem transform_rows_7 (i : grid0.Coords) : cc0_transform_7 inb_S2x576_S1x1_1_0 numel1_S1x1 (pfN ch) i = ![min (i 0).val (ch.tiles - 1), 0, 0] := by
  rw [← rows_index ch i, ← word_tiles ch inb_S2x576_S1x1_1_0 (numel1_S1x1.symm ▸ Nat.one_pos)]; rfl
theorem transform_expert (i : grid0.Coords) : cc0_transform_1 k0_off1_inb numel1_S1x1 (pfN ch) i = ![ch.expert (i 0), 0, 0] := by
  unfold Tabs.expert; rw [← word_expert ch i (numel1_S1x1.symm ▸ Nat.one_pos)]; rfl

/-! ## Every block is inside its array -/

/-- A block of rows, row by row of the index. -/
theorem inside {x lo hi p q : ℕ} (h : (x + 1) * lo ≤ hi) :
    ∀ a : Fin 3, (![x, 0, 0] a + 1) * (![lo, p, q] a) ≤ ![hi, p, q] a := fun a => by
  match a with
  | ⟨0, _⟩ => exact h
  | ⟨1, _⟩ => show (0 + 1) * p ≤ p; omega
  | ⟨2, _⟩ => show (0 + 1) * q ≤ q; omega

theorem inside_rows (i : grid0.Coords) : (min (i 0).val (ch.tiles - 1) + 1) * 512 ≤ 294912 := by
  have h : (i 0).val < 576 := (i 0).isLt
  omega
theorem inside_expert (i : grid0.Coords) : (ch.expert (i 0) + 1) * 1 ≤ 64 := by
  have h : ch.expert (i 0) < 64 := ch.expert_lt (i 0)
  omega

theorem ok_pfN : ok0 (F := Bits) (pfN ch) :=
  ⟨fun i => ⟨by rw [transform_rows_0]; exact inside (inside_rows ch i), .inl rfl⟩,
   fun i => ⟨by rw [transform_expert]; exact inside (inside_expert ch i), .inr (Affine.block_words_dvd (by decide) (by decide))⟩,
   fun i => ⟨by rw [show cc0_transform_2 k0_off1_inb numel1_S1x1 (pfN ch) i = _ from transform_expert ch i]; exact inside (inside_expert ch i), .inr (Affine.block_words_dvd (by decide) (by decide))⟩,
   fun i => ⟨by rw [show cc0_transform_3 k0_off1_inb numel1_S1x1 (pfN ch) i = _ from transform_expert ch i]; exact inside (inside_expert ch i), .inr (Affine.block_words_dvd (by decide) (by decide))⟩,
   fun i => ⟨by rw [show cc0_transform_4 k0_off1_inb numel1_S1x1 (pfN ch) i = _ from transform_expert ch i]; exact inside (inside_expert ch i), .inl rfl⟩,
   fun i => ⟨by rw [show cc0_transform_5 k0_off1_inb numel1_S1x1 (pfN ch) i = _ from transform_expert ch i]; exact inside (inside_expert ch i), .inl rfl⟩,
   fun i => ⟨by rw [show cc0_transform_6 k0_off1_inb numel1_S1x1 (pfN ch) i = _ from transform_expert ch i]; exact inside (inside_expert ch i), .inl rfl⟩,
   fun i => ⟨by rw [transform_rows_7]; exact inside (inside_rows ch i), .inl rfl⟩⟩

/-! ## The pipeline at the table -/

/-- The admissible contents, and the pipeline at them. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x8x128 .i32 := spec0_0.stage ((cfgA ch).slots t (0 : Fin 8))
abbrev hs0_0 (t : Fin (cfgA ch).N) : (ms0_0 ch t).IsWhole := hstage0_0 (((cfgA ch).slots t (0 : Fin 8)).cast nbuf0_0)
abbrev ms0_1 (t : Fin (cfgA ch).N) : Memref sig .tc .vmem S1x2048x768 .fp8e4m3 := spec0_1.stage ((cfgA ch).slots t (1 : Fin 8))
abbrev hs0_1 (t : Fin (cfgA ch).N) : (ms0_1 ch t).IsWhole := hstage0_1 (((cfgA ch).slots t (1 : Fin 8)).cast nbuf0_1)
abbrev ms0_2 (t : Fin (cfgA ch).N) : Memref sig .tc .vmem S1x2048x768 .fp8e4m3 := spec0_2.stage ((cfgA ch).slots t (2 : Fin 8))
abbrev hs0_2 (t : Fin (cfgA ch).N) : (ms0_2 ch t).IsWhole := hstage0_2 (((cfgA ch).slots t (2 : Fin 8)).cast nbuf0_2)
abbrev ms0_3 (t : Fin (cfgA ch).N) : Memref sig .tc .vmem S1x768x2048 .fp8e4m3 := spec0_3.stage ((cfgA ch).slots t (3 : Fin 8))
abbrev hs0_3 (t : Fin (cfgA ch).N) : (ms0_3 ch t).IsWhole := hstage0_3 (((cfgA ch).slots t (3 : Fin 8)).cast nbuf0_3)
abbrev ms0_4 (t : Fin (cfgA ch).N) : Memref sig .tc .smem S1x16x6 .f32 := spec0_4.stage ((cfgA ch).slots t (4 : Fin 8))
abbrev hs0_4 (t : Fin (cfgA ch).N) : (ms0_4 ch t).IsWhole := hstage0_4 (((cfgA ch).slots t (4 : Fin 8)).cast nbuf0_4)
abbrev ms0_5 (t : Fin (cfgA ch).N) : Memref sig .tc .smem S1x16x6 .f32 := spec0_5.stage ((cfgA ch).slots t (5 : Fin 8))
abbrev hs0_5 (t : Fin (cfgA ch).N) : (ms0_5 ch t).IsWhole := hstage0_5 (((cfgA ch).slots t (5 : Fin 8)).cast nbuf0_5)
abbrev ms0_6 (t : Fin (cfgA ch).N) : Memref sig .tc .smem S1x6x16 .f32 := spec0_6.stage ((cfgA ch).slots t (6 : Fin 8))
abbrev hs0_6 (t : Fin (cfgA ch).N) : (ms0_6 ch t).IsWhole := hstage0_6 (((cfgA ch).slots t (6 : Fin 8)).cast nbuf0_6)
abbrev ms0_7 (t : Fin (cfgA ch).N) : Memref sig .tc .vmem S512x16x128 .f32 := spec0_7.stage ((cfgA ch).slots t (7 : Fin 8))
abbrev hs0_7 (t : Fin (cfgA ch).N) : (ms0_7 ch t).IsWhole := hstage0_7 (((cfgA ch).slots t (7 : Fin 8)).cast nbuf0_7)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the table's words -/

abbrev P0_0 (t : Fin (cfgA ch).N) : Prop := (Scalar.cmpi .ne (Scalar.extui (Scalar.ori (Scalar.cmpi .eq (BitVec.ofNat 32 ((crd ch t) 0).val) 0#32) (Scalar.cmpi .ne (View.readAt (Elt Bits) (tbM0_0).view (Rect.unit (s := S2x576) (k0_off1 (crd ch t)) S1x1.size (k0_off1_inb (crd ch t))).toLoadRect (pinT_0 ch) (Shape.Idx.first (numel1_S1x1.symm ▸ Nat.one_pos))) (View.readAt (Elt Bits) (tbM0_0).view (Rect.unit (s := S2x576) (k0_off2 (crd ch t)) S1x1.size (k0_off2_inb (crd ch t))).toLoadRect (pinT_0 ch) (Shape.Idx.first (numel1_S1x1.symm ▸ Nat.one_pos)))))) 0#32) = 1#1
abbrev P0_1 (t : Fin (cfgA ch).N) : Prop := k0_cond2 (crd ch t) (View.readAt (Elt Bits) (tbM0_0).view (Rect.unit (s := S2x576) ![1, 0] S1x1.size inb_S2x576_S1x1_1_0).toLoadRect (pinT_0 ch) (Shape.Idx.first (numel1_S1x1.symm ▸ Nat.one_pos))) = 1#1

/-- Whether the widened gate and up weights hold nothing a point has determined, before position `n`. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- The same of the tile's rows and of its hidden activations. -/
def sfresh0_2 : ℕ → Bool
  | 0 => true
  | n + 1 => if h : n < (cfgA ch).N then (if P0_0 ch ⟨n, h⟩ then (if P0_1 ch ⟨n, h⟩ then false else sfresh0_2 n) else (if P0_1 ch ⟨n, h⟩ then false else sfresh0_2 n)) else true

/-- The coordinate of a point is the point. -/
theorem crd_val (t : Fin (cfgA ch).N) : ((crd ch t) 0).val = t.val := by
  have h : t.val < 576 := t.isLt
  rw [show ((crd ch t) 0).val = t.val / 1 % 576 from Pipeline.Grid.coords_val t (0 : Fin 1) (S := 1) (B := 576) rfl rfl]
  omega

theorem bit_ne (b : BitVec 1) : (Scalar.cmpi .ne (Scalar.extui b) 0#32 = 1#1) ↔ b = 1#1 := by
  revert b; decide

theorem ofBool_one (b : Bool) : BitVec.ofBool b = 1#1 ↔ b = true := by cases b <;> decide

/-- The tile's rows are worked at the points below the number of tiles in use. -/
theorem cond2_iff (i : grid0.Coords) : k0_cond2 i (ch.w (ix2 (1 : Fin 2) (0 : Fin 576))) = 1#1 ↔ (i 0).val < ch.tiles := by
  refine (bit_ne _).trans ?_
  show BitVec.ofBool ((BitVec.ofNat 32 (i 0).val).slt _) = 1#1 ↔ _
  rw [ofBool_one, BitVec.slt_eq_decide, toInt_coord, toInt_tiles]; simp

theorem P0_1_iff (t : Fin (cfgA ch).N) : P0_1 ch t ↔ t.val < ch.tiles := by
  have e := cond2_iff ch (crd ch t)
  rw [crd_val, ← word_tiles ch inb_S2x576_S1x1_1_0 (numel1_S1x1.symm ▸ Nat.one_pos)] at e
  exact e

/-- The first point widens the weights. -/
theorem P0_0_zero (t : Fin (cfgA ch).N) (h : t.val = 0) : P0_0 ch t := by
  refine (bit_ne _).mpr ?_
  show Scalar.cmpi .eq (BitVec.ofNat 32 ((crd ch t) 0).val) 0#32 ||| _ = 1#1
  rw [crd_val, h]
  show (1#1 : BitVec 1) ||| _ = 1#1
  generalize (Scalar.cmpi _ _ _ : BitVec 1) = b; revert b; decide

theorem P0_1_zero (t : Fin (cfgA ch).N) (h : t.val = 0) : P0_1 ch t := by
  rw [P0_1_iff]; have := ch.tiles_pos; omega

theorem idle_7 (t : Fin (cfgA ch).N) : (cfgA ch).idle (7 : Fin 8) ((cfgA ch).grid.coords t) = decide (¬ t.val < ch.tiles) := by
  have e := cond2_iff ch (crd ch t)
  rw [crd_val] at e
  show (!(k0_cond2 (crd ch t) ((pfN ch).atD 0 ![1, 0]) == 1#1)) = _
  have w : (pfN ch).atD 0 ![1, 0] = ch.w (ix2 (1 : Fin 2) (0 : Fin 576)) := by
    unfold Pipeline.Prefetch.Contents.atD
    rw [dif_pos (by decide)]
    refine congrArg ch.w (funext fun a => Fin.ext ?_)
    match a with
    | ⟨0, _⟩ => rfl
    | ⟨1, _⟩ => rfl
  rw [w]
  by_cases h : t.val < ch.tiles
  · rw [e.mpr h]; simp [h]
  · have : ¬ k0_cond2 (crd ch t) (ch.w (ix2 (1 : Fin 2) (0 : Fin 576))) = 1#1 := fun x => h (e.mp x)
    simp [h, this]

theorem index_7 (t : Fin (cfgA ch).N) : ((cfgA ch).win (7 : Fin 8)).index t = ![min t.val (ch.tiles - 1), 0, 0] := by
  have e := transform_rows_7 ch (crd ch t)
  rw [crd_val] at e
  exact e

/-- Where a tile is written back: at every tile but the last in use, and at the last point. -/
theorem flush_7 (t : Fin (cfgA ch).N) : ((cfgA ch).win (7 : Fin 8)).flush t = decide (t.val + 1 < ch.tiles ∨ t.val = 575) := by
  have ht : t.val < 576 := t.isLt
  have hl := ch.tiles_le
  unfold Pipeline.Window.flush
  rw [show ((cfgA ch).win (7 : Fin 8)).isOut = true from rfl, Bool.true_and]
  rw [Bool.eq_iff_iff]; simp only [Bool.or_eq_true, decide_eq_true_eq, ne_eq]
  show (t.val + 1 = 576 ∨ _) ↔ _
  constructor
  · rintro (h | ⟨h, hne⟩)
    · right; omega
    · left; by_contra hc; apply hne
      rw [index_7, index_7]
      have : min (t.val + 1) (ch.tiles - 1) = min t.val (ch.tiles - 1) := by omega
      show ![min (t.val + 1) (ch.tiles - 1), 0, 0] = _
      rw [this]
  · rintro (h | h)
    · right; refine ⟨show t.val + 1 < 576 by omega, fun he => ?_⟩
      rw [index_7, index_7] at he
      have := congrFun he 0
      have : min (t.val + 1) (ch.tiles - 1) = min t.val (ch.tiles - 1) := this
      omega
    · left; omega

/-! ## Where the buffers hold nothing that a point has determined -/

/-- The output block: where the point before wrote its tile back. -/
def frTab0_7 (n : ℕ) : Bool := decide (n < ch.tiles ∨ n = 576)

theorem frTab0_7_step (t : Fin (cfgA ch).N) :
    frTab0_7 ch (t.val + 1) = (((cfgA ch).win (7 : Fin 8)).flush t || ((cfgA ch).idle (7 : Fin 8) ((cfgA ch).grid.coords t) && frTab0_7 ch t.val)) := by
  have ht : t.val < 576 := t.isLt
  have hl := ch.tiles_le
  rw [flush_7, idle_7]; unfold frTab0_7
  rw [Bool.eq_iff_iff]; simp only [Bool.or_eq_true, Bool.and_eq_true, decide_eq_true_eq]
  omega

theorem freshF0_7 (t : Fin (cfgA ch).N) : (cfgA ch).fresh (7 : Fin 8) t.val = frTab0_7 ch t.val :=
  Pipeline.Cfg.fresh_tab (cfgA ch) (7 : Fin 8) (frTab0_7 ch) (by have := ch.tiles_pos; unfold frTab0_7; rw [decide_eq_true_eq]; omega)
    (frTab0_7_step ch) t.val (Nat.le_of_lt t.isLt)

/-- A scratch is determined from the first point on. -/
theorem sfresh0_0_succ (n : ℕ) (h : n < (cfgA ch).N) : sfresh0_0 ch (n + 1) = false := by
  induction n with
  | zero => rw [sfresh0_0, dif_pos h, if_pos (P0_0_zero ch ⟨0, h⟩ rfl), if_pos (P0_1_zero ch ⟨0, h⟩ rfl)]
  | succ n ih => rw [sfresh0_0, dif_pos h]; simp only [ih (Nat.lt_of_succ_lt h), ite_self]
theorem sfresh0_2_succ (n : ℕ) (h : n < (cfgA ch).N) : sfresh0_2 ch (n + 1) = false := by
  induction n with
  | zero => rw [sfresh0_2, dif_pos h, if_pos (P0_0_zero ch ⟨0, h⟩ rfl), if_pos (P0_1_zero ch ⟨0, h⟩ rfl)]
  | succ n ih => rw [sfresh0_2, dif_pos h]; simp only [ih (Nat.lt_of_succ_lt h), ite_self]
theorem sfresh0_0_pos (n : ℕ) (h : n < (cfgA ch).N) (hn : n ≠ 0) : sfresh0_0 ch n = false := by
  obtain ⟨k, rfl⟩ := Nat.exists_eq_succ_of_ne_zero hn
  exact sfresh0_0_succ ch k (Nat.lt_of_succ_lt h)
theorem sfresh0_2_pos (n : ℕ) (h : n < (cfgA ch).N) (hn : n ≠ 0) : sfresh0_2 ch n = false := by
  obtain ⟨k, rfl⟩ := Nat.exists_eq_succ_of_ne_zero hn
  exact sfresh0_2_succ ch k (Nat.lt_of_succ_lt h)

/-! ## The schedule, by what the point does -/

theorem sched0_A (t : Fin (cfgA ch).N) (q0 : P0_0 ch t) (q1 : P0_1 ch t) :
    (cfgA ch).idle (7 : Fin 8) ((cfgA ch).grid.coords t) = false ∧ (cfgA ch).fresh (7 : Fin 8) t.val = true
      ∧ sfresh0_0 ch (t.val + 1) = false ∧ sfresh0_2 ch (t.val + 1) = false := by
  rw [P0_1_iff] at q1
  rw [freshF0_7, idle_7]
  exact ⟨by simp [q1], by simp [frTab0_7, q1], sfresh0_0_succ ch _ t.isLt, sfresh0_2_succ ch _ t.isLt⟩

theorem sched0_B (t : Fin (cfgA ch).N) (q0 : ¬P0_0 ch t) (q1 : P0_1 ch t) :
    (cfgA ch).idle (7 : Fin 8) ((cfgA ch).grid.coords t) = false ∧ (cfgA ch).fresh (7 : Fin 8) t.val = true
      ∧ sfresh0_0 ch t.val = false ∧ sfresh0_0 ch (t.val + 1) = false ∧ sfresh0_2 ch t.val = false ∧ sfresh0_2 ch (t.val + 1) = false := by
  have h0 : t.val ≠ 0 := fun h => q0 (P0_0_zero ch t h)
  rw [P0_1_iff] at q1
  rw [freshF0_7, idle_7]
  exact ⟨by simp [q1], by simp [frTab0_7, q1], sfresh0_0_pos ch _ t.isLt h0, sfresh0_0_succ ch _ t.isLt, sfresh0_2_pos ch _ t.isLt h0, sfresh0_2_succ ch _ t.isLt⟩

/-- A point past the tiles in use. -/
theorem sched0_idle (t : Fin (cfgA ch).N) (q1 : ¬P0_1 ch t) :
    (cfgA ch).idle (7 : Fin 8) ((cfgA ch).grid.coords t) = true ∧ (cfgA ch).fresh (7 : Fin 8) t.val = false
      ∧ sfresh0_0 ch t.val = false ∧ sfresh0_0 ch (t.val + 1) = false ∧ sfresh0_2 ch t.val = false ∧ sfresh0_2 ch (t.val + 1) = false := by
  have h0 : t.val ≠ 0 := fun h => q1 (P0_1_zero ch t h)
  have ht : t.val < 576 := t.isLt
  rw [P0_1_iff] at q1
  rw [freshF0_7, idle_7]
  exact ⟨by simp [q1], by simp [frTab0_7, q1]; omega, sfresh0_0_pos ch _ t.isLt h0, sfresh0_0_succ ch _ t.isLt, sfresh0_2_pos ch _ t.isLt h0, sfresh0_2_succ ch _ t.isLt⟩

end Cert.Experts.Any

end
-- ==== Proof.ExpertsFrame.lean ====
/- The routed experts' launch at ANY table in range: what the output block and the scratches hold after each grid point, the
   body at each point, and the frame: every execution terminates, nothing faults, the arguments end unchanged. -/
module

public import proofs.«01_k».proof.Proof.ExpertsTables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Experts.Any

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Tabs)
variable (m : (ℓ : Loc nD τ sig) → Buf (Elt Bits) ℓ) (ρ : Dev nD → PrngReg)

/-- What a point may leave for the next: the output block, and the four scratches. -/
abbrev State (c : Dev nD) : Type := (S512x16x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)

/-! ## The body's run at a point, by what the point does -/

/-- The run of a point that widens the weights and works a tile. -/
abbrev runA (c : Dev nD) (t : Fin (cfgA ch).N) (q0 : P0_0 ch t) (q1 : P0_1 ch t) :=
  kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) q0 q1
/-- What it leaves in the output block. -/
abbrev outA (c : Dev nD) (t : Fin (cfgA ch).N) (q0 : P0_0 ch t) (q1 : P0_1 ch t) : S512x16x128.Idx → Elt Bits .f32 :=
  out0_A_7 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) q0 q1
/-- The run of a point that works a tile. -/
abbrev runB (c : Dev nD) (t : Fin (cfgA ch).N) (prev : State c) (q0 : ¬P0_0 ch t) (q1 : P0_1 ch t) :=
  kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) prev.2.1 prev.2.2.1 q0 q1
/-- What it leaves in the output block. -/
abbrev outB (c : Dev nD) (t : Fin (cfgA ch).N) (prev : State c) (q0 : ¬P0_0 ch t) (q1 : P0_1 ch t) : S512x16x128.Idx → Elt Bits .f32 :=
  out0_B_7 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) prev.2.1 prev.2.2.1 q0 q1
/-- The run of a point that only widens the weights. -/
abbrev runC (c : Dev nD) (t : Fin (cfgA ch).N) (prev : State c) (q0 : P0_0 ch t) (q1 : ¬P0_1 ch t) :=
  kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) prev.2.2.2.1 prev.2.2.2.2 q0 q1
/-- The run of a point that does nothing. -/
abbrev runD (c : Dev nD) (t : Fin (cfgA ch).N) (prev : State c) (q0 : ¬P0_0 ch t) (q1 : ¬P0_1 ch t) :=
  kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) prev.2.1 prev.2.2.1 prev.2.2.2.1 prev.2.2.2.2 q0 q1

/-! ## What the outputs and scratches hold after each point -/

/-- ONE STEP of the trajectory: what the outputs' current buffers and the scratches hold after the body at point `t`
    (output 7, scratch 0, scratch 1, scratch 2, scratch 3), from what they held before (`prev`): the path the decisions select at `t`, its
    run's contents; an output the path leaves idle keeps what it held (junk — `default`, named by nothing — where fresh). -/
def step0 (c : Dev nD) (t : Fin (cfgA ch).N) (prev : State c) : State c :=
  if q0 : P0_0 ch t then
    if q1 : P0_1 ch t then
      (outA ch m ρ c t q0 q1, (runA ch m ρ c t q0 q1).2.1, (runA ch m ρ c t q0 q1).2.2.1, (runA ch m ρ c t q0 q1).2.2.2.1, (runA ch m ρ c t q0 q1).2.2.2.2.1)
    else
      ((if (cfgA ch).fresh (7 : Fin 8) t.val then default else prev.1), (runC ch m ρ c t prev q0 q1).1, (runC ch m ρ c t prev q0 q1).2.1, (runC ch m ρ c t prev q0 q1).2.2.1, (runC ch m ρ c t prev q0 q1).2.2.2.1)
  else
    if q1 : P0_1 ch t then
      (outB ch m ρ c t prev q0 q1, (runB ch m ρ c t prev q0 q1).2.1, (runB ch m ρ c t prev q0 q1).2.2.1, (runB ch m ρ c t prev q0 q1).2.2.2.1, (runB ch m ρ c t prev q0 q1).2.2.2.2.1)
    else
      ((if (cfgA ch).fresh (7 : Fin 8) t.val then default else prev.1), (runD ch m ρ c t prev q0 q1).1, (runD ch m ρ c t prev q0 q1).2.1, (runD ch m ρ c t prev q0 q1).2.2.1, (runD ch m ρ c t prev q0 q1).2.2.2.1)

/-- THE TRAJECTORY: after position `n`. -/
def traj0 (c : Dev nD) : (n : ℕ) → n < (cfgA ch).N → State c
  | 0, h => step0 ch m ρ c ⟨0, h⟩ (default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : State c :=
  if h : t.val = 0 then (default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : State c) (q0 : P0_0 ch t) (q1 : P0_1 ch t) :
    step0 ch m ρ c t prev = (outA ch m ρ c t q0 q1, (runA ch m ρ c t q0 q1).2.1, (runA ch m ρ c t q0 q1).2.2.1, (runA ch m ρ c t q0 q1).2.2.2.1, (runA ch m ρ c t q0 q1).2.2.2.2.1) := by
  unfold step0; simp only [dif_pos q0, dif_pos q1]

/-- `step0` at a point of path B. -/
theorem step0_B (c : Dev nD) (t : Fin (cfgA ch).N) (prev : State c) (q0 : ¬P0_0 ch t) (q1 : P0_1 ch t) :
    step0 ch m ρ c t prev = (outB ch m ρ c t prev q0 q1, (runB ch m ρ c t prev q0 q1).2.1, (runB ch m ρ c t prev q0 q1).2.2.1, (runB ch m ρ c t prev q0 q1).2.2.2.1, (runB ch m ρ c t prev q0 q1).2.2.2.2.1) := by
  unfold step0; simp only [dif_neg q0, dif_pos q1]

/-- `step0` at a point of path C. -/
theorem step0_C (c : Dev nD) (t : Fin (cfgA ch).N) (prev : State c) (q0 : P0_0 ch t) (q1 : ¬P0_1 ch t) :
    step0 ch m ρ c t prev = ((if (cfgA ch).fresh (7 : Fin 8) t.val then default else prev.1), (runC ch m ρ c t prev q0 q1).1, (runC ch m ρ c t prev q0 q1).2.1, (runC ch m ρ c t prev q0 q1).2.2.1, (runC ch m ρ c t prev q0 q1).2.2.2.1) := by
  unfold step0; simp only [dif_pos q0, dif_neg q1]

/-- `step0` at a point of path D. -/
theorem step0_D (c : Dev nD) (t : Fin (cfgA ch).N) (prev : State c) (q0 : ¬P0_0 ch t) (q1 : ¬P0_1 ch t) :
    step0 ch m ρ c t prev = ((if (cfgA ch).fresh (7 : Fin 8) t.val then default else prev.1), (runD ch m ρ c t prev q0 q1).1, (runD ch m ρ c t prev q0 q1).2.1, (runD ch m ρ c t prev q0 q1).2.2.1, (runD ch m ρ c t prev q0 q1).2.2.2.1) := by
  unfold step0; simp only [dif_neg q0, dif_neg q1]

/-! ## The pipeline's proof data -/

/-- What the tracked buffers held before position `t` of `Fin (N+1)` (the invariant's index). -/
def prev0T (c : Dev nD) (t : Fin ((cfgA ch).N + 1)) : State c :=
  if h : t.val = 0 then (default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_0 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_2 ch t.val = false → a = (prev0T ch m ρ c t).2.2.2.2⌝ ∗ (scM0_3.view.loc (c : Thread nD τ) ↦{fullShare} a)) ∗ (tbM0_0.view.loc (c : Thread nD τ) ↦{fullShare.right} pinT_0 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 8) t
    | ⟨1, _⟩ => iblk ch m ρ c (1 : Fin 8) t
    | ⟨2, _⟩ => iblk ch m ρ c (2 : Fin 8) t
    | ⟨3, _⟩ => iblk ch m ρ c (3 : Fin 8) t
    | ⟨4, _⟩ => iblk ch m ρ c (4 : Fin 8) t
    | ⟨5, _⟩ => iblk ch m ρ c (5 : Fin 8) t
    | ⟨6, _⟩ => iblk ch m ρ c (6 : Fin 8) t
    | ⟨7, _⟩ => (traj0 ch m ρ c t.val t.isLt).1
  Φ t := Phi ch m ρ c t
  q _ := fullShare
  owed _ := 0

theorem after0_0 (c : Dev nD) (t : Fin (cfgA ch).N) : (dats ch m ρ 0 c).after (0 : Fin 8) t = iblk ch m ρ c (0 : Fin 8) t := rfl
theorem after0_1 (c : Dev nD) (t : Fin (cfgA ch).N) : (dats ch m ρ 0 c).after (1 : Fin 8) t = iblk ch m ρ c (1 : Fin 8) t := rfl
theorem after0_2 (c : Dev nD) (t : Fin (cfgA ch).N) : (dats ch m ρ 0 c).after (2 : Fin 8) t = iblk ch m ρ c (2 : Fin 8) t := rfl
theorem after0_3 (c : Dev nD) (t : Fin (cfgA ch).N) : (dats ch m ρ 0 c).after (3 : Fin 8) t = iblk ch m ρ c (3 : Fin 8) t := rfl
theorem after0_4 (c : Dev nD) (t : Fin (cfgA ch).N) : (dats ch m ρ 0 c).after (4 : Fin 8) t = iblk ch m ρ c (4 : Fin 8) t := rfl
theorem after0_5 (c : Dev nD) (t : Fin (cfgA ch).N) : (dats ch m ρ 0 c).after (5 : Fin 8) t = iblk ch m ρ c (5 : Fin 8) t := rfl
theorem after0_6 (c : Dev nD) (t : Fin (cfgA ch).N) : (dats ch m ρ 0 c).after (6 : Fin 8) t = iblk ch m ρ c (6 : Fin 8) t := rfl
theorem after0_7 (c : Dev nD) (t : Fin (cfgA ch).N) : (dats ch m ρ 0 c).after (7 : Fin 8) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 8) t d = iblk ch m ρ c (0 : Fin 8) t :=
  ((dats ch m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 8) t d = iblk ch m ρ c (1 : Fin 8) t :=
  ((dats ch m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 8) t d = iblk ch m ρ c (2 : Fin 8) t :=
  ((dats ch m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 8) t d = iblk ch m ρ c (3 : Fin 8) t :=
  ((dats ch m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 8) t d = iblk ch m ρ c (4 : Fin 8) t :=
  ((dats ch m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 8) t d = iblk ch m ρ c (5 : Fin 8) t :=
  ((dats ch m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 8) t d = iblk ch m ρ c (6 : Fin 8) t :=
  ((dats ch m ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- Output 7's `after` carries through the points that leave it idle. -/
theorem hcarry0_7 (c : Dev nD) : ∀ (t : Fin (cfgA ch).N) (ht : t.val ≠ 0), (cfgA ch).idle (7 : Fin 8) ((cfgA ch).grid.coords t) = true → (cfgA ch).fresh (7 : Fin 8) t.val = false →
    (dats ch m ρ 0 c).after (7 : Fin 8) t = (dats ch m ρ 0 c).after (7 : Fin 8) ⟨t.val - 1, by omega⟩ := by
  intro t ht hi hf
  rw [after0_7, after0_7, traj0_eq]
  by_cases q0 : P0_0 ch t
  · by_cases q1 : P0_1 ch t
    · obtain ⟨i7, -⟩ := sched0_A ch t q0 q1
      rw [i7] at hi; exact absurd hi (by decide)
    · rw [step0_C ch m ρ c t _ q0 q1]
      simp only [hf, Bool.false_eq_true, ↓reduceIte]
      unfold prev0; rw [dif_neg ht]
  · by_cases q1 : P0_1 ch t
    · obtain ⟨i7, -⟩ := sched0_B ch t q0 q1
      rw [i7] at hi; exact absurd hi (by decide)
    · rw [step0_D ch m ρ c t _ q0 q1]
      simp only [hf, Bool.false_eq_true, ↓reduceIte]
      unfold prev0; rw [dif_neg ht]

/-- Output window 7 holds, when the body runs at `t`: junk if nothing was stored since its last write-back (`Cfg.fresh`),
    else what the point before left (TableIdle.lean `Dat.before_out_traj`). -/
theorem before0_7 (c : Dev nD) (t : Fin (cfgA ch).N) (d) :
    (dats ch m ρ 0 c).before (7 : Fin 8) t d = if (cfgA ch).fresh (7 : Fin 8) t.val then d else (prev0 ch m ρ c t).1 := by
  rw [(dats ch m ρ 0 c).before_out_traj (7 : Fin 8) rfl (fun _ _ => rfl) (hcarry0_7 ch m ρ c) t.val t rfl d]
  by_cases hf : (cfgA ch).fresh (7 : Fin 8) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_7]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_routed_experts (crd ch t) (Memref.whole main_arg0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 6400000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 8) t d))
        ∗ (∃ d, owns (c : Thread nD τ) (ms0_1 ch t) fullShare ((dats ch m ρ 0 c).before (1 : Fin 8) t d))
        ∗ (∃ d, owns (c : Thread nD τ) (ms0_2 ch t) fullShare ((dats ch m ρ 0 c).before (2 : Fin 8) t d))
        ∗ (∃ d, owns (c : Thread nD τ) (ms0_3 ch t) fullShare ((dats ch m ρ 0 c).before (3 : Fin 8) t d))
        ∗ (∃ d, owns (c : Thread nD τ) (ms0_4 ch t) fullShare ((dats ch m ρ 0 c).before (4 : Fin 8) t d))
        ∗ (∃ d, owns (c : Thread nD τ) (ms0_5 ch t) fullShare ((dats ch m ρ 0 c).before (5 : Fin 8) t d))
        ∗ (∃ d, owns (c : Thread nD τ) (ms0_6 ch t) fullShare ((dats ch m ρ 0 c).before (6 : Fin 8) t d))
        ∗ (∃ d, owns (c : Thread nD τ) (ms0_7 ch t) fullShare ((dats ch m ρ 0 c).before (7 : Fin 8) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i7, fr7, sfn0, sfn2⟩ := sched0_A ch t q0 q1
      have hc0 := q0; have k0_h2 := q1
      rewrite [i7]
      simp only [before0_0, before0_1, before0_2, before0_3, before0_4, before0_5, before0_6, before0_7, after0_0, after0_1, after0_2, after0_3, after0_4, after0_5, after0_6, after0_7]
      simp only [fr7, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) hc0 k0_h2).2.2.2.2.2 a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, HT0, ⟨%e7, H7⟩, HS0, HS1, HS2, HS3⟩
      isplitl [HS0 HS1 HS2 HS3 HT0]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn0]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn2]; decide) | decide)
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact View.read_writes_of_cover _ _ _ _ _ (cover0_A_7 c _ _ _ _ _ _ _ _ _ _ _ _ _ _ _ _ _ _ _ _ _ _ _ _ _ _ _)
    · obtain ⟨i7, fr7, sf0, sfn0, sf2, sfn2⟩ := sched0_idle ch t q1
      have hc0 := q0; have k0_h2 := q1
      cases f7 : ((cfgA ch).win (7 : Fin 8)).flush t
      · rewrite [i7]
        simp only [before0_0, before0_1, before0_2, before0_3, before0_4, before0_5, before0_6, before0_7, after0_0, after0_1, after0_2, after0_3, after0_4, after0_5, after0_6, after0_7, f7]
        simp only [fr7, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1]
        unfold Phi; simp only [prev0T_castSucc, prev0T_succ, traj0_eq, step0_C ch m ρ c t _ q0 q1, Fin.val_castSucc, Fin.val_succ]
        simp only [exists_held sf2]
        iintro ⟨⟨⟨%a0, %ha0, HS0⟩, ⟨%a1, %ha1, HS1⟩, HS2, HS3, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ hc0 k0_h2).2.2.2.2 _ a0 a1 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [HT0]; · iexact HT0
        isplitl [H7]; · iexact H7
        isplitl [HS0]; · iexact HS0
        isplitl [HS1]; · iexact HS1
        isplitl [HS2]; · iexact HS2
        isplitl [HS3]; · iexact HS3
        iintro ⟨H0, H1, H2, H3, H4, H5, H6, HT0, H7, HS0, HS1, HS2, HS3⟩
        isplitl [HS0 HS1 HS2 HS3 HT0]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn0]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn2]; decide) | decide)
          iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · iapply owns_of_rep; iexact H6
        first | (iexists d7; iexact H7) | iexact H7
      · rewrite [i7]
        simp only [before0_0, before0_1, before0_2, before0_3, before0_4, before0_5, before0_6, before0_7, after0_0, after0_1, after0_2, after0_3, after0_4, after0_5, after0_6, after0_7, f7]
        simp only [fr7, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1]
        unfold Phi; simp only [prev0T_castSucc, prev0T_succ, traj0_eq, step0_C ch m ρ c t _ q0 q1, Fin.val_castSucc, Fin.val_succ, fr7, Bool.false_eq_true, ↓reduceIte]
        simp only [exists_held sf2]
        iintro ⟨⟨⟨%a0, %ha0, HS0⟩, ⟨%a1, %ha1, HS1⟩, HS2, HS3, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ hc0 k0_h2).2.2.2.2 _ a0 a1 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [HT0]; · iexact HT0
        isplitl [H7]; · iexact H7
        isplitl [HS0]; · iexact HS0
        isplitl [HS1]; · iexact HS1
        isplitl [HS2]; · iexact HS2
        isplitl [HS3]; · iexact HS3
        iintro ⟨H0, H1, H2, H3, H4, H5, H6, HT0, H7, HS0, HS1, HS2, HS3⟩
        isplitl [HS0 HS1 HS2 HS3 HT0]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn0]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn2]; decide) | decide)
          iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · iapply owns_of_rep; iexact H6
        first | (iexists d7; iexact H7) | iexact H7
  · by_cases q1 : P0_1 ch t
    · obtain ⟨i7, fr7, sf0, sfn0, sf2, sfn2⟩ := sched0_B ch t q0 q1
      have hc0 := q0; have k0_h2 := q1
      rewrite [i7]
      simp only [before0_0, before0_1, before0_2, before0_3, before0_4, before0_5, before0_6, before0_7, after0_0, after0_1, after0_2, after0_3, after0_4, after0_5, after0_6, after0_7]
      simp only [fr7, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HS1, ⟨%a2, %ha2, HS2⟩, ⟨%a3, %ha3, HS3⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ hc0 k0_h2).2.2.2.2.2 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, HT0, ⟨%e7, H7⟩, HS0, HS1, HS2, HS3⟩
      isplitl [HS0 HS1 HS2 HS3 HT0]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn0]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn2]; decide) | decide)
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact View.read_writes_of_cover _ _ _ _ _ (cover0_B_7 c _ _ _ _ _ _ _ _ _ _ _ _ _ _ _ _ _ _ _ _ _ _ _ _ _ _ _ _ _)
    · obtain ⟨i7, fr7, sf0, sfn0, sf2, sfn2⟩ := sched0_idle ch t q1
      have hc0 := q0; have k0_h2 := q1
      cases f7 : ((cfgA ch).win (7 : Fin 8)).flush t
      · rewrite [i7]
        simp only [before0_0, before0_1, before0_2, before0_3, before0_4, before0_5, before0_6, before0_7, after0_0, after0_1, after0_2, after0_3, after0_4, after0_5, after0_6, after0_7, f7]
        simp only [fr7, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ]
        simp only [exists_held sf0, exists_held sf2]
        iintro ⟨⟨HS0, HS1, HS2, HS3, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ _ _ hc0 k0_h2).2.2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [HT0]; · iexact HT0
        isplitl [H7]; · iexact H7
        isplitl [HS0]; · iexact HS0
        isplitl [HS1]; · iexact HS1
        isplitl [HS2]; · iexact HS2
        isplitl [HS3]; · iexact HS3
        iintro ⟨H0, H1, H2, H3, H4, H5, H6, HT0, H7, HS0, HS1, HS2, HS3⟩
        isplitl [HS0 HS1 HS2 HS3 HT0]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn0]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn2]; decide) | decide)
          iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · iapply owns_of_rep; iexact H6
        first | (iexists d7; iexact H7) | iexact H7
      · rewrite [i7]
        simp only [before0_0, before0_1, before0_2, before0_3, before0_4, before0_5, before0_6, before0_7, after0_0, after0_1, after0_2, after0_3, after0_4, after0_5, after0_6, after0_7, f7]
        simp only [fr7, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ, fr7, Bool.false_eq_true, ↓reduceIte]
        simp only [exists_held sf0, exists_held sf2]
        iintro ⟨⟨HS0, HS1, HS2, HS3, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ _ _ hc0 k0_h2).2.2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [HT0]; · iexact HT0
        isplitl [H7]; · iexact H7
        isplitl [HS0]; · iexact HS0
        isplitl [HS1]; · iexact HS1
        isplitl [HS2]; · iexact HS2
        isplitl [HS3]; · iexact HS3
        iintro ⟨H0, H1, H2, H3, H4, H5, H6, HT0, H7, HS0, HS1, HS2, HS3⟩
        isplitl [HS0 HS1 HS2 HS3 HT0]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn0]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn2]; decide) | decide)
          iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · iapply owns_of_rep; iexact H6
        first | (iexists d7; iexact H7) | iexact H7

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_0 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_2 ch 0 = true from rfl)) Bool.false_ne_true
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, -⟩
  isplitr; · iempintro
  isplitl [HS0]
  · iexists a0; iexact HS0
  isplitl [HS1]
  · iexists a1; iexact HS1
  isplitl [HS2]
  · iexists a2; iexact HS2
  iexists a3; iexact HS3

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters that holds the table `ch`: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 0).trans (hp c).symm, ((h c).1 (0 : Fin 8)).trans ((dats ch m ρ 0 c).arrAt_in (0 : Fin 8) rfl _), ((h c).1 (1 : Fin 8)).trans ((dats ch m ρ 0 c).arrAt_in (1 : Fin 8) rfl _), ((h c).1 (4 : Fin 8)).trans ((dats ch m ρ 0 c).arrAt_in (4 : Fin 8) rfl _), ((h c).1 (2 : Fin 8)).trans ((dats ch m ρ 0 c).arrAt_in (2 : Fin 8) rfl _), ((h c).1 (5 : Fin 8)).trans ((dats ch m ρ 0 c).arrAt_in (5 : Fin 8) rfl _), ((h c).1 (3 : Fin 8)).trans ((dats ch m ρ 0 c).arrAt_in (3 : Fin 8) rfl _), ((h c).1 (6 : Fin 8)).trans ((dats ch m ρ 0 c).arrAt_in (6 : Fin 8) rfl _)⟩) (run_main ch m ρ hp)

/-- THE FRAME at a table in range: from a launch memory that holds the table `ch`, every weakly fair
    execution terminates, nothing faults, every argument array ends unchanged and every semaphore counter of the machine reads
    zero at every final state — `Cert.quiescent_Experts`'s post.
-/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged ch m ρ hp) ((θ_run defs _ _).mono (fun _ h => h.2) (run_main_quiescent ch m ρ hp))

end Cert.Experts.Any

end
-- ==== Proof.TileHid.lean ====
module
public import proofs.«01_k».proof.Proof.Tile
public import proofs.«01_k».proof.Proof.Gen.ExpertsIdeal.Flash.Runs
@[expose] public section

set_option maxRecDepth 65536
set_option Elab.async false
noncomputable section

/-! What one grid point of the routed experts leaves behind: the widened weights in the two scratches, the tile's rows and its
    rounded hidden activations, and the output block. -/
namespace Cert.Proof.TileRun

open Cert.ExpertsIdeal Cert.ExpertsIdeal.Gen
open Idealize.ShloMosaic Idealize.ShloMosaic.ValueIdx
open Idealize.ShloMosaic.TcCoe Idealize.ShloMosaic.Tactic
open Cert.Proof.Quant Cert.Proof.Words Cert.Proof.Tile

section
variable (arg2 : Memref sig .tc .vmem S512x8x128 .i32) (arg3 arg4 : Memref sig .tc .vmem S1x2048x768 .fp8e4m3)
  (arg5 : Memref sig .tc .vmem S1x768x2048 .fp8e4m3) (arg6 arg7 : Memref sig .tc .smem S1x16x6 .f32) (arg8 : Memref sig .tc .smem S1x6x16 .f32)
  (x0 : Vec Ideal S512x8x128 .i32) (x1 x2 : Vec Ideal S1x2048x768 .fp8e4m3) (x3 : Vec Ideal S1x768x2048 .fp8e4m3)
  (x4 x5 : Vec Ideal S1x16x6 .f32) (x6 : Vec Ideal S1x6x16 .f32)

theorem rows_pieces : ∀ p ∈ kernelRun0_B.sl.HS2_16 arg2 x0, ∀ x, p.2 x = XR x0 (p.1.emb x) := by
  unfold kernelRun0_B.sl.HS2_16
  iterate 8
    refine List.forall_mem_cons.2 ⟨fun x => hi_piece arg2 x0 _ (by decide) _ rfl _ (by decide) _ _ (by decide) (by decide) _ _ _ _ x, ?_⟩
    refine List.forall_mem_cons.2 ⟨fun x => lo_piece arg2 x0 _ (by decide) _ rfl _ (by decide) _ _ (by decide) (by decide) _ _ _ _ x, ?_⟩
  exact List.forall_mem_nil _

set_option maxHeartbeats 4000000 in
theorem gu_pieces : ∀ p ∈ kernelRun0_A.sl.HS0_192 arg3 arg4 arg6 arg7 x1 x2 x4 x5, ∀ x, p.2 x = WG x1 x2 x4 x5 (p.1.emb x) := by
  unfold kernelRun0_A.sl.HS0_192
  iterate 16
    iterate 6
      refine List.forall_mem_cons.2 ⟨fun x => wV_piece arg4 arg7 x2 x5 (WG x1 x2 x4 x5) 768 (wg_up x1 x2 x4 x5) _ _ _ _ _ _ _ (by decide) _ _ _ _ _ x rfl rfl rfl, ?_⟩
    iterate 6
      refine List.forall_mem_cons.2 ⟨fun x => wV_piece arg3 arg6 x1 x4 (WG x1 x2 x4 x5) 0 (wg_gate x1 x2 x4 x5) _ _ _ _ _ _ _ (by decide) _ _ _ _ _ x rfl rfl rfl, ?_⟩
  exact List.forall_mem_nil _

set_option maxHeartbeats 4000000 in
theorem down_pieces : ∀ p ∈ kernelRun0_A.sl.HS1_96 arg5 arg8 x3 x6, ∀ x, p.2 x = WD x3 x6 (p.1.emb x) := by
  unfold kernelRun0_A.sl.HS1_96
  iterate 96
    refine List.forall_mem_cons.2 ⟨fun x => wV_piece arg5 arg8 x3 x6 (WD x3 x6) 0 (wd_eq x3 x6) _ _ _ _ _ _ _ (by decide) _ _ _ _ _ x rfl rfl rfl, ?_⟩
  exact List.forall_mem_nil _

variable (c : Dev nD) (xa0 : Buf (Elt Ideal) ((c : Thread nD τ).loc cc0_scratch0)) (xa1 : Buf (Elt Ideal) ((c : Thread nD τ).loc cc0_scratch1))

/-- Scratch 0 read whole. -/
def RD0 : Vec Ideal S2048x1536 .bf16 :=
  View.readAt (Elt Ideal) scM0_0.view (Rect.unit ![0, 0] S2048x1536.size inb_S2048x1536_S2048x1536_0_0).toLoadRect xa0
/-- Scratch 1 read whole. -/
def RD1 : Vec Ideal S768x2048 .bf16 :=
  View.readAt (Elt Ideal) scM0_1.view (Rect.unit ![0, 0] S768x2048.size inb_S768x2048_S768x2048_0_0).toLoadRect xa1

theorem rows : kernelRun0_B.sl.v231 arg2 x0 = XR x0 := by
  unfold kernelRun0_B.sl.v231
  show View.readAt _ _ _ (View.writes _ _ _ _) = _
  rw [View.readAt_full]
  funext y
  exact View.read_writes_apply_of_pieces _ _ (XR x0) _ (rows_pieces arg2 x0) y
    (View.cover_of_tiledL (s := S512x2048) _ S512x128.size (by sl_kernel_rfl) y)

theorem gu_row (r : Fin 512) (q : Fin 1536) : kernelRun0_B.sl.r_12 c arg2 x0 xa0 (ix2 r q) = row (XR x0) (RD0 c xa0) r q :=
  (matmul_row dot_S512x2048_S2048x1536_S512x1536_1_0_0_1_n_n rfl (kernelRun0_B.sl.v231 arg2 x0) (RD0 c xa0) r q).trans
    (congrArg (fun x => row x (RD0 c xa0) r q) (rows arg2 x0))

theorem h_pieces : ∀ p ∈ kernelRun0_B.sl.HS3_6 c arg2 x0 xa0, ∀ z, p.2 z = HW (XR x0) (RD0 c xa0) (p.1.emb z) := by
  unfold kernelRun0_B.sl.HS3_6
  refine List.forall_mem_cons.2 ⟨fun z => h_piece (kernelRun0_B.sl.r_12 c arg2 x0 xa0) _ _ (gu_row arg2 x0 c xa0) 5 640 1408 rfl rfl (by decide) (by decide) reduces_S512x128_S512 shapeCasts_S512_S512x1 broadcasts_S512x1_S512x128 (by decide) bitsLt_fp8e4m3_f32 bitsLt_bf16_f32 shapeCasts_S512x128_S512x128 z, ?_⟩
  refine List.forall_mem_cons.2 ⟨fun z => h_piece (kernelRun0_B.sl.r_12 c arg2 x0 xa0) _ _ (gu_row arg2 x0 c xa0) 4 512 1280 rfl rfl (by decide) (by decide) reduces_S512x128_S512 shapeCasts_S512_S512x1 broadcasts_S512x1_S512x128 (by decide) bitsLt_fp8e4m3_f32 bitsLt_bf16_f32 shapeCasts_S512x128_S512x128 z, ?_⟩
  refine List.forall_mem_cons.2 ⟨fun z => h_piece (kernelRun0_B.sl.r_12 c arg2 x0 xa0) _ _ (gu_row arg2 x0 c xa0) 3 384 1152 rfl rfl (by decide) (by decide) reduces_S512x128_S512 shapeCasts_S512_S512x1 broadcasts_S512x1_S512x128 (by decide) bitsLt_fp8e4m3_f32 bitsLt_bf16_f32 shapeCasts_S512x128_S512x128 z, ?_⟩
  refine List.forall_mem_cons.2 ⟨fun z => h_piece (kernelRun0_B.sl.r_12 c arg2 x0 xa0) _ _ (gu_row arg2 x0 c xa0) 2 256 1024 rfl rfl (by decide) (by decide) reduces_S512x128_S512 shapeCasts_S512_S512x1 broadcasts_S512x1_S512x128 (by decide) bitsLt_fp8e4m3_f32 bitsLt_bf16_f32 shapeCasts_S512x128_S512x128 z, ?_⟩
  refine List.forall_mem_cons.2 ⟨fun z => h_piece (kernelRun0_B.sl.r_12 c arg2 x0 xa0) _ _ (gu_row arg2 x0 c xa0) 1 128 896 rfl rfl (by decide) (by decide) reduces_S512x128_S512 shapeCasts_S512_S512x1 broadcasts_S512x1_S512x128 (by decide) bitsLt_fp8e4m3_f32 bitsLt_bf16_f32 shapeCasts_S512x128_S512x128 z, ?_⟩
  refine List.forall_mem_cons.2 ⟨fun z => h_piece (kernelRun0_B.sl.r_12 c arg2 x0 xa0) _ _ (gu_row arg2 x0 c xa0) 0 0 768 rfl rfl (by decide) (by decide) reduces_S512x128_S512 shapeCasts_S512_S512x1 broadcasts_S512x1_S512x128 (by decide) bitsLt_fp8e4m3_f32 bitsLt_bf16_f32 shapeCasts_S512x128_S512x128 z, ?_⟩
  exact List.forall_mem_nil _

theorem hidden : kernelRun0_B.sl.v828 c arg2 x0 xa0 = HW (XR x0) (RD0 c xa0) := by
  unfold kernelRun0_B.sl.v828
  show View.readAt _ _ _ (View.writes _ _ _ _) = _
  rw [View.readAt_full]
  funext y
  exact View.read_writes_apply_of_pieces _ _ (HW (XR x0) (RD0 c xa0)) _ (h_pieces arg2 x0 c xa0) y
    (View.cover_of_tiledL (s := S512x768) _ S512x128.size (by sl_kernel_rfl) y)

end

end Cert.Proof.TileRun
-- ==== Proof.TileOut.lean ====
module
public import proofs.«01_k».proof.Proof.TileHid
@[expose] public section

set_option maxRecDepth 65536
set_option Elab.async false
noncomputable section

/-! What one grid point of the routed experts leaves in the output block. -/
namespace Cert.Proof.TileRun

open Cert.ExpertsIdeal Cert.ExpertsIdeal.Gen
open Idealize.ShloMosaic Idealize.ShloMosaic.ValueIdx
open Idealize.ShloMosaic.TcCoe Idealize.ShloMosaic.Tactic
open Cert.Proof.Quant Cert.Proof.Words Cert.Proof.Tile

section
variable (arg2 : Memref sig .tc .vmem S512x8x128 .i32) (arg3 arg4 : Memref sig .tc .vmem S1x2048x768 .fp8e4m3)
  (arg5 : Memref sig .tc .vmem S1x768x2048 .fp8e4m3) (arg6 arg7 : Memref sig .tc .smem S1x16x6 .f32) (arg8 : Memref sig .tc .smem S1x6x16 .f32)
  (x0 : Vec Ideal S512x8x128 .i32) (x1 x2 : Vec Ideal S1x2048x768 .fp8e4m3) (x3 : Vec Ideal S1x768x2048 .fp8e4m3)
  (x4 x5 : Vec Ideal S1x16x6 .f32) (x6 : Vec Ideal S1x6x16 .f32)

variable (c : Dev nD) (xa0 : Buf (Elt Ideal) ((c : Thread nD τ).loc cc0_scratch0)) (xa1 : Buf (Elt Ideal) ((c : Thread nD τ).loc cc0_scratch1))

/-- A block of columns of a product, laid out as a block of the result. -/
theorem out_block (h : SHH.Idx → EReal) (w : SDD.Idx → EReal) (o : FVec Ideal SXX .f32) (ho : ∀ r q, o (ix2 r q) = ∑ k : Fin 768, h (ix2 r k) * w (ix2 k q))
    (j : ℕ) (hj : j < 16) (a : ℕ) (ha : a = 128 * j)
    (hs : SXX.Slices ![0, a] Quant.SB) (hc : Quant.SB.ShapeCasts SO1) (ic : ∀ d, (![0, j, 0] : Fin 3 → ℕ) d + SO1.size d ≤ SOO.size d)
    (p : FVec Ideal SO1 .f32) (hp : p = oV o ![0, a] hs hc) (z : SO1.Idx) :
    p z = OUT h w ((Rect.unit (s := SOO) ![0, j, 0] SO1.size ic).emb z) := by
  subst hp ha
  obtain ⟨r, q, l, rfl⟩ : ∃ (r : Fin 512) (q : Fin 1) (l : Fin 128), z = ix3 r q l := ⟨z 0, z 1, z 2, eq_ix3 z⟩
  unfold oV
  have e1 := shapeCast_apply (extractStridedSlice Quant.SB ![0, 128 * j] o hs) hc (ix3 r q l) (ix2 r l) (by
    rw [Shape.rowMajor_val_three, Shape.rowMajor_val_two]
    show r.val * 128 + l.val = (r.val * 1 + q.val) * 128 + l.val
    omega)
  have hlt : 128 * j + l.val < 2048 := by omega
  have e2 : extractStridedSlice Quant.SB ![0, 128 * j] o hs (ix2 r l) = o (ix2 r (⟨128 * j + l.val, hlt⟩ : Fin 2048)) :=
    extractStridedSlice_apply _ _ _ _ _ fun i => by
      match i with
      | ⟨0, _⟩ => show r.val = 0 + r.val; omega
      | ⟨1, _⟩ => show 128 * j + l.val = 128 * j + l.val; omega
  refine e1.trans (e2.trans ((ho r ⟨128 * j + l.val, hlt⟩).trans ?_))
  unfold OUT
  refine Finset.sum_congr rfl fun k _ => congrArg₂ (· * ·) (congrArg h (funext fun i => Fin.ext ?_)) (congrArg w (funext fun i => Fin.ext ?_))
  · match i with
    | ⟨0, _⟩ => show r.val = 0 + 1 * r.val; omega
    | ⟨1, _⟩ => rfl
  · match i with
    | ⟨0, _⟩ => rfl
    | ⟨1, _⟩ => show 128 * j + l.val = 128 * (j + 1 * q.val) + (0 + 1 * l.val); omega

theorem o_val (r : Fin 512) (q : Fin 2048) : kernelRun0_B.sl.r_62 c arg2 x0 xa0 xa1 (ix2 r q)
    = ∑ k : Fin 768, HW (XR x0) (RD0 c xa0) (ix2 r k) * RD1 c xa1 (ix2 k q) :=
  (matmul_out dot_S512x768_S768x2048_S512x2048_1_0_0_1_n_n rfl (kernelRun0_B.sl.v828 c arg2 x0 xa0) (RD1 c xa1) r q).trans
    (Finset.sum_congr rfl fun k _ => congrArg (fun h => h (ix2 r k) * RD1 c xa1 (ix2 k q)) (hidden arg2 x0 c xa0))

theorem o_one (j : ℕ) (hj : j < 16) (a : ℕ) (ha : a = 128 * j)
    (hs : SXX.Slices ![0, a] Quant.SB) (ic : ∀ d, (![0, j, 0] : Fin 3 → ℕ) d + SO1.size d ≤ SOO.size d) (p : FVec Ideal SO1 .f32)
    (hp : p = oV (kernelRun0_B.sl.r_62 c arg2 x0 xa0 xa1) ![0, a] hs shapeCasts_S512x128_S512x1x128) (z : SO1.Idx) :
    p z = OUT (HW (XR x0) (RD0 c xa0)) (RD1 c xa1) ((Rect.unit (s := SOO) ![0, j, 0] SO1.size ic).emb z) :=
  out_block _ _ _ (o_val arg2 x0 c xa0 xa1) j hj a ha hs _ ic p hp z

theorem o_pieces : ∀ p ∈ kernelRun0_B.sl.HO7_16 c arg2 x0 xa0 xa1, ∀ z, p.2 z = OUT (HW (XR x0) (RD0 c xa0)) (RD1 c xa1) (p.1.emb z) := by
  unfold kernelRun0_B.sl.HO7_16
  refine List.forall_mem_cons.2 ⟨o_one arg2 x0 c xa0 xa1 15 (by decide) 1920 rfl (by decide) (by decide) _ rfl, ?_⟩
  refine List.forall_mem_cons.2 ⟨o_one arg2 x0 c xa0 xa1 14 (by decide) 1792 rfl (by decide) (by decide) _ rfl, ?_⟩
  refine List.forall_mem_cons.2 ⟨o_one arg2 x0 c xa0 xa1 13 (by decide) 1664 rfl (by decide) (by decide) _ rfl, ?_⟩
  refine List.forall_mem_cons.2 ⟨o_one arg2 x0 c xa0 xa1 12 (by decide) 1536 rfl (by decide) (by decide) _ rfl, ?_⟩
  refine List.forall_mem_cons.2 ⟨o_one arg2 x0 c xa0 xa1 11 (by decide) 1408 rfl (by decide) (by decide) _ rfl, ?_⟩
  refine List.forall_mem_cons.2 ⟨o_one arg2 x0 c xa0 xa1 10 (by decide) 1280 rfl (by decide) (by decide) _ rfl, ?_⟩
  refine List.forall_mem_cons.2 ⟨o_one arg2 x0 c xa0 xa1 9 (by decide) 1152 rfl (by decide) (by decide) _ rfl, ?_⟩
  refine List.forall_mem_cons.2 ⟨o_one arg2 x0 c xa0 xa1 8 (by decide) 1024 rfl (by decide) (by decide) _ rfl, ?_⟩
  refine List.forall_mem_cons.2 ⟨o_one arg2 x0 c xa0 xa1 7 (by decide) 896 rfl (by decide) (by decide) _ rfl, ?_⟩
  refine List.forall_mem_cons.2 ⟨o_one arg2 x0 c xa0 xa1 6 (by decide) 768 rfl (by decide) (by decide) _ rfl, ?_⟩
  refine List.forall_mem_cons.2 ⟨o_one arg2 x0 c xa0 xa1 5 (by decide) 640 rfl (by decide) (by decide) _ rfl, ?_⟩
  refine List.forall_mem_cons.2 ⟨o_one arg2 x0 c xa0 xa1 4 (by decide) 512 rfl (by decide) (by decide) _ rfl, ?_⟩
  refine List.forall_mem_cons.2 ⟨o_one arg2 x0 c xa0 xa1 3 (by decide) 384 rfl (by decide) (by decide) _ rfl, ?_⟩
  refine List.forall_mem_cons.2 ⟨o_one arg2 x0 c xa0 xa1 2 (by decide) 256 rfl (by decide) (by decide) _ rfl, ?_⟩
  refine List.forall_mem_cons.2 ⟨o_one arg2 x0 c xa0 xa1 1 (by decide) 128 rfl (by decide) (by decide) _ rfl, ?_⟩
  refine List.forall_mem_cons.2 ⟨o_one arg2 x0 c xa0 xa1 0 (by decide) 0 rfl (by decide) (by decide) _ rfl, ?_⟩
  exact List.forall_mem_nil _

/-- What the body leaves in the output block, given what the two weight scratches hold. -/
theorem out_read (y : S512x16x128.Idx) : VO0_7.read (Elt Ideal) (VO0_7.writes (Elt Ideal) VO0_7.junk (kernelRun0_B.sl.HO7_16 c arg2 x0 xa0 xa1)) y
    = OUT (HW (XR x0) (RD0 c xa0)) (RD1 c xa1) y :=
  View.read_writes_apply_of_pieces _ _ (OUT (HW (XR x0) (RD0 c xa0)) (RD1 c xa1)) _ (o_pieces arg2 x0 c xa0 xa1) y
    (View.cover_of_tiledL (s := S512x16x128) _ S512x1x128.size (by sl_kernel_rfl) y)

end

end Cert.Proof.TileRun
-- ==== Proof.TileSame.lean ====
module
public import proofs.«01_k».proof.Proof.TileHid
@[expose] public section

set_option maxRecDepth 65536
set_option Elab.async false
noncomputable section

/-! A grid point that widens the weights works its tile as any other, on the weights it has just widened. -/
namespace Cert.Proof.TileRun

open Cert.ExpertsIdeal Cert.ExpertsIdeal.Gen
open Idealize.ShloMosaic Idealize.ShloMosaic.ValueIdx
open Idealize.ShloMosaic.TcCoe Idealize.ShloMosaic.Tactic
open Cert.Proof.Quant Cert.Proof.Words Cert.Proof.Tile

section
variable (arg2 : Memref sig .tc .vmem S512x8x128 .i32) (arg3 arg4 : Memref sig .tc .vmem S1x2048x768 .fp8e4m3)
  (arg5 : Memref sig .tc .vmem S1x768x2048 .fp8e4m3) (arg6 arg7 : Memref sig .tc .smem S1x16x6 .f32) (arg8 : Memref sig .tc .smem S1x6x16 .f32)
  (x0 : Vec Ideal S512x8x128 .i32) (x1 x2 : Vec Ideal S1x2048x768 .fp8e4m3) (x3 : Vec Ideal S1x768x2048 .fp8e4m3)
  (x4 x5 : Vec Ideal S1x16x6 .f32) (x6 : Vec Ideal S1x6x16 .f32)

variable (c : Dev nD) (xa0 : Buf (Elt Ideal) ((c : Thread nD τ).loc cc0_scratch0)) (xa1 : Buf (Elt Ideal) ((c : Thread nD τ).loc cc0_scratch1))

/-- What the body leaves in scratch 0 when it widens the weights. -/
abbrev XA0 : Buf (Elt Ideal) ((c : Thread nD τ).loc cc0_scratch0) :=
  scM0_0.view.writes (Elt Ideal) scM0_0.view.junk (kernelRun0_A.sl.HS0_192 arg3 arg4 arg6 arg7 x1 x2 x4 x5)
/-- What it leaves in scratch 1. -/
abbrev XA1 : Buf (Elt Ideal) ((c : Thread nD τ).loc cc0_scratch1) :=
  scM0_1.view.writes (Elt Ideal) scM0_1.view.junk (kernelRun0_A.sl.HS1_96 arg5 arg8 x3 x6)

set_option maxHeartbeats 4000000 in
/-- A point that widens the weights then works its tile as any other point does. -/
theorem same_h : kernelRun0_A.sl.HS3_6 arg2 arg3 arg4 arg6 arg7 x0 x1 x2 x4 x5
    = kernelRun0_B.sl.HS3_6 c arg2 x0 (XA0 arg3 arg4 arg6 arg7 x1 x2 x4 x5 c) := rfl

set_option maxHeartbeats 4000000 in
theorem same_out : kernelRun0_A.sl.HO7_16 arg2 arg3 arg4 arg5 arg6 arg7 arg8 x0 x1 x2 x3 x4 x5 x6
    = kernelRun0_B.sl.HO7_16 c arg2 x0 (XA0 arg3 arg4 arg6 arg7 x1 x2 x4 x5 c) (XA1 arg5 arg8 x3 x6 c) := rfl

theorem read_gu : RD0 c (XA0 arg3 arg4 arg6 arg7 x1 x2 x4 x5 c) = WG x1 x2 x4 x5 := by
  unfold RD0
  rw [View.readAt_full]
  funext y
  exact View.read_writes_apply_of_pieces _ _ (WG x1 x2 x4 x5) _ (gu_pieces arg3 arg4 arg6 arg7 x1 x2 x4 x5) y
    (View.cover_of_tiledL (s := S2048x1536) _ S128x128.size (by sl_kernel_rfl) y)

theorem read_down : RD1 c (XA1 arg5 arg8 x3 x6 c) = WD x3 x6 := by
  unfold RD1
  rw [View.readAt_full]
  funext y
  exact View.read_writes_apply_of_pieces _ _ (WD x3 x6) _ (down_pieces arg5 arg8 x3 x6) y
    (View.cover_of_tiledL (s := S768x2048) _ S128x128.size (by sl_kernel_rfl) y)

end

end Cert.Proof.TileRun
-- ==== Proof.ExpertsIdealTables.lean ====
/- The routed experts' table of slots, for ANY table in range: the number of tiles in use, the expert of each tile, the
   pipeline at such a table, and what its control decides at each grid point. -/
module

public import proofs.«01_k».proof.Proof.Gen.ExpertsIdeal.Flash.Runs
public import Idealize.ShloMosaic.Lib.ValueIdx

@[expose] public section

set_option maxRecDepth 16384
set_option Elab.async false

noncomputable section

namespace Cert.ExpertsIdeal.Any

open Cert.ExpertsIdeal Cert.ExpertsIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## Tables in range -/

/-- A table of slots in range: the expert of every tile is one of 64, and between 1 and 576 tiles are in use. -/
structure Tabs where
  w : S2x576.Idx → BitVec 32
  expert_lt : ∀ j : Fin 576, (w (ix2 (0 : Fin 2) j)).toNat < 64
  one_le : 1 ≤ (w (ix2 (1 : Fin 2) (0 : Fin 576))).toNat
  le : (w (ix2 (1 : Fin 2) (0 : Fin 576))).toNat ≤ 576

variable (ch : Tabs)

/-- The number of tiles in use. -/
def Tabs.tiles (ch : Tabs) : ℕ := (ch.w (ix2 (1 : Fin 2) (0 : Fin 576))).toNat
/-- The expert of a tile. -/
def Tabs.expert (ch : Tabs) (j : Fin 576) : ℕ := (ch.w (ix2 (0 : Fin 2) j)).toNat

theorem Tabs.tiles_pos (ch : Tabs) : 1 ≤ ch.tiles := ch.one_le
theorem Tabs.tiles_le (ch : Tabs) : ch.tiles ≤ 576 := ch.le

/-- The table as the kernel's buffer holds it. -/
abbrev pinT_0 : S2x576.Idx → BitVec 32 := ch.w

/-- The prefetched tables' contents. -/
def pfN : pre0.Contents (Elt Ideal) := fun | ⟨0, _⟩ => pinT_0 ch | ⟨_ + 1, h⟩ => absurd h (by simp)

/-- The launch memory holds the table `ch`. -/
def Pinned (m : (ℓ : Loc nD τ sig) → Buf (Elt Ideal) ℓ) : Prop :=
  (∀ c : Dev nD, m ((c : Thread nD τ).loc main_arg0) = pinT_0 ch)

/-! ## The words the control reads -/

/-- A word of the table, read at row `r` and column `j`. -/
theorem word_at (T : S2x576.Idx → BitVec 32) (off : Fin 2 → ℕ) (inb : ∀ a, off a + S1x1.size a ≤ S2x576.size a)
    (h1 : 0 < (Rect.unit (s := S2x576) off S1x1.size inb).shape.numel)
    (r : Fin 2) (j : Fin 576) (hr : off 0 = r.val) (hj : off 1 = j.val) :
    T ((Rect.unit (s := S2x576) off S1x1.size inb).emb (Shape.Idx.first h1)) = T (ix2 r j) := by
  refine congrArg T (funext fun a => Fin.ext ?_)
  match a with
  | ⟨0, _⟩ => show off 0 + 1 * 0 = r.val; omega
  | ⟨1, _⟩ => show off 1 + 1 * 0 = j.val; omega

theorem toNat_coord (i : grid0.Coords) : (BitVec.ofNat 32 (i 0).val).toNat = (i 0).val := by
  have h : (i 0).val < 576 := (i 0).isLt
  rw [BitVec.toNat_ofNat]; exact Nat.mod_eq_of_lt (by omega)

theorem toInt_coord (i : grid0.Coords) : (BitVec.ofNat 32 (i 0).val).toInt = (i 0).val := by
  have h : (i 0).val < 576 := (i 0).isLt
  rw [BitVec.toInt_eq_toNat_of_lt (by rw [toNat_coord]; omega), toNat_coord]

theorem toInt_tiles : (ch.w (ix2 (1 : Fin 2) (0 : Fin 576))).toInt = ch.tiles := by
  have h : (ch.w (ix2 (1 : Fin 2) (0 : Fin 576))).toNat ≤ 576 := ch.le
  exact BitVec.toInt_eq_toNat_of_lt (by omega)

theorem off1_0 (i : grid0.Coords) : k0_off1 i 0 = 0 := rfl
theorem off1_1 (i : grid0.Coords) : k0_off1 i 1 = (i 0).val := toNat_coord i

/-- The expert read at a coordinate. -/
theorem word_expert (i : grid0.Coords) (h1) :
    ch.w ((Rect.unit (s := S2x576) (k0_off1 i) S1x1.size (k0_off1_inb i)).emb (Shape.Idx.first h1)) = ch.w (ix2 (0 : Fin 2) (i 0)) :=
  word_at ch.w _ _ h1 0 (i 0) rfl (off1_1 i)

/-- The number of tiles, read. -/
theorem word_tiles (inb) (h1) :
    ch.w ((Rect.unit (s := S2x576) ![1, 0] S1x1.size inb).emb (Shape.Idx.first h1)) = ch.w (ix2 (1 : Fin 2) (0 : Fin 576)) :=
  word_at ch.w _ _ h1 1 0 rfl rfl

/-- The block of the rows at a coordinate: the coordinate, or the last tile in use where that is before it. -/
theorem rows_index (i : grid0.Coords) :
    (Scalar.minsi (BitVec.ofNat 32 (i 0).val) (Scalar.subi (ch.w (ix2 (1 : Fin 2) (0 : Fin 576))) 1#32)).toNat = min (i 0).val (ch.tiles - 1) := by
  have h : (i 0).val < 576 := (i 0).isLt
  have hp := ch.one_le; have hl := ch.le
  have e : (Scalar.subi (ch.w (ix2 (1 : Fin 2) (0 : Fin 576))) 1#32).toNat = ch.tiles - 1 := by
    show (ch.w (ix2 (1 : Fin 2) (0 : Fin 576)) - 1#32).toNat = _
    rw [BitVec.toNat_sub]; unfold Tabs.tiles
    have : (1#32).toNat = 1 := rfl
    rw [this]; omega
  have e' : (Scalar.subi (ch.w (ix2 (1 : Fin 2) (0 : Fin 576))) 1#32).toInt = (ch.tiles - 1 : ℕ) := by
    have : ch.tiles ≤ 576 := hl
    rw [BitVec.toInt_eq_toNat_of_lt (by rw [e]; omega), e]
  show (if (BitVec.ofNat 32 (i 0).val).slt _ then BitVec.ofNat 32 (i 0).val else _).toNat = _
  rw [BitVec.slt_eq_decide, toInt_coord, e']
  by_cases hc : (i 0).val < ch.tiles - 1
  · rw [if_pos (by simpa using hc), toNat_coord]; omega
  · rw [if_neg (by simpa using hc), e]; omega

theorem transform_rows_0 (i : grid0.Coords) : cc0_transform_0 inb_S2x576_S1x1_1_0 numel1_S1x1 (pfN ch) i = ![min (i 0).val (ch.tiles - 1), 0, 0] := by
  rw [← rows_index ch i, ← word_tiles ch inb_S2x576_S1x1_1_0 (numel1_S1x1.symm ▸ Nat.one_pos)]; rfl
theorem transform_rows_7 (i : grid0.Coords) : cc0_transform_7 inb_S2x576_S1x1_1_0 numel1_S1x1 (pfN ch) i = ![min (i 0).val (ch.tiles - 1), 0, 0] := by
  rw [← rows_index ch i, ← word_tiles ch inb_S2x576_S1x1_1_0 (numel1_S1x1.symm ▸ Nat.one_pos)]; rfl
theorem transform_expert (i : grid0.Coords) : cc0_transform_1 k0_off1_inb numel1_S1x1 (pfN ch) i = ![ch.expert (i 0), 0, 0] := by
  unfold Tabs.expert; rw [← word_expert ch i (numel1_S1x1.symm ▸ Nat.one_pos)]; rfl

/-! ## Every block is inside its array -/

/-- A block of rows, row by row of the index. -/
theorem inside {x lo hi p q : ℕ} (h : (x + 1) * lo ≤ hi) :
    ∀ a : Fin 3, (![x, 0, 0] a + 1) * (![lo, p, q] a) ≤ ![hi, p, q] a := fun a => by
  match a with
  | ⟨0, _⟩ => exact h
  | ⟨1, _⟩ => show (0 + 1) * p ≤ p; omega
  | ⟨2, _⟩ => show (0 + 1) * q ≤ q; omega

theorem inside_rows (i : grid0.Coords) : (min (i 0).val (ch.tiles - 1) + 1) * 512 ≤ 294912 := by
  have h : (i 0).val < 576 := (i 0).isLt
  omega
theorem inside_expert (i : grid0.Coords) : (ch.expert (i 0) + 1) * 1 ≤ 64 := by
  have h : ch.expert (i 0) < 64 := ch.expert_lt (i 0)
  omega

theorem ok_pfN : ok0 (F := Ideal) (pfN ch) :=
  ⟨fun i => ⟨by rw [transform_rows_0]; exact inside (inside_rows ch i), .inl rfl⟩,
   fun i => ⟨by rw [transform_expert]; exact inside (inside_expert ch i), .inr (Affine.block_words_dvd (by decide) (by decide))⟩,
   fun i => ⟨by rw [show cc0_transform_2 k0_off1_inb numel1_S1x1 (pfN ch) i = _ from transform_expert ch i]; exact inside (inside_expert ch i), .inr (Affine.block_words_dvd (by decide) (by decide))⟩,
   fun i => ⟨by rw [show cc0_transform_3 k0_off1_inb numel1_S1x1 (pfN ch) i = _ from transform_expert ch i]; exact inside (inside_expert ch i), .inr (Affine.block_words_dvd (by decide) (by decide))⟩,
   fun i => ⟨by rw [show cc0_transform_4 k0_off1_inb numel1_S1x1 (pfN ch) i = _ from transform_expert ch i]; exact inside (inside_expert ch i), .inl rfl⟩,
   fun i => ⟨by rw [show cc0_transform_5 k0_off1_inb numel1_S1x1 (pfN ch) i = _ from transform_expert ch i]; exact inside (inside_expert ch i), .inl rfl⟩,
   fun i => ⟨by rw [show cc0_transform_6 k0_off1_inb numel1_S1x1 (pfN ch) i = _ from transform_expert ch i]; exact inside (inside_expert ch i), .inl rfl⟩,
   fun i => ⟨by rw [transform_rows_7]; exact inside (inside_rows ch i), .inl rfl⟩⟩

/-! ## The pipeline at the table -/

/-- The admissible contents, and the pipeline at them. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x8x128 .i32 := spec0_0.stage ((cfgA ch).slots t (0 : Fin 8))
abbrev hs0_0 (t : Fin (cfgA ch).N) : (ms0_0 ch t).IsWhole := hstage0_0 (((cfgA ch).slots t (0 : Fin 8)).cast nbuf0_0)
abbrev ms0_1 (t : Fin (cfgA ch).N) : Memref sig .tc .vmem S1x2048x768 .fp8e4m3 := spec0_1.stage ((cfgA ch).slots t (1 : Fin 8))
abbrev hs0_1 (t : Fin (cfgA ch).N) : (ms0_1 ch t).IsWhole := hstage0_1 (((cfgA ch).slots t (1 : Fin 8)).cast nbuf0_1)
abbrev ms0_2 (t : Fin (cfgA ch).N) : Memref sig .tc .vmem S1x2048x768 .fp8e4m3 := spec0_2.stage ((cfgA ch).slots t (2 : Fin 8))
abbrev hs0_2 (t : Fin (cfgA ch).N) : (ms0_2 ch t).IsWhole := hstage0_2 (((cfgA ch).slots t (2 : Fin 8)).cast nbuf0_2)
abbrev ms0_3 (t : Fin (cfgA ch).N) : Memref sig .tc .vmem S1x768x2048 .fp8e4m3 := spec0_3.stage ((cfgA ch).slots t (3 : Fin 8))
abbrev hs0_3 (t : Fin (cfgA ch).N) : (ms0_3 ch t).IsWhole := hstage0_3 (((cfgA ch).slots t (3 : Fin 8)).cast nbuf0_3)
abbrev ms0_4 (t : Fin (cfgA ch).N) : Memref sig .tc .smem S1x16x6 .f32 := spec0_4.stage ((cfgA ch).slots t (4 : Fin 8))
abbrev hs0_4 (t : Fin (cfgA ch).N) : (ms0_4 ch t).IsWhole := hstage0_4 (((cfgA ch).slots t (4 : Fin 8)).cast nbuf0_4)
abbrev ms0_5 (t : Fin (cfgA ch).N) : Memref sig .tc .smem S1x16x6 .f32 := spec0_5.stage ((cfgA ch).slots t (5 : Fin 8))
abbrev hs0_5 (t : Fin (cfgA ch).N) : (ms0_5 ch t).IsWhole := hstage0_5 (((cfgA ch).slots t (5 : Fin 8)).cast nbuf0_5)
abbrev ms0_6 (t : Fin (cfgA ch).N) : Memref sig .tc .smem S1x6x16 .f32 := spec0_6.stage ((cfgA ch).slots t (6 : Fin 8))
abbrev hs0_6 (t : Fin (cfgA ch).N) : (ms0_6 ch t).IsWhole := hstage0_6 (((cfgA ch).slots t (6 : Fin 8)).cast nbuf0_6)
abbrev ms0_7 (t : Fin (cfgA ch).N) : Memref sig .tc .vmem S512x16x128 .f32 := spec0_7.stage ((cfgA ch).slots t (7 : Fin 8))
abbrev hs0_7 (t : Fin (cfgA ch).N) : (ms0_7 ch t).IsWhole := hstage0_7 (((cfgA ch).slots t (7 : Fin 8)).cast nbuf0_7)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the table's words -/

abbrev P0_0 (t : Fin (cfgA ch).N) : Prop := (Scalar.cmpi .ne (Scalar.extui (Scalar.ori (Scalar.cmpi .eq (BitVec.ofNat 32 ((crd ch t) 0).val) 0#32) (Scalar.cmpi .ne (View.readAt (Elt Ideal) (tbM0_0).view (Rect.unit (s := S2x576) (k0_off1 (crd ch t)) S1x1.size (k0_off1_inb (crd ch t))).toLoadRect (pinT_0 ch) (Shape.Idx.first (numel1_S1x1.symm ▸ Nat.one_pos))) (View.readAt (Elt Ideal) (tbM0_0).view (Rect.unit (s := S2x576) (k0_off2 (crd ch t)) S1x1.size (k0_off2_inb (crd ch t))).toLoadRect (pinT_0 ch) (Shape.Idx.first (numel1_S1x1.symm ▸ Nat.one_pos)))))) 0#32) = 1#1
abbrev P0_1 (t : Fin (cfgA ch).N) : Prop := k0_cond2 (crd ch t) (View.readAt (Elt Ideal) (tbM0_0).view (Rect.unit (s := S2x576) ![1, 0] S1x1.size inb_S2x576_S1x1_1_0).toLoadRect (pinT_0 ch) (Shape.Idx.first (numel1_S1x1.symm ▸ Nat.one_pos))) = 1#1

/-- Whether the widened gate and up weights hold nothing a point has determined, before position `n`. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- The same of the tile's rows and of its hidden activations. -/
def sfresh0_2 : ℕ → Bool
  | 0 => true
  | n + 1 => if h : n < (cfgA ch).N then (if P0_0 ch ⟨n, h⟩ then (if P0_1 ch ⟨n, h⟩ then false else sfresh0_2 n) else (if P0_1 ch ⟨n, h⟩ then false else sfresh0_2 n)) else true

/-- The coordinate of a point is the point. -/
theorem crd_val (t : Fin (cfgA ch).N) : ((crd ch t) 0).val = t.val := by
  have h : t.val < 576 := t.isLt
  rw [show ((crd ch t) 0).val = t.val / 1 % 576 from Pipeline.Grid.coords_val t (0 : Fin 1) (S := 1) (B := 576) rfl rfl]
  omega

theorem bit_ne (b : BitVec 1) : (Scalar.cmpi .ne (Scalar.extui b) 0#32 = 1#1) ↔ b = 1#1 := by
  revert b; decide

theorem ofBool_one (b : Bool) : BitVec.ofBool b = 1#1 ↔ b = true := by cases b <;> decide

/-- The tile's rows are worked at the points below the number of tiles in use. -/
theorem cond2_iff (i : grid0.Coords) : k0_cond2 i (ch.w (ix2 (1 : Fin 2) (0 : Fin 576))) = 1#1 ↔ (i 0).val < ch.tiles := by
  refine (bit_ne _).trans ?_
  show BitVec.ofBool ((BitVec.ofNat 32 (i 0).val).slt _) = 1#1 ↔ _
  rw [ofBool_one, BitVec.slt_eq_decide, toInt_coord, toInt_tiles]; simp

theorem P0_1_iff (t : Fin (cfgA ch).N) : P0_1 ch t ↔ t.val < ch.tiles := by
  have e := cond2_iff ch (crd ch t)
  rw [crd_val, ← word_tiles ch inb_S2x576_S1x1_1_0 (numel1_S1x1.symm ▸ Nat.one_pos)] at e
  exact e

/-- The first point widens the weights. -/
theorem P0_0_zero (t : Fin (cfgA ch).N) (h : t.val = 0) : P0_0 ch t := by
  refine (bit_ne _).mpr ?_
  show Scalar.cmpi .eq (BitVec.ofNat 32 ((crd ch t) 0).val) 0#32 ||| _ = 1#1
  rw [crd_val, h]
  show (1#1 : BitVec 1) ||| _ = 1#1
  generalize (Scalar.cmpi _ _ _ : BitVec 1) = b; revert b; decide

theorem P0_1_zero (t : Fin (cfgA ch).N) (h : t.val = 0) : P0_1 ch t := by
  rw [P0_1_iff]; have := ch.tiles_pos; omega

theorem idle_7 (t : Fin (cfgA ch).N) : (cfgA ch).idle (7 : Fin 8) ((cfgA ch).grid.coords t) = decide (¬ t.val < ch.tiles) := by
  have e := cond2_iff ch (crd ch t)
  rw [crd_val] at e
  show (!(k0_cond2 (crd ch t) ((pfN ch).atD 0 ![1, 0]) == 1#1)) = _
  have w : (pfN ch).atD 0 ![1, 0] = ch.w (ix2 (1 : Fin 2) (0 : Fin 576)) := by
    unfold Pipeline.Prefetch.Contents.atD
    rw [dif_pos (by decide)]
    refine congrArg ch.w (funext fun a => Fin.ext ?_)
    match a with
    | ⟨0, _⟩ => rfl
    | ⟨1, _⟩ => rfl
  rw [w]
  by_cases h : t.val < ch.tiles
  · rw [e.mpr h]; simp [h]
  · have : ¬ k0_cond2 (crd ch t) (ch.w (ix2 (1 : Fin 2) (0 : Fin 576))) = 1#1 := fun x => h (e.mp x)
    simp [h, this]

theorem index_7 (t : Fin (cfgA ch).N) : ((cfgA ch).win (7 : Fin 8)).index t = ![min t.val (ch.tiles - 1), 0, 0] := by
  have e := transform_rows_7 ch (crd ch t)
  rw [crd_val] at e
  exact e

/-- Where a tile is written back: at every tile but the last in use, and at the last point. -/
theorem flush_7 (t : Fin (cfgA ch).N) : ((cfgA ch).win (7 : Fin 8)).flush t = decide (t.val + 1 < ch.tiles ∨ t.val = 575) := by
  have ht : t.val < 576 := t.isLt
  have hl := ch.tiles_le
  unfold Pipeline.Window.flush
  rw [show ((cfgA ch).win (7 : Fin 8)).isOut = true from rfl, Bool.true_and]
  rw [Bool.eq_iff_iff]; simp only [Bool.or_eq_true, decide_eq_true_eq, ne_eq]
  show (t.val + 1 = 576 ∨ _) ↔ _
  constructor
  · rintro (h | ⟨h, hne⟩)
    · right; omega
    · left; by_contra hc; apply hne
      rw [index_7, index_7]
      have : min (t.val + 1) (ch.tiles - 1) = min t.val (ch.tiles - 1) := by omega
      show ![min (t.val + 1) (ch.tiles - 1), 0, 0] = _
      rw [this]
  · rintro (h | h)
    · right; refine ⟨show t.val + 1 < 576 by omega, fun he => ?_⟩
      rw [index_7, index_7] at he
      have := congrFun he 0
      have : min (t.val + 1) (ch.tiles - 1) = min t.val (ch.tiles - 1) := this
      omega
    · left; omega

/-! ## Where the buffers hold nothing that a point has determined -/

/-- The output block: where the point before wrote its tile back. -/
def frTab0_7 (n : ℕ) : Bool := decide (n < ch.tiles ∨ n = 576)

theorem frTab0_7_step (t : Fin (cfgA ch).N) :
    frTab0_7 ch (t.val + 1) = (((cfgA ch).win (7 : Fin 8)).flush t || ((cfgA ch).idle (7 : Fin 8) ((cfgA ch).grid.coords t) && frTab0_7 ch t.val)) := by
  have ht : t.val < 576 := t.isLt
  have hl := ch.tiles_le
  rw [flush_7, idle_7]; unfold frTab0_7
  rw [Bool.eq_iff_iff]; simp only [Bool.or_eq_true, Bool.and_eq_true, decide_eq_true_eq]
  omega

theorem freshF0_7 (t : Fin (cfgA ch).N) : (cfgA ch).fresh (7 : Fin 8) t.val = frTab0_7 ch t.val :=
  Pipeline.Cfg.fresh_tab (cfgA ch) (7 : Fin 8) (frTab0_7 ch) (by have := ch.tiles_pos; unfold frTab0_7; rw [decide_eq_true_eq]; omega)
    (frTab0_7_step ch) t.val (Nat.le_of_lt t.isLt)

/-- A scratch is determined from the first point on. -/
theorem sfresh0_0_succ (n : ℕ) (h : n < (cfgA ch).N) : sfresh0_0 ch (n + 1) = false := by
  induction n with
  | zero => rw [sfresh0_0, dif_pos h, if_pos (P0_0_zero ch ⟨0, h⟩ rfl), if_pos (P0_1_zero ch ⟨0, h⟩ rfl)]
  | succ n ih => rw [sfresh0_0, dif_pos h]; simp only [ih (Nat.lt_of_succ_lt h), ite_self]
theorem sfresh0_2_succ (n : ℕ) (h : n < (cfgA ch).N) : sfresh0_2 ch (n + 1) = false := by
  induction n with
  | zero => rw [sfresh0_2, dif_pos h, if_pos (P0_0_zero ch ⟨0, h⟩ rfl), if_pos (P0_1_zero ch ⟨0, h⟩ rfl)]
  | succ n ih => rw [sfresh0_2, dif_pos h]; simp only [ih (Nat.lt_of_succ_lt h), ite_self]
theorem sfresh0_0_pos (n : ℕ) (h : n < (cfgA ch).N) (hn : n ≠ 0) : sfresh0_0 ch n = false := by
  obtain ⟨k, rfl⟩ := Nat.exists_eq_succ_of_ne_zero hn
  exact sfresh0_0_succ ch k (Nat.lt_of_succ_lt h)
theorem sfresh0_2_pos (n : ℕ) (h : n < (cfgA ch).N) (hn : n ≠ 0) : sfresh0_2 ch n = false := by
  obtain ⟨k, rfl⟩ := Nat.exists_eq_succ_of_ne_zero hn
  exact sfresh0_2_succ ch k (Nat.lt_of_succ_lt h)

/-! ## The schedule, by what the point does -/

theorem sched0_A (t : Fin (cfgA ch).N) (q0 : P0_0 ch t) (q1 : P0_1 ch t) :
    (cfgA ch).idle (7 : Fin 8) ((cfgA ch).grid.coords t) = false ∧ (cfgA ch).fresh (7 : Fin 8) t.val = true
      ∧ sfresh0_0 ch (t.val + 1) = false ∧ sfresh0_2 ch (t.val + 1) = false := by
  rw [P0_1_iff] at q1
  rw [freshF0_7, idle_7]
  exact ⟨by simp [q1], by simp [frTab0_7, q1], sfresh0_0_succ ch _ t.isLt, sfresh0_2_succ ch _ t.isLt⟩

theorem sched0_B (t : Fin (cfgA ch).N) (q0 : ¬P0_0 ch t) (q1 : P0_1 ch t) :
    (cfgA ch).idle (7 : Fin 8) ((cfgA ch).grid.coords t) = false ∧ (cfgA ch).fresh (7 : Fin 8) t.val = true
      ∧ sfresh0_0 ch t.val = false ∧ sfresh0_0 ch (t.val + 1) = false ∧ sfresh0_2 ch t.val = false ∧ sfresh0_2 ch (t.val + 1) = false := by
  have h0 : t.val ≠ 0 := fun h => q0 (P0_0_zero ch t h)
  rw [P0_1_iff] at q1
  rw [freshF0_7, idle_7]
  exact ⟨by simp [q1], by simp [frTab0_7, q1], sfresh0_0_pos ch _ t.isLt h0, sfresh0_0_succ ch _ t.isLt, sfresh0_2_pos ch _ t.isLt h0, sfresh0_2_succ ch _ t.isLt⟩

/-- A point past the tiles in use. -/
theorem sched0_idle (t : Fin (cfgA ch).N) (q1 : ¬P0_1 ch t) :
    (cfgA ch).idle (7 : Fin 8) ((cfgA ch).grid.coords t) = true ∧ (cfgA ch).fresh (7 : Fin 8) t.val = false
      ∧ sfresh0_0 ch t.val = false ∧ sfresh0_0 ch (t.val + 1) = false ∧ sfresh0_2 ch t.val = false ∧ sfresh0_2 ch (t.val + 1) = false := by
  have h0 : t.val ≠ 0 := fun h => q1 (P0_1_zero ch t h)
  have ht : t.val < 576 := t.isLt
  rw [P0_1_iff] at q1
  rw [freshF0_7, idle_7]
  exact ⟨by simp [q1], by simp [frTab0_7, q1]; omega, sfresh0_0_pos ch _ t.isLt h0, sfresh0_0_succ ch _ t.isLt, sfresh0_2_pos ch _ t.isLt h0, sfresh0_2_succ ch _ t.isLt⟩

end Cert.ExpertsIdeal.Any

end
-- ==== Proof.ExpertsBlocks.lean ====
module
public import proofs.«01_k».proof.Proof.Whole
public import proofs.«01_k».proof.Proof.ExpertsIdealTables
public import Idealize.ShloMosaic.Lib.WordCmp
@[expose] public section

set_option maxRecDepth 16384
set_option Elab.async false
noncomputable section

/-! The blocks of the arguments that a grid point of the routed experts reads, at any table in range, and when a point reads the
    weights of the point before it. -/
namespace Cert.Proof.ExpertsBlocks

open Cert.ExpertsIdeal Cert.ExpertsIdeal.Gen Cert.ExpertsIdeal.Any
open Idealize.ShloMosaic Idealize.ShloMosaic.ValueIdx
open Idealize.ShloMosaic.TcCoe
open Cert.Proof.Whole

variable (ch : Tabs) (m : (ℓ : Loc nD τ sig) → Buf (Elt Ideal) ℓ) (ρ : Dev nD → PrngReg) (c : Dev nD) (t : Fin (cfgA ch).N)

/-- A tile's expert. -/
def own (j : Fin 576) : Fin 64 := ⟨ch.expert j, ch.expert_lt j⟩

/-- A point as a tile. -/
abbrev pt : Fin 576 := ⟨t.val, t.isLt⟩

theorem expert_at : ch.expert ((crd ch t) 0) = (own ch (pt ch t)).val := by
  have e : ((crd ch t) 0 : Fin 576) = pt ch t := Fin.ext (crd_val ch t)
  show ch.expert ((crd ch t) 0 : Fin 576) = ch.expert (pt ch t)
  rw [e]

theorem ix1' : ((cfgA ch).win (1 : Fin 8)).index t = ![(own ch (pt ch t)).val, 0, 0] := by
  rw [← expert_at]; exact transform_expert ch (crd ch t)
theorem ix2' : ((cfgA ch).win (2 : Fin 8)).index t = ![(own ch (pt ch t)).val, 0, 0] := by
  rw [← expert_at]; exact transform_expert ch (crd ch t)
theorem ix3' : ((cfgA ch).win (3 : Fin 8)).index t = ![(own ch (pt ch t)).val, 0, 0] := by
  rw [← expert_at]; exact transform_expert ch (crd ch t)
theorem ix4' : ((cfgA ch).win (4 : Fin 8)).index t = ![(own ch (pt ch t)).val, 0, 0] := by
  rw [← expert_at]; exact transform_expert ch (crd ch t)
theorem ix5' : ((cfgA ch).win (5 : Fin 8)).index t = ![(own ch (pt ch t)).val, 0, 0] := by
  rw [← expert_at]; exact transform_expert ch (crd ch t)
theorem ix6' : ((cfgA ch).win (6 : Fin 8)).index t = ![(own ch (pt ch t)).val, 0, 0] := by
  rw [← expert_at]; exact transform_expert ch (crd ch t)
theorem ix0' : ((cfgA ch).win (0 : Fin 8)).index t = ![min t.val (ch.tiles - 1), 0, 0] := by
  have e := transform_rows_0 ch (crd ch t)
  rw [crd_val] at e
  exact e

theorem blk0 (ht : t.val < ch.tiles) : (iblk ch m ρ c (0 : Fin 8) t : Vec Ideal S512x8x128 .i32) = rowsOf (m ((c : Thread nD τ).loc main_arg1)) (pt ch t) := by
  funext y
  show (m ((c : Thread nD τ).loc main_arg1)) ((((cfgA ch).win 0).blk t).view.emb y) = _
  refine congrArg (m ((c : Thread nD τ).loc main_arg1)) (funext fun a => Fin.ext ?_)
  have e0 : ((cfgA ch).win (0 : Fin 8)).index t (0 : Fin 3) = t.val := (congrFun (ix0' ch t) 0).trans (by show min t.val (ch.tiles - 1) = t.val; omega)
  have e1 : ((cfgA ch).win (0 : Fin 8)).index t (1 : Fin 3) = 0 := congrFun (ix0' ch t) 1
  have e2 : ((cfgA ch).win (0 : Fin 8)).index t (2 : Fin 3) = 0 := congrFun (ix0' ch t) 2
  match a with
  | ⟨0, _⟩ => show ((cfgA ch).win (0 : Fin 8)).index t (0 : Fin 3) * 512 + 1 * (y 0).val = 512 * t.val + (y 0).val; rw [e0]; omega
  | ⟨1, _⟩ => show ((cfgA ch).win (0 : Fin 8)).index t (1 : Fin 3) * 8 + 1 * (y 1).val = (y 1).val; rw [e1]; omega
  | ⟨2, _⟩ => show ((cfgA ch).win (0 : Fin 8)).index t (2 : Fin 3) * 128 + 1 * (y 2).val = (y 2).val; rw [e2]; omega

/-- An index of a block of one expert, in the whole array. -/
theorem at_expert {P Q : ℕ} (e : Fin 64) (n : Fin 3 → ℕ) (h : n = ![e.val, 0, 0])
    (y : (⟨3, ![1, P, Q]⟩ : Shape).Idx) (z : (⟨3, ![64, P, Q]⟩ : Shape).Idx)
    (h0 : (z 0).val = n 0 * 1 + 1 * (y 0).val) (h1 : (z 1).val = n 1 * P + 1 * (y 1).val) (h2 : (z 2).val = n 2 * Q + 1 * (y 2).val) :
    z = ix3 e (y 1) (y 2) := by
  have y0 : (y 0).val < 1 := (y 0).isLt
  subst h
  funext a; apply Fin.ext
  match a with
  | ⟨0, _⟩ => exact h0.trans (show e.val * 1 + 1 * (y 0).val = e.val by omega)
  | ⟨1, _⟩ => exact h1.trans (show 0 * P + 1 * (y 1).val = (y 1).val by omega)
  | ⟨2, _⟩ => exact h2.trans (show 0 * Q + 1 * (y 2).val = (y 2).val by omega)

theorem blk1 : (iblk ch m ρ c (1 : Fin 8) t : Vec Ideal S1x2048x768 .fp8e4m3) = pick (m ((c : Thread nD τ).loc main_arg2)) (own ch (pt ch t)) := by
  funext y
  show (m ((c : Thread nD τ).loc main_arg2)) ((((cfgA ch).win 1).blk t).view.emb y) = _
  exact congrArg (m ((c : Thread nD τ).loc main_arg2)) (at_expert (own ch (pt ch t)) _ (ix1' ch t) y _ rfl rfl rfl)

theorem blk2 : (iblk ch m ρ c (2 : Fin 8) t : Vec Ideal S1x2048x768 .fp8e4m3) = pick (m ((c : Thread nD τ).loc main_arg4)) (own ch (pt ch t)) := by
  funext y
  show (m ((c : Thread nD τ).loc main_arg4)) ((((cfgA ch).win 2).blk t).view.emb y) = _
  exact congrArg (m ((c : Thread nD τ).loc main_arg4)) (at_expert (own ch (pt ch t)) _ (ix2' ch t) y _ rfl rfl rfl)

theorem blk3 : (iblk ch m ρ c (3 : Fin 8) t : Vec Ideal S1x768x2048 .fp8e4m3) = pick (m ((c : Thread nD τ).loc main_arg6)) (own ch (pt ch t)) := by
  funext y
  show (m ((c : Thread nD τ).loc main_arg6)) ((((cfgA ch).win 3).blk t).view.emb y) = _
  exact congrArg (m ((c : Thread nD τ).loc main_arg6)) (at_expert (own ch (pt ch t)) _ (ix3' ch t) y _ rfl rfl rfl)

theorem blk4 : (iblk ch m ρ c (4 : Fin 8) t : Vec Ideal S1x16x6 .f32) = pick (m ((c : Thread nD τ).loc main_arg3)) (own ch (pt ch t)) := by
  funext y
  show (m ((c : Thread nD τ).loc main_arg3)) ((((cfgA ch).win 4).blk t).view.emb y) = _
  exact congrArg (m ((c : Thread nD τ).loc main_arg3)) (at_expert (own ch (pt ch t)) _ (ix4' ch t) y _ rfl rfl rfl)

theorem blk5 : (iblk ch m ρ c (5 : Fin 8) t : Vec Ideal S1x16x6 .f32) = pick (m ((c : Thread nD τ).loc main_arg5)) (own ch (pt ch t)) := by
  funext y
  show (m ((c : Thread nD τ).loc main_arg5)) ((((cfgA ch).win 5).blk t).view.emb y) = _
  exact congrArg (m ((c : Thread nD τ).loc main_arg5)) (at_expert (own ch (pt ch t)) _ (ix5' ch t) y _ rfl rfl rfl)

theorem blk6 : (iblk ch m ρ c (6 : Fin 8) t : Vec Ideal S1x6x16 .f32) = pick (m ((c : Thread nD τ).loc main_arg7)) (own ch (pt ch t)) := by
  funext y
  show (m ((c : Thread nD τ).loc main_arg7)) ((((cfgA ch).win 6).blk t).view.emb y) = _
  exact congrArg (m ((c : Thread nD τ).loc main_arg7)) (at_expert (own ch (pt ch t)) _ (ix6' ch t) y _ rfl rfl rfl)

theorem bit_or : ∀ a b : BitVec 1, b = 1#1 → a ||| b = 1#1 := by decide

/-- A point that does not widen the weights has the expert of the point before it. -/
theorem same_expert (q0 : ¬P0_0 ch t) : ∃ h : t.val ≠ 0, own ch (pt ch t) = own ch ⟨t.val - 1, by have : t.val < 576 := t.isLt; omega⟩ := by
  have h0 : t.val ≠ 0 := fun h => q0 (P0_0_zero ch t h)
  have ht : t.val < 576 := t.isLt
  refine ⟨h0, ?_⟩
  have hn := fun x => q0 ((bit_ne _).mpr x)
  have hne : ¬ (Scalar.cmpi .ne (ch.w ((Rect.unit (s := S2x576) (k0_off1 (crd ch t)) S1x1.size (k0_off1_inb (crd ch t))).emb (Shape.Idx.first (numel1_S1x1.symm ▸ Nat.one_pos))))
      (ch.w ((Rect.unit (s := S2x576) (k0_off2 (crd ch t)) S1x1.size (k0_off2_inb (crd ch t))).emb (Shape.Idx.first (numel1_S1x1.symm ▸ Nat.one_pos)))) = 1#1) := fun x => by
    exact hn (bit_or _ _ x)
  have o2 : k0_off2 (crd ch t) 1 = t.val - 1 := by
    show (Scalar.maxsi (Scalar.subi (BitVec.ofNat 32 ((crd ch t) 0).val) 1#32) 0#32).toNat = _
    rw [crd_val]
    have es : (Scalar.subi (BitVec.ofNat 32 t.val) 1#32) = BitVec.ofNat 32 (t.val - 1) := by
      apply BitVec.eq_of_toNat_eq
      show (BitVec.ofNat 32 t.val - 1#32).toNat = _
      rw [BitVec.toNat_sub, BitVec.toNat_ofNat, BitVec.toNat_ofNat, BitVec.toNat_ofNat]; omega
    have en : (BitVec.ofNat 32 (t.val - 1)).toNat = t.val - 1 := by rw [BitVec.toNat_ofNat]; omega
    rw [es, Scalar.maxsi_zero_of_nonneg (by rw [en]; omega), en]
  rw [word_expert, word_at ch.w (k0_off2 (crd ch t)) (k0_off2_inb (crd ch t)) (numel1_S1x1.symm ▸ Nat.one_pos) (0 : Fin 2) (⟨t.val - 1, by omega⟩ : Fin 576) rfl o2] at hne
  have e : ((crd ch t) 0 : Fin 576) = pt ch t := Fin.ext (crd_val ch t)
  rw [e] at hne
  apply Fin.ext
  show (ch.w _).toNat = (ch.w _).toNat
  by_contra hc
  apply hne
  show IntOp.cmpi .ne _ _ = 1#1
  refine (WordCmp.cmpi_ne_eq _ _).trans ?_
  rw [decide_eq_true]
  · rfl
  · exact fun x => hc (congrArg BitVec.toNat x)

end Cert.Proof.ExpertsBlocks
-- ==== Proof.ExpertsIdealFrame.lean ====
/- The routed experts' launch at ANY table in range: what the output block and the scratches hold after each grid point, the
   body at each point, and the frame: every execution terminates, nothing faults, the arguments end unchanged. -/
module

public import proofs.«01_k».proof.Proof.ExpertsIdealTables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Any

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Tabs)
variable (m : (ℓ : Loc nD τ sig) → Buf (Elt Ideal) ℓ) (ρ : Dev nD → PrngReg)

/-- What a point may leave for the next: the output block, and the four scratches. -/
abbrev State (c : Dev nD) : Type := (S512x16x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)

/-! ## The body's run at a point, by what the point does -/

/-- The run of a point that widens the weights and works a tile. -/
abbrev runA (c : Dev nD) (t : Fin (cfgA ch).N) (q0 : P0_0 ch t) (q1 : P0_1 ch t) :=
  kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) q0 q1
/-- What it leaves in the output block. -/
abbrev outA (c : Dev nD) (t : Fin (cfgA ch).N) (q0 : P0_0 ch t) (q1 : P0_1 ch t) : S512x16x128.Idx → Elt Ideal .f32 :=
  out0_A_7 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) q0 q1
/-- The run of a point that works a tile. -/
abbrev runB (c : Dev nD) (t : Fin (cfgA ch).N) (prev : State c) (q0 : ¬P0_0 ch t) (q1 : P0_1 ch t) :=
  kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) prev.2.1 prev.2.2.1 q0 q1
/-- What it leaves in the output block. -/
abbrev outB (c : Dev nD) (t : Fin (cfgA ch).N) (prev : State c) (q0 : ¬P0_0 ch t) (q1 : P0_1 ch t) : S512x16x128.Idx → Elt Ideal .f32 :=
  out0_B_7 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) prev.2.1 prev.2.2.1 q0 q1
/-- The run of a point that only widens the weights. -/
abbrev runC (c : Dev nD) (t : Fin (cfgA ch).N) (prev : State c) (q0 : P0_0 ch t) (q1 : ¬P0_1 ch t) :=
  kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) prev.2.2.2.1 prev.2.2.2.2 q0 q1
/-- The run of a point that does nothing. -/
abbrev runD (c : Dev nD) (t : Fin (cfgA ch).N) (prev : State c) (q0 : ¬P0_0 ch t) (q1 : ¬P0_1 ch t) :=
  kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) prev.2.1 prev.2.2.1 prev.2.2.2.1 prev.2.2.2.2 q0 q1

/-! ## What the outputs and scratches hold after each point -/

/-- ONE STEP of the trajectory: what the outputs' current buffers and the scratches hold after the body at point `t`
    (output 7, scratch 0, scratch 1, scratch 2, scratch 3), from what they held before (`prev`): the path the decisions select at `t`, its
    run's contents; an output the path leaves idle keeps what it held (junk — `default`, named by nothing — where fresh). -/
def step0 (c : Dev nD) (t : Fin (cfgA ch).N) (prev : State c) : State c :=
  if q0 : P0_0 ch t then
    if q1 : P0_1 ch t then
      (outA ch m ρ c t q0 q1, (runA ch m ρ c t q0 q1).2.1, (runA ch m ρ c t q0 q1).2.2.1, (runA ch m ρ c t q0 q1).2.2.2.1, (runA ch m ρ c t q0 q1).2.2.2.2.1)
    else
      ((if (cfgA ch).fresh (7 : Fin 8) t.val then default else prev.1), (runC ch m ρ c t prev q0 q1).1, (runC ch m ρ c t prev q0 q1).2.1, (runC ch m ρ c t prev q0 q1).2.2.1, (runC ch m ρ c t prev q0 q1).2.2.2.1)
  else
    if q1 : P0_1 ch t then
      (outB ch m ρ c t prev q0 q1, (runB ch m ρ c t prev q0 q1).2.1, (runB ch m ρ c t prev q0 q1).2.2.1, (runB ch m ρ c t prev q0 q1).2.2.2.1, (runB ch m ρ c t prev q0 q1).2.2.2.2.1)
    else
      ((if (cfgA ch).fresh (7 : Fin 8) t.val then default else prev.1), (runD ch m ρ c t prev q0 q1).1, (runD ch m ρ c t prev q0 q1).2.1, (runD ch m ρ c t prev q0 q1).2.2.1, (runD ch m ρ c t prev q0 q1).2.2.2.1)

/-- THE TRAJECTORY: after position `n`. -/
def traj0 (c : Dev nD) : (n : ℕ) → n < (cfgA ch).N → State c
  | 0, h => step0 ch m ρ c ⟨0, h⟩ (default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : State c :=
  if h : t.val = 0 then (default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : State c) (q0 : P0_0 ch t) (q1 : P0_1 ch t) :
    step0 ch m ρ c t prev = (outA ch m ρ c t q0 q1, (runA ch m ρ c t q0 q1).2.1, (runA ch m ρ c t q0 q1).2.2.1, (runA ch m ρ c t q0 q1).2.2.2.1, (runA ch m ρ c t q0 q1).2.2.2.2.1) := by
  unfold step0; simp only [dif_pos q0, dif_pos q1]

/-- `step0` at a point of path B. -/
theorem step0_B (c : Dev nD) (t : Fin (cfgA ch).N) (prev : State c) (q0 : ¬P0_0 ch t) (q1 : P0_1 ch t) :
    step0 ch m ρ c t prev = (outB ch m ρ c t prev q0 q1, (runB ch m ρ c t prev q0 q1).2.1, (runB ch m ρ c t prev q0 q1).2.2.1, (runB ch m ρ c t prev q0 q1).2.2.2.1, (runB ch m ρ c t prev q0 q1).2.2.2.2.1) := by
  unfold step0; simp only [dif_neg q0, dif_pos q1]

/-- `step0` at a point of path C. -/
theorem step0_C (c : Dev nD) (t : Fin (cfgA ch).N) (prev : State c) (q0 : P0_0 ch t) (q1 : ¬P0_1 ch t) :
    step0 ch m ρ c t prev = ((if (cfgA ch).fresh (7 : Fin 8) t.val then default else prev.1), (runC ch m ρ c t prev q0 q1).1, (runC ch m ρ c t prev q0 q1).2.1, (runC ch m ρ c t prev q0 q1).2.2.1, (runC ch m ρ c t prev q0 q1).2.2.2.1) := by
  unfold step0; simp only [dif_pos q0, dif_neg q1]

/-- `step0` at a point of path D. -/
theorem step0_D (c : Dev nD) (t : Fin (cfgA ch).N) (prev : State c) (q0 : ¬P0_0 ch t) (q1 : ¬P0_1 ch t) :
    step0 ch m ρ c t prev = ((if (cfgA ch).fresh (7 : Fin 8) t.val then default else prev.1), (runD ch m ρ c t prev q0 q1).1, (runD ch m ρ c t prev q0 q1).2.1, (runD ch m ρ c t prev q0 q1).2.2.1, (runD ch m ρ c t prev q0 q1).2.2.2.1) := by
  unfold step0; simp only [dif_neg q0, dif_neg q1]

/-! ## The pipeline's proof data -/

/-- What the tracked buffers held before position `t` of `Fin (N+1)` (the invariant's index). -/
def prev0T (c : Dev nD) (t : Fin ((cfgA ch).N + 1)) : State c :=
  if h : t.val = 0 then (default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_0 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_2 ch t.val = false → a = (prev0T ch m ρ c t).2.2.2.2⌝ ∗ (scM0_3.view.loc (c : Thread nD τ) ↦{fullShare} a)) ∗ (tbM0_0.view.loc (c : Thread nD τ) ↦{fullShare.right} pinT_0 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 8) t
    | ⟨1, _⟩ => iblk ch m ρ c (1 : Fin 8) t
    | ⟨2, _⟩ => iblk ch m ρ c (2 : Fin 8) t
    | ⟨3, _⟩ => iblk ch m ρ c (3 : Fin 8) t
    | ⟨4, _⟩ => iblk ch m ρ c (4 : Fin 8) t
    | ⟨5, _⟩ => iblk ch m ρ c (5 : Fin 8) t
    | ⟨6, _⟩ => iblk ch m ρ c (6 : Fin 8) t
    | ⟨7, _⟩ => (traj0 ch m ρ c t.val t.isLt).1
  Φ t := Phi ch m ρ c t
  q _ := fullShare
  owed _ := 0

theorem after0_0 (c : Dev nD) (t : Fin (cfgA ch).N) : (dats ch m ρ 0 c).after (0 : Fin 8) t = iblk ch m ρ c (0 : Fin 8) t := rfl
theorem after0_1 (c : Dev nD) (t : Fin (cfgA ch).N) : (dats ch m ρ 0 c).after (1 : Fin 8) t = iblk ch m ρ c (1 : Fin 8) t := rfl
theorem after0_2 (c : Dev nD) (t : Fin (cfgA ch).N) : (dats ch m ρ 0 c).after (2 : Fin 8) t = iblk ch m ρ c (2 : Fin 8) t := rfl
theorem after0_3 (c : Dev nD) (t : Fin (cfgA ch).N) : (dats ch m ρ 0 c).after (3 : Fin 8) t = iblk ch m ρ c (3 : Fin 8) t := rfl
theorem after0_4 (c : Dev nD) (t : Fin (cfgA ch).N) : (dats ch m ρ 0 c).after (4 : Fin 8) t = iblk ch m ρ c (4 : Fin 8) t := rfl
theorem after0_5 (c : Dev nD) (t : Fin (cfgA ch).N) : (dats ch m ρ 0 c).after (5 : Fin 8) t = iblk ch m ρ c (5 : Fin 8) t := rfl
theorem after0_6 (c : Dev nD) (t : Fin (cfgA ch).N) : (dats ch m ρ 0 c).after (6 : Fin 8) t = iblk ch m ρ c (6 : Fin 8) t := rfl
theorem after0_7 (c : Dev nD) (t : Fin (cfgA ch).N) : (dats ch m ρ 0 c).after (7 : Fin 8) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 8) t d = iblk ch m ρ c (0 : Fin 8) t :=
  ((dats ch m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 8) t d = iblk ch m ρ c (1 : Fin 8) t :=
  ((dats ch m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 8) t d = iblk ch m ρ c (2 : Fin 8) t :=
  ((dats ch m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 8) t d = iblk ch m ρ c (3 : Fin 8) t :=
  ((dats ch m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 8) t d = iblk ch m ρ c (4 : Fin 8) t :=
  ((dats ch m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 8) t d = iblk ch m ρ c (5 : Fin 8) t :=
  ((dats ch m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 8) t d = iblk ch m ρ c (6 : Fin 8) t :=
  ((dats ch m ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- Output 7's `after` carries through the points that leave it idle. -/
theorem hcarry0_7 (c : Dev nD) : ∀ (t : Fin (cfgA ch).N) (ht : t.val ≠ 0), (cfgA ch).idle (7 : Fin 8) ((cfgA ch).grid.coords t) = true → (cfgA ch).fresh (7 : Fin 8) t.val = false →
    (dats ch m ρ 0 c).after (7 : Fin 8) t = (dats ch m ρ 0 c).after (7 : Fin 8) ⟨t.val - 1, by omega⟩ := by
  intro t ht hi hf
  rw [after0_7, after0_7, traj0_eq]
  by_cases q0 : P0_0 ch t
  · by_cases q1 : P0_1 ch t
    · obtain ⟨i7, -⟩ := sched0_A ch t q0 q1
      rw [i7] at hi; exact absurd hi (by decide)
    · rw [step0_C ch m ρ c t _ q0 q1]
      simp only [hf, Bool.false_eq_true, ↓reduceIte]
      unfold prev0; rw [dif_neg ht]
  · by_cases q1 : P0_1 ch t
    · obtain ⟨i7, -⟩ := sched0_B ch t q0 q1
      rw [i7] at hi; exact absurd hi (by decide)
    · rw [step0_D ch m ρ c t _ q0 q1]
      simp only [hf, Bool.false_eq_true, ↓reduceIte]
      unfold prev0; rw [dif_neg ht]

/-- Output window 7 holds, when the body runs at `t`: junk if nothing was stored since its last write-back (`Cfg.fresh`),
    else what the point before left (TableIdle.lean `Dat.before_out_traj`). -/
theorem before0_7 (c : Dev nD) (t : Fin (cfgA ch).N) (d) :
    (dats ch m ρ 0 c).before (7 : Fin 8) t d = if (cfgA ch).fresh (7 : Fin 8) t.val then d else (prev0 ch m ρ c t).1 := by
  rw [(dats ch m ρ 0 c).before_out_traj (7 : Fin 8) rfl (fun _ _ => rfl) (hcarry0_7 ch m ρ c) t.val t rfl d]
  by_cases hf : (cfgA ch).fresh (7 : Fin 8) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_7]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_routed_experts (crd ch t) (Memref.whole main_arg0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 6400000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 8) t d))
        ∗ (∃ d, owns (c : Thread nD τ) (ms0_1 ch t) fullShare ((dats ch m ρ 0 c).before (1 : Fin 8) t d))
        ∗ (∃ d, owns (c : Thread nD τ) (ms0_2 ch t) fullShare ((dats ch m ρ 0 c).before (2 : Fin 8) t d))
        ∗ (∃ d, owns (c : Thread nD τ) (ms0_3 ch t) fullShare ((dats ch m ρ 0 c).before (3 : Fin 8) t d))
        ∗ (∃ d, owns (c : Thread nD τ) (ms0_4 ch t) fullShare ((dats ch m ρ 0 c).before (4 : Fin 8) t d))
        ∗ (∃ d, owns (c : Thread nD τ) (ms0_5 ch t) fullShare ((dats ch m ρ 0 c).before (5 : Fin 8) t d))
        ∗ (∃ d, owns (c : Thread nD τ) (ms0_6 ch t) fullShare ((dats ch m ρ 0 c).before (6 : Fin 8) t d))
        ∗ (∃ d, owns (c : Thread nD τ) (ms0_7 ch t) fullShare ((dats ch m ρ 0 c).before (7 : Fin 8) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i7, fr7, sfn0, sfn2⟩ := sched0_A ch t q0 q1
      have hc0 := q0; have k0_h2 := q1
      rewrite [i7]
      simp only [before0_0, before0_1, before0_2, before0_3, before0_4, before0_5, before0_6, before0_7, after0_0, after0_1, after0_2, after0_3, after0_4, after0_5, after0_6, after0_7]
      simp only [fr7, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) hc0 k0_h2).2.2.2.2.2 a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, HT0, ⟨%e7, H7⟩, HS0, HS1, HS2, HS3⟩
      isplitl [HS0 HS1 HS2 HS3 HT0]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn0]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn2]; decide) | decide)
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact View.read_writes_of_cover _ _ _ _ _ (cover0_A_7 c _ _ _ _ _ _ _ _ _ _ _ _ _ _ _ _ _ _ _ _ _ _ _ _ _ _ _)
    · obtain ⟨i7, fr7, sf0, sfn0, sf2, sfn2⟩ := sched0_idle ch t q1
      have hc0 := q0; have k0_h2 := q1
      cases f7 : ((cfgA ch).win (7 : Fin 8)).flush t
      · rewrite [i7]
        simp only [before0_0, before0_1, before0_2, before0_3, before0_4, before0_5, before0_6, before0_7, after0_0, after0_1, after0_2, after0_3, after0_4, after0_5, after0_6, after0_7, f7]
        simp only [fr7, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1]
        unfold Phi; simp only [prev0T_castSucc, prev0T_succ, traj0_eq, step0_C ch m ρ c t _ q0 q1, Fin.val_castSucc, Fin.val_succ]
        simp only [exists_held sf2]
        iintro ⟨⟨⟨%a0, %ha0, HS0⟩, ⟨%a1, %ha1, HS1⟩, HS2, HS3, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ hc0 k0_h2).2.2.2.2 _ a0 a1 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [HT0]; · iexact HT0
        isplitl [H7]; · iexact H7
        isplitl [HS0]; · iexact HS0
        isplitl [HS1]; · iexact HS1
        isplitl [HS2]; · iexact HS2
        isplitl [HS3]; · iexact HS3
        iintro ⟨H0, H1, H2, H3, H4, H5, H6, HT0, H7, HS0, HS1, HS2, HS3⟩
        isplitl [HS0 HS1 HS2 HS3 HT0]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn0]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn2]; decide) | decide)
          iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · iapply owns_of_rep; iexact H6
        first | (iexists d7; iexact H7) | iexact H7
      · rewrite [i7]
        simp only [before0_0, before0_1, before0_2, before0_3, before0_4, before0_5, before0_6, before0_7, after0_0, after0_1, after0_2, after0_3, after0_4, after0_5, after0_6, after0_7, f7]
        simp only [fr7, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1]
        unfold Phi; simp only [prev0T_castSucc, prev0T_succ, traj0_eq, step0_C ch m ρ c t _ q0 q1, Fin.val_castSucc, Fin.val_succ, fr7, Bool.false_eq_true, ↓reduceIte]
        simp only [exists_held sf2]
        iintro ⟨⟨⟨%a0, %ha0, HS0⟩, ⟨%a1, %ha1, HS1⟩, HS2, HS3, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ hc0 k0_h2).2.2.2.2 _ a0 a1 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [HT0]; · iexact HT0
        isplitl [H7]; · iexact H7
        isplitl [HS0]; · iexact HS0
        isplitl [HS1]; · iexact HS1
        isplitl [HS2]; · iexact HS2
        isplitl [HS3]; · iexact HS3
        iintro ⟨H0, H1, H2, H3, H4, H5, H6, HT0, H7, HS0, HS1, HS2, HS3⟩
        isplitl [HS0 HS1 HS2 HS3 HT0]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn0]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn2]; decide) | decide)
          iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · iapply owns_of_rep; iexact H6
        first | (iexists d7; iexact H7) | iexact H7
  · by_cases q1 : P0_1 ch t
    · obtain ⟨i7, fr7, sf0, sfn0, sf2, sfn2⟩ := sched0_B ch t q0 q1
      have hc0 := q0; have k0_h2 := q1
      rewrite [i7]
      simp only [before0_0, before0_1, before0_2, before0_3, before0_4, before0_5, before0_6, before0_7, after0_0, after0_1, after0_2, after0_3, after0_4, after0_5, after0_6, after0_7]
      simp only [fr7, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HS1, ⟨%a2, %ha2, HS2⟩, ⟨%a3, %ha3, HS3⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ hc0 k0_h2).2.2.2.2.2 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, HT0, ⟨%e7, H7⟩, HS0, HS1, HS2, HS3⟩
      isplitl [HS0 HS1 HS2 HS3 HT0]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn0]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn2]; decide) | decide)
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact View.read_writes_of_cover _ _ _ _ _ (cover0_B_7 c _ _ _ _ _ _ _ _ _ _ _ _ _ _ _ _ _ _ _ _ _ _ _ _ _ _ _ _ _)
    · obtain ⟨i7, fr7, sf0, sfn0, sf2, sfn2⟩ := sched0_idle ch t q1
      have hc0 := q0; have k0_h2 := q1
      cases f7 : ((cfgA ch).win (7 : Fin 8)).flush t
      · rewrite [i7]
        simp only [before0_0, before0_1, before0_2, before0_3, before0_4, before0_5, before0_6, before0_7, after0_0, after0_1, after0_2, after0_3, after0_4, after0_5, after0_6, after0_7, f7]
        simp only [fr7, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ]
        simp only [exists_held sf0, exists_held sf2]
        iintro ⟨⟨HS0, HS1, HS2, HS3, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ _ _ hc0 k0_h2).2.2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [HT0]; · iexact HT0
        isplitl [H7]; · iexact H7
        isplitl [HS0]; · iexact HS0
        isplitl [HS1]; · iexact HS1
        isplitl [HS2]; · iexact HS2
        isplitl [HS3]; · iexact HS3
        iintro ⟨H0, H1, H2, H3, H4, H5, H6, HT0, H7, HS0, HS1, HS2, HS3⟩
        isplitl [HS0 HS1 HS2 HS3 HT0]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn0]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn2]; decide) | decide)
          iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · iapply owns_of_rep; iexact H6
        first | (iexists d7; iexact H7) | iexact H7
      · rewrite [i7]
        simp only [before0_0, before0_1, before0_2, before0_3, before0_4, before0_5, before0_6, before0_7, after0_0, after0_1, after0_2, after0_3, after0_4, after0_5, after0_6, after0_7, f7]
        simp only [fr7, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ, fr7, Bool.false_eq_true, ↓reduceIte]
        simp only [exists_held sf0, exists_held sf2]
        iintro ⟨⟨HS0, HS1, HS2, HS3, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (pinT_0 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) _ _ _ _ hc0 k0_h2).2.2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [HT0]; · iexact HT0
        isplitl [H7]; · iexact H7
        isplitl [HS0]; · iexact HS0
        isplitl [HS1]; · iexact HS1
        isplitl [HS2]; · iexact HS2
        isplitl [HS3]; · iexact HS3
        iintro ⟨H0, H1, H2, H3, H4, H5, H6, HT0, H7, HS0, HS1, HS2, HS3⟩
        isplitl [HS0 HS1 HS2 HS3 HT0]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn0]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn2]; decide) | decide)
          iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · iapply owns_of_rep; iexact H6
        first | (iexists d7; iexact H7) | iexact H7

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_0 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_2 ch 0 = true from rfl)) Bool.false_ne_true
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, -⟩
  isplitr; · iempintro
  isplitl [HS0]
  · iexists a0; iexact HS0
  isplitl [HS1]
  · iexists a1; iexact HS1
  isplitl [HS2]
  · iexists a2; iexact HS2
  iexists a3; iexact HS3

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters that holds the table `ch`: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 0).trans (hp c).symm, ((h c).1 (0 : Fin 8)).trans ((dats ch m ρ 0 c).arrAt_in (0 : Fin 8) rfl _), ((h c).1 (1 : Fin 8)).trans ((dats ch m ρ 0 c).arrAt_in (1 : Fin 8) rfl _), ((h c).1 (4 : Fin 8)).trans ((dats ch m ρ 0 c).arrAt_in (4 : Fin 8) rfl _), ((h c).1 (2 : Fin 8)).trans ((dats ch m ρ 0 c).arrAt_in (2 : Fin 8) rfl _), ((h c).1 (5 : Fin 8)).trans ((dats ch m ρ 0 c).arrAt_in (5 : Fin 8) rfl _), ((h c).1 (3 : Fin 8)).trans ((dats ch m ρ 0 c).arrAt_in (3 : Fin 8) rfl _), ((h c).1 (6 : Fin 8)).trans ((dats ch m ρ 0 c).arrAt_in (6 : Fin 8) rfl _)⟩) (run_main ch m ρ hp)

/-- THE FRAME at a table in range: from a launch memory that holds the table `ch`, every weakly fair
    execution terminates, nothing faults, every argument array ends unchanged and every semaphore counter of the machine reads
    zero at every final state — `Cert.quiescent_ExpertsIdeal`'s post.
-/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged ch m ρ hp) ((θ_run defs _ _).mono (fun _ h => h.2) (run_main_quiescent ch m ρ hp))

end Cert.ExpertsIdeal.Any

end
-- ==== Proof.ExpertsValue.lean ====
module
public import proofs.«01_k».proof.Proof.TileOut
public import proofs.«01_k».proof.Proof.TileSame
public import proofs.«01_k».proof.Proof.ExpertsBlocks
public import proofs.«01_k».proof.Proof.ExpertsIdealFrame
public import Idealize.ShloMosaic.Lib.Pipeline.Value
@[expose] public section

set_option maxRecDepth 65536
set_option Elab.async false
noncomputable section

/-! What the routed experts' launch leaves in its result, at any table in range: every tile in use holds the tile's result. -/
namespace Cert.Proof.ExpertsValue

open Cert.ExpertsIdeal Cert.ExpertsIdeal.Gen Cert.ExpertsIdeal.Any
open Idealize.ShloMosaic Idealize.ShloMosaic.ValueIdx
open Idealize.ShloMosaic.TcCoe
open Cert.Proof.Quant Cert.Proof.Words Cert.Proof.Tile Cert.Proof.Whole Cert.Proof.TileRun Cert.Proof.ExpertsBlocks

variable (ch : Tabs) (m : (ℓ : Loc nD τ sig) → Buf (Elt Ideal) ℓ) (ρ : Dev nD → PrngReg) (c : Dev nD)

/-- The widened gate and up weights of a tile's expert. -/
abbrev guT (j : Fin 576) : Vec Ideal SWW .bf16 :=
  gu (m ((c : Thread nD τ).loc main_arg2)) (m ((c : Thread nD τ).loc main_arg4)) (m ((c : Thread nD τ).loc main_arg3)) (m ((c : Thread nD τ).loc main_arg5)) (own ch j)
/-- Its widened down weights. -/
abbrev dnT (j : Fin 576) : Vec Ideal SDD .bf16 :=
  dn (m ((c : Thread nD τ).loc main_arg6)) (m ((c : Thread nD τ).loc main_arg7)) (own ch j)
/-- A tile's result under its expert. -/
abbrev tileT (j : Fin 576) : Vec Ideal SOO .f32 :=
  tile (m ((c : Thread nD τ).loc main_arg1)) (m ((c : Thread nD τ).loc main_arg2)) (m ((c : Thread nD τ).loc main_arg4)) (m ((c : Thread nD τ).loc main_arg6))
    (m ((c : Thread nD τ).loc main_arg3)) (m ((c : Thread nD τ).loc main_arg5)) (m ((c : Thread nD τ).loc main_arg7)) j (own ch j)

theorem outB_eq (t : Fin (cfgA ch).N) (prev : State c) (q0 : ¬P0_0 ch t) (q1 : P0_1 ch t) :
    outB ch m ρ c t prev q0 q1 = OUT (HW (XR (iblk ch m ρ c (0 : Fin 8) t)) (RD0 c prev.2.1)) (RD1 c prev.2.2.1) :=
  funext fun y => out_read (ms0_0 ch t) (iblk ch m ρ c (0 : Fin 8) t) c prev.2.1 prev.2.2.1 y

theorem outA_eq (t : Fin (cfgA ch).N) (q0 : P0_0 ch t) (q1 : P0_1 ch t) :
    outA ch m ρ c t q0 q1 = OUT (HW (XR (iblk ch m ρ c (0 : Fin 8) t)) (WG (iblk ch m ρ c (1 : Fin 8) t) (iblk ch m ρ c (2 : Fin 8) t) (iblk ch m ρ c (4 : Fin 8) t) (iblk ch m ρ c (5 : Fin 8) t)))
      (WD (iblk ch m ρ c (3 : Fin 8) t) (iblk ch m ρ c (6 : Fin 8) t)) := by
  funext y
  show VO0_7.read (Elt Ideal) (VO0_7.writes (Elt Ideal) VO0_7.junk (kernelRun0_A.sl.HO7_16 (ms0_0 ch t) (ms0_1 ch t) (ms0_2 ch t) (ms0_3 ch t) (ms0_4 ch t) (ms0_5 ch t) (ms0_6 ch t)
    (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t))) y = _
  rw [same_out _ _ _ _ _ _ _ _ _ _ _ _ _ _ c, out_read, read_gu, read_down]

/-- What a point that works a tile leaves: its scratches hold its expert's widened weights, its block the tile's result. -/
def Good (t : Fin (cfgA ch).N) (s : State c) : Prop :=
  RD0 c s.2.1 = guT ch m c (pt ch t) ∧ RD1 c s.2.2.1 = dnT ch m c (pt ch t) ∧ s.1 = tileT ch m c (pt ch t)

theorem good_mk (t : Fin (cfgA ch).N) (s : State c) (h0 : RD0 c s.2.1 = guT ch m c (pt ch t)) (h1 : RD1 c s.2.2.1 = dnT ch m c (pt ch t))
    (h2 : s.1 = tileT ch m c (pt ch t)) : Good ch m c t s := ⟨h0, h1, h2⟩

/-- The widened weights of a point's blocks are its expert's. -/
theorem gu_at (t : Fin (cfgA ch).N) : WG (iblk ch m ρ c (1 : Fin 8) t) (iblk ch m ρ c (2 : Fin 8) t) (iblk ch m ρ c (4 : Fin 8) t) (iblk ch m ρ c (5 : Fin 8) t) = guT ch m c (pt ch t) := by
  rw [blk1, blk2, blk4, blk5]; rfl

theorem dn_at (t : Fin (cfgA ch).N) : WD (iblk ch m ρ c (3 : Fin 8) t) (iblk ch m ρ c (6 : Fin 8) t) = dnT ch m c (pt ch t) := by
  rw [blk3, blk6]; rfl

/-- The tile's result from its rows and any two arrays that are its expert's widened weights. -/
theorem out_at (t : Fin (cfgA ch).N) (ht : t.val < ch.tiles) (w : Vec Ideal SWW .bf16) (d : Vec Ideal SDD .bf16) (hw : w = guT ch m c (pt ch t)) (hd : d = dnT ch m c (pt ch t)) :
    OUT (HW (XR (iblk ch m ρ c (0 : Fin 8) t)) w) d = tileT ch m c (pt ch t) := by
  subst hw hd
  exact congrArg (fun x => OUT (HW (XR x) (guT ch m c (pt ch t))) (dnT ch m c (pt ch t))) (blk0 ch m ρ c t ht)

theorem runB_gu (t : Fin (cfgA ch).N) (prev : State c) (q0 : ¬P0_0 ch t) (q1 : P0_1 ch t) : (runB ch m ρ c t prev q0 q1).2.1 = prev.2.1 := rfl
theorem runB_dn (t : Fin (cfgA ch).N) (prev : State c) (q0 : ¬P0_0 ch t) (q1 : P0_1 ch t) : (runB ch m ρ c t prev q0 q1).2.2.1 = prev.2.2.1 := rfl

theorem runA_gu (t : Fin (cfgA ch).N) (q0 : P0_0 ch t) (q1 : P0_1 ch t) : RD0 c (runA ch m ρ c t q0 q1).2.1 = guT ch m c (pt ch t) :=
  (read_gu (ms0_1 ch t) (ms0_2 ch t) (ms0_4 ch t) (ms0_5 ch t) (iblk ch m ρ c (1 : Fin 8) t) (iblk ch m ρ c (2 : Fin 8) t) (iblk ch m ρ c (4 : Fin 8) t) (iblk ch m ρ c (5 : Fin 8) t) c).trans (gu_at ch m ρ c t)
theorem runA_dn (t : Fin (cfgA ch).N) (q0 : P0_0 ch t) (q1 : P0_1 ch t) : RD1 c (runA ch m ρ c t q0 q1).2.2.1 = dnT ch m c (pt ch t) :=
  (read_down (ms0_3 ch t) (ms0_6 ch t) (iblk ch m ρ c (3 : Fin 8) t) (iblk ch m ρ c (6 : Fin 8) t) c).trans (dn_at ch m ρ c t)

theorem good_A (t : Fin (cfgA ch).N) (prev : State c) (q0 : P0_0 ch t) (q1 : P0_1 ch t) : Good ch m c t (step0 ch m ρ c t prev) := by
  have ht := (P0_1_iff ch t).mp q1
  rw [step0_A ch m ρ c t prev q0 q1]
  refine good_mk ch m c t _ ?_ ?_ ?_
  · dsimp only
    exact runA_gu ch m ρ c t q0 q1
  · dsimp only
    exact runA_dn ch m ρ c t q0 q1
  · dsimp only
    exact (outA_eq ch m ρ c t q0 q1).trans (out_at ch m ρ c t ht _ _ (gu_at ch m ρ c t) (dn_at ch m ρ c t))

theorem good_B (t : Fin (cfgA ch).N) (prev : State c) (q0 : ¬P0_0 ch t) (q1 : P0_1 ch t)
    (h0 : RD0 c prev.2.1 = guT ch m c (pt ch t)) (h1 : RD1 c prev.2.2.1 = dnT ch m c (pt ch t)) : Good ch m c t (step0 ch m ρ c t prev) := by
  have ht := (P0_1_iff ch t).mp q1
  rw [step0_B ch m ρ c t prev q0 q1]
  refine good_mk ch m c t _ ?_ ?_ ?_
  · dsimp only
    exact (congrArg (RD0 c) (runB_gu ch m ρ c t prev q0 q1)).trans h0
  · dsimp only
    exact (congrArg (RD1 c) (runB_dn ch m ρ c t prev q0 q1)).trans h1
  · dsimp only
    exact (outB_eq ch m ρ c t prev q0 q1).trans (out_at ch m ρ c t ht _ _ h0 h1)

theorem good (n : ℕ) (hn : n < (cfgA ch).N) (ht : n < ch.tiles) : Good ch m c ⟨n, hn⟩ (traj0 ch m ρ c n hn) := by
  induction n with
  | zero =>
    exact good_A ch m ρ c ⟨0, hn⟩ _ (P0_0_zero ch _ rfl) (P0_1_zero ch _ rfl)
  | succ n ih =>
    have q1 : P0_1 ch ⟨n + 1, hn⟩ := (P0_1_iff ch _).mpr ht
    rw [show traj0 ch m ρ c (n + 1) hn = step0 ch m ρ c ⟨n + 1, hn⟩ (traj0 ch m ρ c n (Nat.lt_of_succ_lt hn)) from rfl]
    by_cases q0 : P0_0 ch ⟨n + 1, hn⟩
    · exact good_A ch m ρ c ⟨n + 1, hn⟩ _ q0 q1
    · obtain ⟨-, e⟩ := same_expert ch ⟨n + 1, hn⟩ q0
      obtain ⟨g0, g1, -⟩ := ih (Nat.lt_of_succ_lt hn) (by omega)
      exact good_B ch m ρ c ⟨n + 1, hn⟩ _ q0 q1 (g0.trans (congrArg (gu _ _ _ _) e.symm)) (g1.trans (congrArg (dn _ _) e.symm))

/-- The block that is written back after point `n` is that of tile `n`, or of the last tile in use. -/
theorem block_at (n : ℕ) (hn : n < (cfgA ch).N) :
    (traj0 ch m ρ c n hn).1 = tileT ch m c ⟨min n (ch.tiles - 1), by have : n < 576 := hn; omega⟩ := by
  induction n with
  | zero =>
    have e := (good ch m ρ c 0 hn (by have := ch.tiles_pos; omega)).2.2
    exact e.trans (congrArg (tileT ch m c) (Fin.ext (Nat.zero_min _).symm))
  | succ n ih =>
    by_cases ht : n + 1 < ch.tiles
    · have e := (good ch m ρ c (n + 1) hn ht).2.2
      exact e.trans (congrArg (tileT ch m c) (Fin.ext (by show n + 1 = min (n + 1) (ch.tiles - 1); omega)))
    · have q1 : ¬P0_1 ch ⟨n + 1, hn⟩ := fun h => ht ((P0_1_iff ch _).mp h)
      obtain ⟨hi, hf, -⟩ := sched0_idle ch ⟨n + 1, hn⟩ q1
      have e := hcarry0_7 ch m ρ c ⟨n + 1, hn⟩ (Nat.succ_ne_zero n) hi hf
      rw [after0_7, after0_7] at e
      refine e.trans ((ih (Nat.lt_of_succ_lt hn)).trans ?_)
      exact congrArg (tileT ch m c) (Fin.ext (by show min n (ch.tiles - 1) = min (n + 1) (ch.tiles - 1); omega))

/-- The whole result. -/
abbrev G : Vec Ideal AO .f32 :=
  Whole.all (m ((c : Thread nD τ).loc main_arg1)) (m ((c : Thread nD τ).loc main_arg2)) (m ((c : Thread nD τ).loc main_arg4)) (m ((c : Thread nD τ).loc main_arg6))
    (m ((c : Thread nD τ).loc main_arg3)) (m ((c : Thread nD τ).loc main_arg5)) (m ((c : Thread nD τ).loc main_arg7)) (own ch)

theorem block_emb (t : Fin (cfgA ch).N) (y : S512x16x128.Idx) :
    ∃ z : AO.Idx, z = (((cfgA ch).win (7 : Fin 8)).blk t).view.emb y ∧ (z 0).val = 512 * min t.val (ch.tiles - 1) + (y 0).val ∧ (z 1).val = (y 1).val ∧ (z 2).val = (y 2).val := by
  refine ⟨_, rfl, ?_, ?_, ?_⟩
  · show ((cfgA ch).win (7 : Fin 8)).index t (0 : Fin 3) * 512 + 1 * (y 0).val = _
    rw [show ((cfgA ch).win (7 : Fin 8)).index t (0 : Fin 3) = min t.val (ch.tiles - 1) from congrFun (index_7 ch t) 0]; omega
  · show ((cfgA ch).win (7 : Fin 8)).index t (1 : Fin 3) * 16 + 1 * (y 1).val = _
    rw [show ((cfgA ch).win (7 : Fin 8)).index t (1 : Fin 3) = 0 from congrFun (index_7 ch t) 1]; omega
  · show ((cfgA ch).win (7 : Fin 8)).index t (2 : Fin 3) * 128 + 1 * (y 2).val = _
    rw [show ((cfgA ch).win (7 : Fin 8)).index t (2 : Fin 3) = 0 from congrFun (index_7 ch t) 2]; omega

theorem flushed_eq (t : Fin (cfgA ch).N) :
    (dats ch m ρ 0 c).flushed (7 : Fin 8) t = (((cfgA ch).win (7 : Fin 8)).blk t).view.read (Elt Ideal) (G ch m c) := by
  funext y
  have e : (dats ch m ρ 0 c).flushed (7 : Fin 8) t y = (traj0 ch m ρ c t.val t.isLt).1 y := rfl
  rw [e, block_at]
  obtain ⟨z, hz, z0, z1, z2⟩ := block_emb ch t y
  show _ = G ch m c ((((cfgA ch).win (7 : Fin 8)).blk t).view.emb y)
  rw [← hz]
  have y0 : (y 0).val < 512 := (y 0).isLt
  have ea : at_ (z 0) = (⟨min t.val (ch.tiles - 1), by have : t.val < 576 := t.isLt; omega⟩ : Fin 576) := Fin.ext (by show (z 0).val / 512 = min t.val (ch.tiles - 1); omega)
  have ey : (ix3 (⟨(z 0).val % 512, by omega⟩ : Fin 512) (z 1) (z 2) : SOO.Idx) = y := by
    funext a; apply Fin.ext
    match a with
    | ⟨0, _⟩ => show (z 0).val % 512 = (y 0).val; omega
    | ⟨1, _⟩ => exact z1
    | ⟨2, _⟩ => exact z2
  show _ = tile _ _ _ _ _ _ _ (at_ (z 0)) (own ch (at_ (z 0))) (ix3 (⟨(z 0).val % 512, by omega⟩ : Fin 512) (z 1) (z 2))
  rw [ea]
  exact congrArg _ ey.symm

/-- Every row of a tile in use holds the tile's result. -/
theorem result (i : AO.Idx) (hi : (i 0).val < 512 * ch.tiles) : (dats ch m ρ 0 c).arrAt (7 : Fin 8) (cfgA ch).N i = G ch m c i := by
  have hl := ch.tiles_le
  have hp := ch.tiles_pos
  have i0 : (i 0).val < 294912 := (i 0).isLt
  obtain ⟨n, hn, hmin, hf⟩ : ∃ n, n < 576 ∧ min n (ch.tiles - 1) = (i 0).val / 512 ∧ (n + 1 < ch.tiles ∨ n = 575) := by
    by_cases h : (i 0).val / 512 + 1 < ch.tiles
    · exact ⟨(i 0).val / 512, by omega, by omega, .inl h⟩
    · exact ⟨575, by omega, by omega, .inr rfl⟩
  refine (dats ch m ρ 0 c).arrAt_apply_of_mem (7 : Fin 8) (G ch m c) (fun t _ => flushed_eq ch m ρ c t) (cfgA ch).N ⟨n, hn⟩ i hn ?_ ?_
  · rw [flush_7, decide_eq_true_eq]
    exact hf
  · obtain ⟨z, hz, z0, z1, z2⟩ := block_emb ch ⟨n, hn⟩ (ix3 (⟨(i 0).val % 512, by omega⟩ : Fin 512) (i 1) (i 2))
    have : i = z := by
      funext a; apply Fin.ext
      match a with
      | ⟨0, _⟩ =>
        have e0 : (z 0).val = 512 * min n (ch.tiles - 1) + (i 0).val % 512 := z0
        show (i 0).val = (z 0).val
        omega
      | ⟨1, _⟩ => exact z1.symm
      | ⟨2, _⟩ => exact z2.symm
    rw [this, hz]
    exact View.emb_mem_set _ _

end Cert.Proof.ExpertsValue
-- ==== Proof.Slots.lean ====
/- The precondition on the table of slots, read word by word, and the mask of the tiles in use, read row by row. -/
module

public import proofs.«01_k».proof.Pre_slots_in_range
public import proofs.«01_k».proof.On_tiles_in_use
public import proofs.«01_k».proof.Proof.Gen.Pre_slots_in_range
public import proofs.«01_k».proof.Proof.Gen.On_tiles_in_use
public import Idealize.ShloMosaic.Lib.ReduceAll
public import Idealize.ShloMosaic.Lib.Affine
public import Idealize.ShloMosaic.Lib.ValueIdx
public import Idealize.ShloMosaic.Lib.Pointwise

@[expose] public section

noncomputable section

namespace Cert.Proof.Slots

open Idealize.ShloMosaic

/-- A word that is at least zero, and below a small bound, as numbers with a sign: the same as a natural number. -/
theorem toNat_lt (x : BitVec 32) (n : ℕ) (h0 : 0 ≤ x.toInt) (h : x.toInt < n) : x.toNat < n := by
  have hx : x.toNat < 2 ^ 32 := x.isLt
  rw [BitVec.toInt_eq_toNat_cond] at h0 h
  split at h <;> omega

section
open Cert.Pre_slots_in_range

/-- What the precondition says of the table. -/
theorem in_range {F : FTy → Type} [FloatOps F] (T : IVec S2x576 32) (a1 a2 a3 a4 a5 a6 a7)
    (h : Cert.Pre_slots_in_range.fn (F := F) T a1 a2 a3 a4 a5 a6 a7 = fun _ => 1#1) :
    (∀ j : Fin 576, (T (ValueIdx.ix2 (0 : Fin 2) j)).toNat < 64)
      ∧ 1 ≤ (T (ValueIdx.ix2 (1 : Fin 2) (0 : Fin 576))).toNat ∧ (T (ValueIdx.ix2 (1 : Fin 2) (0 : Fin 576))).toNat ≤ 576 := by
  have e := congrFun h (fun a : Fin 0 => a.elim0)
  dsimp only [fn] at e
  obtain ⟨e1, e16⟩ := IntOp.andi_eq_one.1 e
  obtain ⟨e9, e12⟩ := IntOp.andi_eq_one.1 e1
  have word : ∀ (i : S_.Idx), shapeCast S_ (extractStridedSlice S1x1 ![1, 0] T Facts.slices_S2x576_S1x1_1_0) Facts.shapeCasts_S1x1_S_ i = T (ValueIdx.ix2 (1 : Fin 2) (0 : Fin 576)) := fun i => by
    rw [shapeCast_apply _ _ i (ValueIdx.ix2 (0 : Fin 1) (0 : Fin 1)) (by
      have := (S_.rowMajor i).isLt
      rw [Shape.rowMajor_val_two]
      have h1 : S_.numel = 1 := rfl
      show 0 * 1 + 0 = _
      omega)]
    refine congrArg T (funext fun a => Fin.ext ?_)
    match a with
    | ⟨0, _⟩ => rfl
    | ⟨1, _⟩ => rfl
  have one : (1#32 : BitVec 32).toInt = 1 := by decide
  have top : (576#32 : BitVec 32).toInt = 576 := by decide
  have lo : (1#32 : BitVec 32).toInt ≤ (T (ValueIdx.ix2 (1 : Fin 2) (0 : Fin 576))).toInt := by
    have := IntOp.cmpi_sge.1 e12
    rwa [word] at this
  have hi : (T (ValueIdx.ix2 (1 : Fin 2) (0 : Fin 576))).toInt ≤ (576#32 : BitVec 32).toInt := by
    have := IntOp.cmpi_sle.1 e16
    rwa [word] at this
  rw [one] at lo; rw [top] at hi
  have ht := toNat_lt _ 577 (by omega) (by omega : (T (ValueIdx.ix2 (1 : Fin 2) (0 : Fin 576))).toInt < (577 : ℕ))
  refine ⟨fun j => ?_, ?_, by omega⟩
  · have hs : Subsingleton S_.Idx := ⟨fun a b => funext fun x => x.elim0⟩
    have ej := Host.reduce_andi_all _ _ _ _ _ e9 (ValueIdx.ix1 j)
    obtain ⟨g, l⟩ := IntOp.andi_eq_one.1 ej
    have wj : shapeCast S576 (extractStridedSlice S1x576 ![0, 0] T Facts.slices_S2x576_S1x576_0_0) Facts.shapeCasts_S1x576_S576 (ValueIdx.ix1 j) = T (ValueIdx.ix2 (0 : Fin 2) j) := by
      rw [shapeCast_apply _ _ (ValueIdx.ix1 j) (ValueIdx.ix2 (0 : Fin 1) j) (by
        rw [Shape.rowMajor_val_two, Shape.rowMajor_val_one]
        show 0 * 576 + j.val = j.val
        omega)]
      refine congrArg T (funext fun a => Fin.ext ?_)
      match a with
      | ⟨0, _⟩ => rfl
      | ⟨1, _⟩ => show 0 + j.val = j.val; omega
    have g' : (0#32 : BitVec 32).toInt ≤ (T (ValueIdx.ix2 (0 : Fin 2) j)).toInt := by
      have := IntOp.cmpi_sge.1 g
      rwa [wj] at this
    have l' : (T (ValueIdx.ix2 (0 : Fin 2) j)).toInt < (64#32 : BitVec 32).toInt := by
      have := IntOp.cmpi_slt.1 l
      rwa [wj] at this
    have z : (0#32 : BitVec 32).toInt = 0 := by decide
    have s : (64#32 : BitVec 32).toInt = 64 := by decide
    rw [z] at g'; rw [s] at l'
    exact toNat_lt _ 64 g' l'
  · have := BitVec.toInt_eq_toNat_of_lt (x := T (ValueIdx.ix2 (1 : Fin 2) (0 : Fin 576))) (by omega)
    omega

end

section
open Cert.On_tiles_in_use

/-- The mask: the rows of the tiles in use. -/
theorem in_use {F : FTy → Type} [FloatOps F] (T : IVec S2x576 32) (a1 a2 a3 a4 a5 a6 a7)
    (hT : (T (ValueIdx.ix2 (1 : Fin 2) (0 : Fin 576))).toNat ≤ 576) (i : S294912x16x128.Idx)
    (h : Cert.On_tiles_in_use.fn (F := F) T a1 a2 a3 a4 a5 a6 a7 i = 1#1) :
    (i 0).val < 512 * (T (ValueIdx.ix2 (1 : Fin 2) (0 : Fin 576))).toNat := by
  dsimp only [fn] at h
  have e := IntOp.cmpi_slt.1 h
  have word : ∀ (i : S_.Idx), shapeCast S_ (extractStridedSlice S1x1 ![1, 0] T Facts.slices_S2x576_S1x1_1_0) Facts.shapeCasts_S1x1_S_ i = T (ValueIdx.ix2 (1 : Fin 2) (0 : Fin 576)) := fun i => by
    rw [shapeCast_apply _ _ i (ValueIdx.ix2 (0 : Fin 1) (0 : Fin 1)) (by
      have := (S_.rowMajor i).isLt
      rw [Shape.rowMajor_val_two]
      have h1 : S_.numel = 1 := rfl
      show 0 * 1 + 0 = _
      omega)]
    refine congrArg T (funext fun a => Fin.ext ?_)
    match a with
    | ⟨0, _⟩ => rfl
    | ⟨1, _⟩ => rfl
  have hi : (i 0).val < 294912 := (i 0).isLt
  have e2 : (BitVec.ofNat 32 (i 0).val).toInt < (512#32 * T (ValueIdx.ix2 (1 : Fin 2) (0 : Fin 576))).toInt := by
    have e3 : (BitVec.ofNat 32 (i 0).val).toInt < (512#32 * shapeCast S_ (extractStridedSlice S1x1 ![1, 0] T Facts.slices_S2x576_S1x1_1_0) Facts.shapeCasts_S1x1_S_ _).toInt := e
    rwa [word] at e3
  have n1 : (BitVec.ofNat 32 (i 0).val).toNat = (i 0).val := by
    rw [BitVec.toNat_ofNat]; exact Nat.mod_eq_of_lt (by omega)
  have n2 : (512#32 * T (ValueIdx.ix2 (1 : Fin 2) (0 : Fin 576))).toNat = 512 * (T (ValueIdx.ix2 (1 : Fin 2) (0 : Fin 576))).toNat := by
    rw [BitVec.toNat_mul]; exact Nat.mod_eq_of_lt (by show 512 * _ < _; omega)
  rw [BitVec.toInt_eq_toNat_of_lt (by omega), BitVec.toInt_eq_toNat_of_lt (by omega), n1, n2] at e2
  omega

end

end Cert.Proof.Slots

end
-- ==== Proof.ExpertsClaim.lean ====
module
public import proofs.«01_k».proof.Proof.ExpEq
public import proofs.«01_k».proof.Proof.ExpertsFrame
public import proofs.«01_k».proof.Proof.ExpertsValue
public import proofs.«01_k».proof.Proof.Slots
public import proofs.«01_k».proof.Proof.Gen.ExpertsReferenceIdeal.Frame
public import proofs.«01_k».proof.Defs
@[expose] public section

set_option maxRecDepth 65536
noncomputable section

/-! The claims about the routed experts: a table in range from the precondition, the two frames, and the result row by row. -/
namespace Cert.Proof.ExpertsClaim

open Idealize.ShloMosaic Idealize.ShloMosaic.ValueIdx Idealize.ShloMosaic.TcCoe Idealize.SL.Sem

/-- The precondition gives a table in range, for the kernel as printed. -/
theorem pinned (m : (ℓ : Loc Cert.Experts.nD Cert.Experts.τ Cert.Experts.sig) → Buf (Elt Bits) ℓ) (h : Cert.Pre_Experts m) :
    ∃ ch : Cert.Experts.Any.Tabs, Cert.Experts.Any.Pinned ch m := by
  obtain ⟨h1, h2, h3⟩ := Slots.in_range _ _ _ _ _ _ _ _ (h (0 : Fin 1))
  exact ⟨⟨_, h1, h2, h3⟩, fun c => by
    obtain rfl : c = (0 : Fin 1) := Subsingleton.elim (α := Fin 1) _ _
    rfl⟩

/-- The same for the exact kernel. -/
theorem pinned_ideal (m : (ℓ : Loc Cert.ExpertsIdeal.nD Cert.ExpertsIdeal.τ Cert.ExpertsIdeal.sig) → Buf (Elt Ideal) ℓ) (h : Cert.Pre_ExpertsIdeal m) :
    ∃ ch : Cert.ExpertsIdeal.Any.Tabs, Cert.ExpertsIdeal.Any.Pinned ch m := by
  obtain ⟨h1, h2, h3⟩ := Slots.in_range _ _ _ _ _ _ _ _ (h (0 : Fin 1))
  exact ⟨⟨_, h1, h2, h3⟩, fun c => by
    obtain rfl : c = (0 : Fin 1) := Subsingleton.elim (α := Fin 1) _ _
    rfl⟩

theorem frame : Cert.quiescent_Experts := fun m ρ h =>
  (pinned m h).elim fun ch hp => Cert.Experts.Any.frame ch m ρ hp

theorem frame_ideal : Cert.quiescent_ExpertsIdeal := fun m ρ h =>
  (pinned_ideal m h).elim fun ch hp => Cert.ExpertsIdeal.Any.frame ch m ρ hp

section
open Cert.ExpertsIdeal Cert.ExpertsIdeal.Any
variable (ch : Tabs) (m : (ℓ : Loc nD τ sig) → Buf (Elt Ideal) ℓ) (c : Dev nD)

/-- A row of the reference, computed from the kernel's arguments, is the kernel's. -/
theorem reference_eq (hp : Pinned ch m) (i : (⟨3, ![294912, 16, 128]⟩ : Shape).Idx) :
    ExpRefRun.P (ExpRefRun.unpacked (m ((c : Thread nD τ).loc main_arg1))) (ExpRefRun.owners (m ((c : Thread nD τ).loc main_arg0))) (m ((c : Thread nD τ).loc main_arg2))
        (m ((c : Thread nD τ).loc main_arg4)) (m ((c : Thread nD τ).loc main_arg6)) (m ((c : Thread nD τ).loc main_arg3)) (m ((c : Thread nD τ).loc main_arg5)) (m ((c : Thread nD τ).loc main_arg7)) i
      = ExpertsValue.G ch m c i := by
  refine ExpEq.reference_eq (m ((c : Thread nD τ).loc main_arg1)) (m ((c : Thread nD τ).loc main_arg2)) (m ((c : Thread nD τ).loc main_arg4)) (m ((c : Thread nD τ).loc main_arg6))
    (m ((c : Thread nD τ).loc main_arg3)) (m ((c : Thread nD τ).loc main_arg5)) (m ((c : Thread nD τ).loc main_arg7)) (m ((c : Thread nD τ).loc main_arg0)) (ExpertsBlocks.own ch) (fun j => ?_) i
  rw [hp c]
  show ch.w (ValueIdx.ix2 0 j) = BitVec.ofNat 32 (ch.w (ValueIdx.ix2 0 j)).toNat
  rw [BitVec.ofNat_toNat, BitVec.setWidth_eq]

end

/-- In the tiles in use, the kernel and the reference leave the same result. -/
theorem experts : Cert.algebraic_ExpertsIdeal_ExpertsReferenceIdeal_on_tiles_in_use := by
  intro m g m' g' hpre hm
  obtain ⟨ch, hp⟩ := pinned_ideal m hpre
  refine ⟨fun c => ExpertsValue.G ch m c, ?_, ?_⟩
  · refine (θ_run _ _ _).mono (fun r h c => ⟨fun i hi => ?_, h.2 c⟩) (θ_run_and (Cert.ExpertsIdeal.Any.run_main ch m g hp) (Cert.ExpertsIdeal.Any.unchanged ch m g hp))
    refine (congrFun ((h.1 c).1 (7 : Fin 8)) i).trans (ExpertsValue.result ch m g c i ?_)
    rw [hp c] at hi
    exact Slots.in_use _ _ _ _ _ _ _ _ ch.tiles_le i hi
  · refine (θ_run _ _ _).mono (fun r h c => ?_) (Cert.ExpertsReferenceIdeal.Value.run_blocks m' g')
    obtain ⟨h8, hk⟩ := h c
    refine ⟨fun i _ => ?_, hk⟩
    rw [h8, ExpRefRun.final]
    obtain ⟨e0, e1, e2, e3, e4, e5, e6, e7⟩ := hm c
    show ExpRefRun.P _ _ _ _ _ _ _ _ i = _
    rw [e0, e1, e2, e3, e4, e5, e6, e7]
    exact reference_eq ch m c hp i

end Cert.Proof.ExpertsClaim
-- ==== Proof.lean ====
module

public import proofs.«01_k».proof.Proof.Gen.SharedUpIdeal.Value
public import proofs.«01_k».proof.Proof.Gen.SharedUpReferenceIdeal.Value
public import proofs.«01_k».proof.Proof.UpEq
public import proofs.«01_k».proof.Proof.ExpertsClaim
public import proofs.«01_k».proof.Defs
public import proofs.«01_k».proof.Proof.Gen.SharedUp
public import proofs.«01_k».proof.Proof.Gen.SharedUp.Skeleton
public import proofs.«01_k».proof.Proof.Gen.SharedUp.Loops
public import proofs.«01_k».proof.Proof.Gen.SharedUp.Launch
public import proofs.«01_k».proof.Proof.Gen.SharedUp.Points
public import proofs.«01_k».proof.Proof.Gen.SharedUp.Frame
public import proofs.«01_k».proof.Proof.Gen.SharedUpIdeal
public import proofs.«01_k».proof.Proof.Gen.SharedUpIdeal.Skeleton
public import proofs.«01_k».proof.Proof.Gen.SharedUpIdeal.Loops
public import proofs.«01_k».proof.Proof.Gen.SharedUpIdeal.Launch
public import proofs.«01_k».proof.Proof.Gen.SharedUpIdeal.Points
public import proofs.«01_k».proof.Proof.Gen.SharedUpIdeal.Frame
public import proofs.«01_k».proof.Proof.Gen.SharedUpReferenceIdeal
public import proofs.«01_k».proof.Proof.Gen.SharedUpReferenceIdeal.Skeleton
public import proofs.«01_k».proof.Proof.Gen.SharedUpReferenceIdeal.Launch
public import proofs.«01_k».proof.Proof.Gen.SharedUpReferenceIdeal.Points
public import proofs.«01_k».proof.Proof.Gen.SharedUpReferenceIdeal.Frame
public import Idealize.ShloMosaic.Adequacy
public import Idealize.ShloMosaic.Init

@[expose] public section

noncomputable section

namespace Cert.Proof

open Idealize.ShloMosaic Idealize.SL.Sem Cert.SharedUp

/-- The kernel and the reference leave the same codes and scales. -/
theorem shared_up : Cert.algebraic_SharedUpIdeal_SharedUpReferenceIdeal := by
  intro m g m' g' _ hm
  refine ⟨fun c => Cert.SharedUpIdeal.Value.G6 m c, fun c => Cert.SharedUpIdeal.Value.G7 m c, Cert.SharedUpIdeal.Value.run m g, ?_⟩
  refine (θ_run _ _ _).mono (fun r h c => ?_) (Cert.SharedUpReferenceIdeal.Value.run m' g')
  obtain ⟨h6, h7, hk⟩ := h c
  obtain ⟨e0, e1, e2, e3, e4, e5⟩ := hm c
  refine ⟨h6.trans ?_, h7.trans ?_, hk⟩
  · rw [e0, e1, e2, e3, e4, e5]
    exact (UpEq.codes m c).symm
  · rw [e0, e1, e2, e3, e4, e5]
    exact (UpEq.scales m c).symm

theorem claim : Cert.Claim := ⟨Cert.SharedUp.Gen.facts, Cert.SharedUpIdeal.Gen.facts, Cert.SharedUpReferenceIdeal.Gen.facts,
  Cert.Experts.Gen.facts, Cert.ExpertsIdeal.Gen.facts, Cert.ExpertsReferenceIdeal.Gen.facts, Cert.Pre_slots_in_range.Gen.facts, Cert.On_tiles_in_use.Gen.facts,
  fun m ρ _ => Cert.SharedUp.Gen.frame m ρ, fun m ρ _ => Cert.SharedUpIdeal.Gen.frame m ρ, fun m ρ _ => Cert.SharedUpReferenceIdeal.Gen.frame m ρ,
  ExpertsClaim.frame, ExpertsClaim.frame_ideal, fun m ρ _ => Cert.ExpertsReferenceIdeal.Gen.frame m ρ, fun m ρ _ => Cert.ExpertsReferenceIdeal.Gen.frame m ρ,
  trivial, shared_up, trivial, ExpertsClaim.experts⟩

end Cert.Proof

end
